-- ==== Defs.lean ====
def Pre_Kernel [hPre_in_grid : Cert.Pre_in_grid.Facts] (m : (ℓ : Loc Cert.Kernel.nD Cert.Kernel.τ Cert.Kernel.sig) → Buf (Elt Bits) ℓ) : Prop :=
  ∀ c : Dev Cert.Kernel.nD,
    (Cert.Pre_in_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid [hPre_in_grid : Cert.Pre_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_grid : Cert.Pre_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_grid [hReferenceIdeal : Cert.ReferenceIdeal.Facts] [hPre_in_grid : Cert.Pre_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_grid : Cert.Pre_in_grid.Facts),
    quiescent_Kernel (hKernel := hKernel) (hPre_in_grid := hPre_in_grid)
    ∧ quiescent_KernelIdeal (hKernelIdeal := hKernelIdeal) (hPre_in_grid := hPre_in_grid)
    ∧ quiescent_ReferenceIdeal (hReferenceIdeal := hReferenceIdeal)
    ∧ quiescent_ReferenceIdeal_pre_in_grid (hReferenceIdeal := hReferenceIdeal) (hPre_in_grid := hPre_in_grid)
    ∧ preserves_Kernel_KernelIdeal
    ∧ algebraic_KernelIdeal_ReferenceIdeal (hKernelIdeal := hKernelIdeal) (hReferenceIdeal := hReferenceIdeal) (hPre_in_grid := hPre_in_grid)
-- ==== Pre_in_grid.lean ====
abbrev S2097152x2 : Shape := ⟨2, ![2097152, 2]⟩
abbrev S16x524288x2 : Shape := ⟨3, ![16, 524288, 2]⟩
abbrev S32x128 : Shape := ⟨2, ![32, 128]⟩
abbrev S7x128x128 : Shape := ⟨3, ![7, 128, 128]⟩
abbrev S128x3 : Shape := ⟨2, ![128, 3]⟩
abbrev S_ : Shape := ⟨0, ![]⟩

class Facts : Prop where
  bcast_S_S2097152x2 : S_.BroadcastsInDim S2097152x2 (![] : Fin 0 → Fin S2097152x2.rank)

variable [Facts]

def fn_part4 {F : FTy → Type} [FloatOps F] (main_v67 : IVec S2097152x2 1) (main_v69 : IVec S2097152x2 1) : IVec S2097152x2 1 :=
  let main_v70 : IVec S2097152x2 1 := andi main_v67 main_v69
  main_v70

def fn_part3 {F : FTy → Type} [FloatOps F] (main_arg0 : FVec F S2097152x2 .f32) (main_v48 : IVec S2097152x2 1) (main_v50 : FVec F S2097152x2 .f32) (main_v51 : FVec F S2097152x2 .f32) : IVec S2097152x2 1 :=
  let main_v52 : FVec F S2097152x2 .f32 := addf main_v50 main_v51
  let main_v53 : IVec S2097152x2 32 := fptosi 32 main_v52
  let main_c_18 : IVec S_ 32 := constantI S_ 32 0#32
  let main_v54 : IVec S2097152x2 32 := broadcastInDim S2097152x2 ![] bcast_S_S2097152x2 main_c_18
  let main_v55 : IVec S2097152x2 1 := cmpi .sge main_v53 main_v54
  let main_v56 : IVec S2097152x2 1 := andi main_v48 main_v55
  let main_c_19 : IVec S_ 32 := constantI S_ 32 255#32
  let main_v57 : IVec S2097152x2 32 := broadcastInDim S2097152x2 ![] bcast_S_S2097152x2 main_c_19
  let main_v58 : IVec S2097152x2 1 := cmpi .sle main_v53 main_v57
  let main_v59 : IVec S2097152x2 1 := andi main_v56 main_v58
  let main_cst_20 : FVec F S_ .f32 := constant S_ .f32 0x43FF8000#32
  let main_v60 : FVec F S2097152x2 .f32 := broadcastInDim S2097152x2 ![] bcast_S_S2097152x2 main_cst_20
  let main_v61 : FVec F S2097152x2 .f32 := mulf main_arg0 main_v60
  let main_cst_21 : FVec F S_ .f32 := constant S_ .f32 0x3F000000#32
  let main_v62 : FVec F S2097152x2 .f32 := broadcastInDim S2097152x2 ![] bcast_S_S2097152x2 main_cst_21
  let main_v63 : FVec F S2097152x2 .f32 := addf main_v61 main_v62
  let main_v64 : IVec S2097152x2 32 := fptosi 32 main_v63
  let main_c_22 : IVec S_ 32 := constantI S_ 32 0#32
  let main_v65 : IVec S2097152x2 32 := broadcastInDim S2097152x2 ![] bcast_S_S2097152x2 main_c_22
  let main_v66 : IVec S2097152x2 1 := cmpi .sge main_v64 main_v65
  let main_v67 : IVec S2097152x2 1 := andi main_v59 main_v66
  let main_c_23 : IVec S_ 32 := constantI S_ 32 511#32
  let main_v68 : IVec S2097152x2 32 := broadcastInDim S2097152x2 ![] bcast_S_S2097152x2 main_c_23
  let main_v69 : IVec S2097152x2 1 := cmpi .sle main_v64 main_v68
  fn_part4 (F := F) main_v67 main_v69

def fn_part2 {F : FTy → Type} [FloatOps F] (main_arg0 : FVec F S2097152x2 .f32) (main_v31 : IVec S2097152x2 32) (main_v34 : IVec S2097152x2 1) : IVec S2097152x2 1 :=
  let main_c_11 : IVec S_ 32 := constantI S_ 32 63#32
  let main_v35 : IVec S2097152x2 32 := broadcastInDim S2097152x2 ![] bcast_S_S2097152x2 main_c_11
  let main_v36 : IVec S2097152x2 1 := cmpi .sle main_v31 main_v35
  let main_v37 : IVec S2097152x2 1 := andi main_v34 main_v36
  let main_cst_12 : FVec F S_ .f32 := constant S_ .f32 0x42FE0000#32
  let main_v38 : FVec F S2097152x2 .f32 := broadcastInDim S2097152x2 ![] bcast_S_S2097152x2 main_cst_12
  let main_v39 : FVec F S2097152x2 .f32 := mulf main_arg0 main_v38
  let main_cst_13 : FVec F S_ .f32 := constant S_ .f32 0x3F000000#32
  let main_v40 : FVec F S2097152x2 .f32 := broadcastInDim S2097152x2 ![] bcast_S_S2097152x2 main_cst_13
  let main_v41 : FVec F S2097152x2 .f32 := addf main_v39 main_v40
  let main_v42 : IVec S2097152x2 32 := fptosi 32 main_v41
  let main_c_14 : IVec S_ 32 := constantI S_ 32 0#32
  let main_v43 : IVec S2097152x2 32 := broadcastInDim S2097152x2 ![] bcast_S_S2097152x2 main_c_14
  let main_v44 : IVec S2097152x2 1 := cmpi .sge main_v42 main_v43
  let main_v45 : IVec S2097152x2 1 := andi main_v37 main_v44
  let main_c_15 : IVec S_ 32 := constantI S_ 32 127#32
  let main_v46 : IVec S2097152x2 32 := broadcastInDim S2097152x2 ![] bcast_S_S2097152x2 main_c_15
  let main_v47 : IVec S2097152x2 1 := cmpi .sle main_v42 main_v46
  let main_v48 : IVec S2097152x2 1 := andi main_v45 main_v47
  let main_cst_16 : FVec F S_ .f32 := constant S_ .f32 0x437F0000#32
  let main_v49 : FVec F S2097152x2 .f32 := broadcastInDim S2097152x2 ![] bcast_S_S2097152x2 main_cst_16
  let main_v50 : FVec F S2097152x2 .f32 := mulf main_arg0 main_v49
  let main_cst_17 : FVec F S_ .f32 := constant S_ .f32 0x3F000000#32
  let main_v51 : FVec F S2097152x2 .f32 := broadcastInDim S2097152x2 ![] bcast_S_S2097152x2 main_cst_17
  fn_part3 (F := F) main_arg0 main_v48 main_v50 main_v51

def fn_part1 {F : FTy → Type} [FloatOps F] (main_arg0 : FVec F S2097152x2 .f32) (main_v15 : IVec S2097152x2 1) (main_v16 : FVec F S2097152x2 .f32) : IVec S2097152x2 1 :=
  let main_v17 : FVec F S2097152x2 .f32 := mulf main_arg0 main_v16
  let main_cst_5 : FVec F S_ .f32 := constant S_ .f32 0x3F000000#32
  let main_v18 : FVec F S2097152x2 .f32 := broadcastInDim S2097152x2 ![] bcast_S_S2097152x2 main_cst_5
  let main_v19 : FVec F S2097152x2 .f32 := addf main_v17 main_v18
  let main_v20 : IVec S2097152x2 32 := fptosi 32 main_v19
  let main_c_6 : IVec S_ 32 := constantI S_ 32 0#32
  let main_v21 : IVec S2097152x2 32 := broadcastInDim S2097152x2 ![] bcast_S_S2097152x2 main_c_6
  let main_v22 : IVec S2097152x2 1 := cmpi .sge main_v20 main_v21
  let main_v23 : IVec S2097152x2 1 := andi main_v15 main_v22
  let main_c_7 : IVec S_ 32 := constantI S_ 32 31#32
  let main_v24 : IVec S2097152x2 32 := broadcastInDim S2097152x2 ![] bcast_S_S2097152x2 main_c_7
  let main_v25 : IVec S2097152x2 1 := cmpi .sle main_v20 main_v24
  let main_v26 : IVec S2097152x2 1 := andi main_v23 main_v25
  let main_cst_8 : FVec F S_ .f32 := constant S_ .f32 0x427C0000#32
  let main_v27 : FVec F S2097152x2 .f32 := broadcastInDim S2097152x2 ![] bcast_S_S2097152x2 main_cst_8
  let main_v28 : FVec F S2097152x2 .f32 := mulf main_arg0 main_v27
  let main_cst_9 : FVec F S_ .f32 := constant S_ .f32 0x3F000000#32
  let main_v29 : FVec F S2097152x2 .f32 := broadcastInDim S2097152x2 ![] bcast_S_S2097152x2 main_cst_9
  let main_v30 : FVec F S2097152x2 .f32 := addf main_v28 main_v29
  let main_v31 : IVec S2097152x2 32 := fptosi 32 main_v30
  let main_c_10 : IVec S_ 32 := constantI S_ 32 0#32
  let main_v32 : IVec S2097152x2 32 := broadcastInDim S2097152x2 ![] bcast_S_S2097152x2 main_c_10
  let main_v33 : IVec S2097152x2 1 := cmpi .sge main_v31 main_v32
  let main_v34 : IVec S2097152x2 1 := andi main_v26 main_v33
  fn_part2 (F := F) main_arg0 main_v31 main_v34

def fn {F : FTy → Type} [FloatOps F] (main_arg0 : FVec F S2097152x2 .f32) (main_arg1 : FVec F S16x524288x2 .f32) (main_arg2 : FVec F S32x128 .f32) (main_arg3 : FVec F S7x128x128 .f32) (main_arg4 : FVec F S128x3 .f32) : IVec S2097152x2 1 :=
  let main_cst : FVec F S_ .f32 := constant S_ .f32 0x00000000#32
  let main_v0 : FVec F S2097152x2 .f32 := broadcastInDim S2097152x2 ![] bcast_S_S2097152x2 main_cst
  let main_v1 : IVec S2097152x2 1 := cmpf .oge main_arg0 main_v0
  let main_cst_0 : FVec F S_ .f32 := constant S_ .f32 0x3F800000#32
  let main_v2 : FVec F S2097152x2 .f32 := broadcastInDim S2097152x2 ![] bcast_S_S2097152x2 main_cst_0
  let main_v3 : IVec S2097152x2 1 := cmpf .olt main_arg0 main_v2
  let main_v4 : IVec S2097152x2 1 := andi main_v1 main_v3
  let main_cst_1 : FVec F S_ .f32 := constant S_ .f32 0x41700000#32
  let main_v5 : FVec F S2097152x2 .f32 := broadcastInDim S2097152x2 ![] bcast_S_S2097152x2 main_cst_1
  let main_v6 : FVec F S2097152x2 .f32 := mulf main_arg0 main_v5
  let main_cst_2 : FVec F S_ .f32 := constant S_ .f32 0x3F000000#32
  let main_v7 : FVec F S2097152x2 .f32 := broadcastInDim S2097152x2 ![] bcast_S_S2097152x2 main_cst_2
  let main_v8 : FVec F S2097152x2 .f32 := addf main_v6 main_v7
  let main_v9 : IVec S2097152x2 32 := fptosi 32 main_v8
  let main_c : IVec S_ 32 := constantI S_ 32 0#32
  let main_v10 : IVec S2097152x2 32 := broadcastInDim S2097152x2 ![] bcast_S_S2097152x2 main_c
  let main_v11 : IVec S2097152x2 1 := cmpi .sge main_v9 main_v10
  let main_v12 : IVec S2097152x2 1 := andi main_v4 main_v11
  let main_c_3 : IVec S_ 32 := constantI S_ 32 15#32
  let main_v13 : IVec S2097152x2 32 := broadcastInDim S2097152x2 ![] bcast_S_S2097152x2 main_c_3
  let main_v14 : IVec S2097152x2 1 := cmpi .sle main_v9 main_v13
  let main_v15 : IVec S2097152x2 1 := andi main_v12 main_v14
  let main_cst_4 : FVec F S_ .f32 := constant S_ .f32 0x41F80000#32
  let main_v16 : FVec F S2097152x2 .f32 := broadcastInDim S2097152x2 ![] bcast_S_S2097152x2 main_cst_4
  fn_part1 (F := F) main_arg0 main_v15 main_v16
-- ==== Kernel.lean ====
abbrev S2097152x2 : Shape := ⟨2, ![2097152, 2]⟩
abbrev S16x524288x2 : Shape := ⟨3, ![16, 524288, 2]⟩
abbrev S32x128 : Shape := ⟨2, ![32, 128]⟩
abbrev S7x128x128 : Shape := ⟨3, ![7, 128, 128]⟩
abbrev S128x3 : Shape := ⟨2, ![128, 3]⟩
abbrev S8x8 : Shape := ⟨2, ![8, 8]⟩
abbrev S1x256x2 : Shape := ⟨3, ![1, 256, 2]⟩
abbrev S256x2 : Shape := ⟨2, ![256, 2]⟩
abbrev S16x16x2 : Shape := ⟨3, ![16, 16, 2]⟩
abbrev S16x15x2 : Shape := ⟨3, ![16, 15, 2]⟩
abbrev S16x1x2 : Shape := ⟨3, ![16, 1, 2]⟩
abbrev S16x16x4 : Shape := ⟨3, ![16, 16, 4]⟩
abbrev S8x128 : Shape := ⟨2, ![8, 128]⟩
abbrev S1x1024x2 : Shape := ⟨3, ![1, 1024, 2]⟩
abbrev S1024x2 : Shape := ⟨2, ![1024, 2]⟩
abbrev S32x32x2 : Shape := ⟨3, ![32, 32, 2]⟩
abbrev S32x31x2 : Shape := ⟨3, ![32, 31, 2]⟩
abbrev S32x1x2 : Shape := ⟨3, ![32, 1, 2]⟩
abbrev S32x32x4 : Shape := ⟨3, ![32, 32, 4]⟩
abbrev S1x4096x2 : Shape := ⟨3, ![1, 4096, 2]⟩
abbrev S4096x2 : Shape := ⟨2, ![4096, 2]⟩
abbrev S64x64x2 : Shape := ⟨3, ![64, 64, 2]⟩
abbrev S64x63x2 : Shape := ⟨3, ![64, 63, 2]⟩
abbrev S64x1x2 : Shape := ⟨3, ![64, 1, 2]⟩
abbrev S64x64x4 : Shape := ⟨3, ![64, 64, 4]⟩
abbrev S128x128 : Shape := ⟨2, ![128, 128]⟩
abbrev S1x16384x2 : Shape := ⟨3, ![1, 16384, 2]⟩
abbrev S16384x2 : Shape := ⟨2, ![16384, 2]⟩
abbrev S128x128x2 : Shape := ⟨3, ![128, 128, 2]⟩
abbrev S128x127x2 : Shape := ⟨3, ![128, 127, 2]⟩
abbrev S128x1x2 : Shape := ⟨3, ![128, 1, 2]⟩
abbrev S128x128x4 : Shape := ⟨3, ![128, 128, 4]⟩
abbrev S512x128 : Shape := ⟨2, ![512, 128]⟩
abbrev S1x65536x2 : Shape := ⟨3, ![1, 65536, 2]⟩
abbrev S65536x2 : Shape := ⟨2, ![65536, 2]⟩
abbrev S256x256x2 : Shape := ⟨3, ![256, 256, 2]⟩
abbrev S256x255x2 : Shape := ⟨3, ![256, 255, 2]⟩
abbrev S256x1x2 : Shape := ⟨3, ![256, 1, 2]⟩
abbrev S256x256x4 : Shape := ⟨3, ![256, 256, 4]⟩
abbrev S2048x128 : Shape := ⟨2, ![2048, 128]⟩
abbrev S1x262144x2 : Shape := ⟨3, ![1, 262144, 2]⟩
abbrev S262144x2 : Shape := ⟨2, ![262144, 2]⟩
abbrev S512x512x2 : Shape := ⟨3, ![512, 512, 2]⟩
abbrev S512x511x2 : Shape := ⟨3, ![512, 511, 2]⟩
abbrev S512x1x2 : Shape := ⟨3, ![512, 1, 2]⟩
abbrev S512x512x4 : Shape := ⟨3, ![512, 512, 4]⟩
abbrev S8192x128 : Shape := ⟨2, ![8192, 128]⟩
abbrev S1x524288x2 : Shape := ⟨3, ![1, 524288, 2]⟩
abbrev S524288x2 : Shape := ⟨2, ![524288, 2]⟩
abbrev S92840x128 : Shape := ⟨2, ![92840, 128]⟩
abbrev S_ : Shape := ⟨0, ![]⟩
abbrev S92840x1x128 : Shape := ⟨3, ![92840, 1, 128]⟩
abbrev S2097152x1 : Shape := ⟨2, ![2097152, 1]⟩
abbrev S2097152 : Shape := ⟨1, ![2097152]⟩
abbrev S2048x128x8 : Shape := ⟨3, ![2048, 128, 8]⟩
abbrev S2048x8x128 : Shape := ⟨3, ![2048, 8, 128]⟩
abbrev S1x32x1x128 : Shape := ⟨4, ![1, 32, 1, 128]⟩
abbrev S8x1x8x1 : Shape := ⟨4, ![8, 1, 8, 1]⟩
abbrev S8x32x8x128 : Shape := ⟨4, ![8, 32, 8, 128]⟩
abbrev S8x256x128 : Shape := ⟨3, ![8, 256, 128]⟩
abbrev S128x8 : Shape := ⟨2, ![128, 8]⟩
abbrev S2048x128x64 : Shape := ⟨3, ![2048, 128, 64]⟩
abbrev S1x8x128 : Shape := ⟨3, ![1, 8, 128]⟩
abbrev S1x128x64 : Shape := ⟨3, ![1, 128, 64]⟩
abbrev S2x4x8x128 : Shape := ⟨4, ![2, 4, 8, 128]⟩
abbrev S128x8x128 : Shape := ⟨3, ![128, 8, 128]⟩
abbrev S2 : Shape := ⟨1, ![2]⟩
abbrev S2x8x128 : Shape := ⟨3, ![2, 8, 128]⟩
abbrev S1x2x8x128 : Shape := ⟨4, ![1, 2, 8, 128]⟩
abbrev S1 : Shape := ⟨1, ![1]⟩
abbrev S1x1x1x1 : Shape := ⟨4, ![1, 1, 1, 1]⟩
abbrev S1x1x128 : Shape := ⟨3, ![1, 1, 128]⟩
abbrev S128 : Shape := ⟨1, ![128]⟩
abbrev S128x8x128x1 : Shape := ⟨4, ![128, 8, 128, 1]⟩
abbrev S64x8x128 : Shape := ⟨3, ![64, 8, 128]⟩
abbrev S8x128x1 : Shape := ⟨3, ![8, 128, 1]⟩
abbrev S4x8x128 : Shape := ⟨3, ![4, 8, 128]⟩
abbrev S1x4x8x128 : Shape := ⟨4, ![1, 4, 8, 128]⟩
abbrev S256x128 : Shape := ⟨2, ![256, 128]⟩
abbrev S1x256x128 : Shape := ⟨3, ![1, 256, 128]⟩
abbrev S1x128x128 : Shape := ⟨3, ![1, 128, 128]⟩
abbrev S1x128x8 : Shape := ⟨3, ![1, 128, 8]⟩
abbrev S2097152x8 : Shape := ⟨2, ![2097152, 8]⟩
abbrev S2097152x3 : Shape := ⟨2, ![2097152, 3]⟩

abbrev nBuf : Space → Nat
  | .hbm => 112
  | .vmem => 13
  | .smem => 1
  | _ => 0

abbrev bufTy : (tb : Table) → Fin (tcTables nBuf tb) → BufTy
  | .hbm, ⟨0, _⟩ => ⟨S2097152x2, .f32⟩
  | .hbm, ⟨1, _⟩ => ⟨S16x524288x2, .f32⟩
  | .hbm, ⟨2, _⟩ => ⟨S32x128, .f32⟩
  | .hbm, ⟨3, _⟩ => ⟨S7x128x128, .f32⟩
  | .hbm, ⟨4, _⟩ => ⟨S128x3, .f32⟩
  | .hbm, ⟨5, _⟩ => ⟨S8x8, .f32⟩
  | .hbm, ⟨6, _⟩ => ⟨S1x256x2, .f32⟩
  | .hbm, ⟨7, _⟩ => ⟨S256x2, .f32⟩
  | .hbm, ⟨8, _⟩ => ⟨S16x16x2, .f32⟩
  | .hbm, ⟨9, _⟩ => ⟨S16x15x2, .f32⟩
  | .hbm, ⟨10, _⟩ => ⟨S16x1x2, .f32⟩
  | .hbm, ⟨11, _⟩ => ⟨S16x16x2, .f32⟩
  | .hbm, ⟨12, _⟩ => ⟨S16x16x4, .f32⟩
  | .hbm, ⟨13, _⟩ => ⟨S8x128, .f32⟩
  | .hbm, ⟨14, _⟩ => ⟨S1x1024x2, .f32⟩
  | .hbm, ⟨15, _⟩ => ⟨S1024x2, .f32⟩
  | .hbm, ⟨16, _⟩ => ⟨S32x32x2, .f32⟩
  | .hbm, ⟨17, _⟩ => ⟨S32x31x2, .f32⟩
  | .hbm, ⟨18, _⟩ => ⟨S32x1x2, .f32⟩
  | .hbm, ⟨19, _⟩ => ⟨S32x32x2, .f32⟩
  | .hbm, ⟨20, _⟩ => ⟨S32x32x4, .f32⟩
  | .hbm, ⟨21, _⟩ => ⟨S32x128, .f32⟩
  | .hbm, ⟨22, _⟩ => ⟨S1x4096x2, .f32⟩
  | .hbm, ⟨23, _⟩ => ⟨S4096x2, .f32⟩
  | .hbm, ⟨24, _⟩ => ⟨S64x64x2, .f32⟩
  | .hbm, ⟨25, _⟩ => ⟨S64x63x2, .f32⟩
  | .hbm, ⟨26, _⟩ => ⟨S64x1x2, .f32⟩
  | .hbm, ⟨27, _⟩ => ⟨S64x64x2, .f32⟩
  | .hbm, ⟨28, _⟩ => ⟨S64x64x4, .f32⟩
  | .hbm, ⟨29, _⟩ => ⟨S128x128, .f32⟩
  | .hbm, ⟨30, _⟩ => ⟨S1x16384x2, .f32⟩
  | .hbm, ⟨31, _⟩ => ⟨S16384x2, .f32⟩
  | .hbm, ⟨32, _⟩ => ⟨S128x128x2, .f32⟩
  | .hbm, ⟨33, _⟩ => ⟨S128x127x2, .f32⟩
  | .hbm, ⟨34, _⟩ => ⟨S128x1x2, .f32⟩
  | .hbm, ⟨35, _⟩ => ⟨S128x128x2, .f32⟩
  | .hbm, ⟨36, _⟩ => ⟨S128x128x4, .f32⟩
  | .hbm, ⟨37, _⟩ => ⟨S512x128, .f32⟩
  | .hbm, ⟨38, _⟩ => ⟨S1x65536x2, .f32⟩
  | .hbm, ⟨39, _⟩ => ⟨S65536x2, .f32⟩
  | .hbm, ⟨40, _⟩ => ⟨S256x256x2, .f32⟩
  | .hbm, ⟨41, _⟩ => ⟨S256x255x2, .f32⟩
  | .hbm, ⟨42, _⟩ => ⟨S256x1x2, .f32⟩
  | .hbm, ⟨43, _⟩ => ⟨S256x256x2, .f32⟩
  | .hbm, ⟨44, _⟩ => ⟨S256x256x4, .f32⟩
  | .hbm, ⟨45, _⟩ => ⟨S2048x128, .f32⟩
  | .hbm, ⟨46, _⟩ => ⟨S1x262144x2, .f32⟩
  | .hbm, ⟨47, _⟩ => ⟨S262144x2, .f32⟩
  | .hbm, ⟨48, _⟩ => ⟨S512x512x2, .f32⟩
  | .hbm, ⟨49, _⟩ => ⟨S512x511x2, .f32⟩
  | .hbm, ⟨50, _⟩ => ⟨S512x1x2, .f32⟩
  | .hbm, ⟨51, _⟩ => ⟨S512x512x2, .f32⟩
  | .hbm, ⟨52, _⟩ => ⟨S512x512x4, .f32⟩
  | .hbm, ⟨53, _⟩ => ⟨S8192x128, .f32⟩
  | .hbm, ⟨54, _⟩ => ⟨S1x524288x2, .f32⟩
  | .hbm, ⟨55, _⟩ => ⟨S524288x2, .f32⟩
  | .hbm, ⟨56, _⟩ => ⟨S8192x128, .f32⟩
  | .hbm, ⟨57, _⟩ => ⟨S1x524288x2, .f32⟩
  | .hbm, ⟨58, _⟩ => ⟨S524288x2, .f32⟩
  | .hbm, ⟨59, _⟩ => ⟨S8192x128, .f32⟩
  | .hbm, ⟨60, _⟩ => ⟨S1x524288x2, .f32⟩
  | .hbm, ⟨61, _⟩ => ⟨S524288x2, .f32⟩
  | .hbm, ⟨62, _⟩ => ⟨S8192x128, .f32⟩
  | .hbm, ⟨63, _⟩ => ⟨S1x524288x2, .f32⟩
  | .hbm, ⟨64, _⟩ => ⟨S524288x2, .f32⟩
  | .hbm, ⟨65, _⟩ => ⟨S8192x128, .f32⟩
  | .hbm, ⟨66, _⟩ => ⟨S1x524288x2, .f32⟩
  | .hbm, ⟨67, _⟩ => ⟨S524288x2, .f32⟩
  | .hbm, ⟨68, _⟩ => ⟨S8192x128, .f32⟩
  | .hbm, ⟨69, _⟩ => ⟨S1x524288x2, .f32⟩
  | .hbm, ⟨70, _⟩ => ⟨S524288x2, .f32⟩
  | .hbm, ⟨71, _⟩ => ⟨S8192x128, .f32⟩
  | .hbm, ⟨72, _⟩ => ⟨S1x524288x2, .f32⟩
  | .hbm, ⟨73, _⟩ => ⟨S524288x2, .f32⟩
  | .hbm, ⟨74, _⟩ => ⟨S8192x128, .f32⟩
  | .hbm, ⟨75, _⟩ => ⟨S1x524288x2, .f32⟩
  | .hbm, ⟨76, _⟩ => ⟨S524288x2, .f32⟩
  | .hbm, ⟨77, _⟩ => ⟨S8192x128, .f32⟩
  | .hbm, ⟨78, _⟩ => ⟨S1x524288x2, .f32⟩
  | .hbm, ⟨79, _⟩ => ⟨S524288x2, .f32⟩
  | .hbm, ⟨80, _⟩ => ⟨S8192x128, .f32⟩
  | .hbm, ⟨81, _⟩ => ⟨S1x524288x2, .f32⟩
  | .hbm, ⟨82, _⟩ => ⟨S524288x2, .f32⟩
  | .hbm, ⟨83, _⟩ => ⟨S8192x128, .f32⟩
  | .hbm, ⟨84, _⟩ => ⟨S92840x128, .f32⟩
  | .hbm, ⟨85, _⟩ => ⟨S_, .i32⟩
  | .hbm, ⟨86, _⟩ => ⟨S_, .f32⟩
  | .hbm, ⟨87, _⟩ => ⟨S92840x128, .f32⟩
  | .hbm, ⟨88, _⟩ => ⟨S92840x1x128, .f32⟩
  | .hbm, ⟨89, _⟩ => ⟨S2097152x1, .f32⟩
  | .hbm, ⟨90, _⟩ => ⟨S2097152, .f32⟩
  | .hbm, ⟨91, _⟩ => ⟨S2048x128x8, .f32⟩
  | .hbm, ⟨92, _⟩ => ⟨S2048x8x128, .f32⟩
  | .hbm, ⟨93, _⟩ => ⟨S2097152x1, .f32⟩
  | .hbm, ⟨94, _⟩ => ⟨S2097152, .f32⟩
  | .hbm, ⟨95, _⟩ => ⟨S2048x128x8, .f32⟩
  | .hbm, ⟨96, _⟩ => ⟨S2048x8x128, .f32⟩
  | .hbm, ⟨97, _⟩ => ⟨S1x32x1x128, .f32⟩
  | .hbm, ⟨98, _⟩ => ⟨S8x1x8x1, .f32⟩
  | .hbm, ⟨99, _⟩ => ⟨S8x32x8x128, .f32⟩
  | .hbm, ⟨100, _⟩ => ⟨S8x32x8x128, .f32⟩
  | .hbm, ⟨101, _⟩ => ⟨S8x32x8x128, .f32⟩
  | .hbm, ⟨102, _⟩ => ⟨S8x256x128, .f32⟩
  | .hbm, ⟨103, _⟩ => ⟨S8x256x128, .bf16⟩
  | .hbm, ⟨104, _⟩ => ⟨S7x128x128, .bf16⟩
  | .hbm, ⟨105, _⟩ => ⟨S_, .i32⟩
  | .hbm, ⟨106, _⟩ => ⟨S_, .f32⟩
  | .hbm, ⟨107, _⟩ => ⟨S128x8, .f32⟩
  | .hbm, ⟨108, _⟩ => ⟨S128x8, .bf16⟩
  | .hbm, ⟨109, _⟩ => ⟨S2048x128x64, .f32⟩
  | .hbm, ⟨110, _⟩ => ⟨S2097152x8, .f32⟩
  | .hbm, ⟨111, _⟩ => ⟨S2097152x3, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S92840x1x128, .f32⟩
  | .local _ .vmem, ⟨5, _⟩ => ⟨S8x256x128, .bf16⟩
  | .local _ .vmem, ⟨6, _⟩ => ⟨S7x128x128, .bf16⟩
  | .local _ .vmem, ⟨7, _⟩ => ⟨S128x8, .bf16⟩
  | .local _ .vmem, ⟨8, _⟩ => ⟨S1x128x64, .f32⟩
  | .local _ .vmem, ⟨9, _⟩ => ⟨S1x128x64, .f32⟩
  | .local _ .vmem, ⟨10, _⟩ => ⟨S2x4x8x128, .i32⟩
  | .local _ .vmem, ⟨11, _⟩ => ⟨S128x8x128, .f32⟩
  | .local _ .vmem, ⟨12, _⟩ => ⟨S128x8x128, .f32⟩
  | .local _ .smem, ⟨0, _⟩ => ⟨S2x4x8x128, .i32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_c : Ref sig .tc := ⟨.hbm, 85, rfl⟩
abbrev main_call0_v0 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_c_0 : Ref sig .tc := ⟨.hbm, 105, rfl⟩
abbrev main_call1_v0 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2048], ![false]⟩

@[reducible] def k0_t1_loop : Scf.Loop 32 :=
  let c0_i32_78 : BitVec 32 := 0#32
  let c128_i32 : BitVec 32 := 128#32
  let v163 : BitVec 32 := Scalar.addi c0_i32_78 c128_i32
  let c1_i32_79 : BitVec 32 := 1#32
  ⟨c0_i32_78, v163, c1_i32_79⟩
@[reducible] def k0_t2_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off1 (k0_t1 : Fin k0_t1_loop.trips) (k0_t2 : Fin k0_t2_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t2
  let v7186 : Index := Scalar.indexCast arg14
  let c0_i32_78 : BitVec 32 := 0#32
  let c1_i32_79 : BitVec 32 := 1#32
  let arg13 : BitVec 32 := Scf.iv c0_i32_78 c1_i32_79 k0_t1
  let v7187 : Index := Scalar.indexCast arg13
  ![0, 0, v7186.toNat, v7187.toNat]
def k0_off2 (v7188 : BitVec 32) : Fin 3 → Nat :=
  let v7189 : Index := Scalar.indexCast v7188
  let c0_3062 : Index := 0#32
  let c0_3063 : Index := 0#32
  ![v7189.toNat, 0, 0]

def k0_chk1 (v7188 : BitVec 32) : Prop :=
  (∀ a, (k0_off2 v7188) a + S1x1x128.size a ≤ S92840x1x128.size a)
theorem k0_off2_inb : ∀ (v7188 : BitVec 32) (k0_hw1 : k0_chk1 v7188), ∀ a, (k0_off2 v7188) a + S1x1x128.size a ≤ S92840x1x128.size a := fun v7188 k0_hw1 => k0_hw1

def k0_off3 (k0_t1 : Fin k0_t1_loop.trips) (k0_t2 : Fin k0_t2_loop.trips) : Fin 3 → Nat :=
  let c0_i32_78 : BitVec 32 := 0#32
  let c1_i32_79 : BitVec 32 := 1#32
  let arg13 : BitVec 32 := Scf.iv c0_i32_78 c1_i32_79 k0_t1
  let v7192 : Index := Scalar.indexCast arg13
  let c0_i32_3056 : BitVec 32 := 0#32
  let c1_i32_3058 : BitVec 32 := 1#32
  let arg14 : BitVec 32 := Scf.iv c0_i32_3056 c1_i32_3058 k0_t2
  let v7193 : Index := Scalar.indexCast arg14
  let c0_3064 : Index := 0#32
  ![v7192.toNat, v7193.toNat, 0]
@[reducible] def k0_t3_loop : Scf.Loop 32 :=
  let c0_i32_129 : BitVec 32 := 0#32
  let c128_i32_130 : BitVec 32 := 128#32
  let v322 : BitVec 32 := Scalar.addi c0_i32_129 c128_i32_130
  let c1_i32_131 : BitVec 32 := 1#32
  ⟨c0_i32_129, v322, c1_i32_131⟩
@[reducible] def k0_t4_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off4 (k0_t3 : Fin k0_t3_loop.trips) (k0_t4 : Fin k0_t4_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t4
  let v7186 : Index := Scalar.indexCast arg14
  let c0_i32_129 : BitVec 32 := 0#32
  let c1_i32_131 : BitVec 32 := 1#32
  let arg13 : BitVec 32 := Scf.iv c0_i32_129 c1_i32_131 k0_t3
  let v7187 : Index := Scalar.indexCast arg13
  ![0, 1, v7186.toNat, v7187.toNat]
def k0_off5 (v7188 : BitVec 32) : Fin 3 → Nat :=
  let v7189 : Index := Scalar.indexCast v7188
  let c0_3062 : Index := 0#32
  let c0_3063 : Index := 0#32
  ![v7189.toNat, 0, 0]

def k0_chk2 (v7188 : BitVec 32) : Prop :=
  (∀ a, (k0_off5 v7188) a + S1x1x128.size a ≤ S92840x1x128.size a)
theorem k0_off5_inb : ∀ (v7188 : BitVec 32) (k0_hw2 : k0_chk2 v7188), ∀ a, (k0_off5 v7188) a + S1x1x128.size a ≤ S92840x1x128.size a := fun v7188 k0_hw2 => k0_hw2

def k0_off6 (k0_t3 : Fin k0_t3_loop.trips) (k0_t4 : Fin k0_t4_loop.trips) : Fin 3 → Nat :=
  let c0_i32_129 : BitVec 32 := 0#32
  let c1_i32_131 : BitVec 32 := 1#32
  let arg13 : BitVec 32 := Scf.iv c0_i32_129 c1_i32_131 k0_t3
  let v7192 : Index := Scalar.indexCast arg13
  let c0_i32_3056 : BitVec 32 := 0#32
  let c1_i32_3058 : BitVec 32 := 1#32
  let arg14 : BitVec 32 := Scf.iv c0_i32_3056 c1_i32_3058 k0_t4
  let v7193 : Index := Scalar.indexCast arg14
  let c0_3064 : Index := 0#32
  ![v7192.toNat, v7193.toNat, 0]
@[reducible] def k0_t5_loop : Scf.Loop 32 :=
  let c0_i32_229 : BitVec 32 := 0#32
  let c128_i32_230 : BitVec 32 := 128#32
  let v559 : BitVec 32 := Scalar.addi c0_i32_229 c128_i32_230
  let c1_i32_231 : BitVec 32 := 1#32
  ⟨c0_i32_229, v559, c1_i32_231⟩
@[reducible] def k0_t6_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off7 (k0_t5 : Fin k0_t5_loop.trips) (k0_t6 : Fin k0_t6_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t6
  let v7186 : Index := Scalar.indexCast arg14
  let c0_i32_229 : BitVec 32 := 0#32
  let c1_i32_231 : BitVec 32 := 1#32
  let arg13 : BitVec 32 := Scf.iv c0_i32_229 c1_i32_231 k0_t5
  let v7187 : Index := Scalar.indexCast arg13
  ![1, 0, v7186.toNat, v7187.toNat]
def k0_off8 (v7188 : BitVec 32) : Fin 3 → Nat :=
  let v7189 : Index := Scalar.indexCast v7188
  let c0_3062 : Index := 0#32
  let c0_3063 : Index := 0#32
  ![v7189.toNat, 0, 0]

def k0_chk3 (v7188 : BitVec 32) : Prop :=
  (∀ a, (k0_off8 v7188) a + S1x1x128.size a ≤ S92840x1x128.size a)
theorem k0_off8_inb : ∀ (v7188 : BitVec 32) (k0_hw3 : k0_chk3 v7188), ∀ a, (k0_off8 v7188) a + S1x1x128.size a ≤ S92840x1x128.size a := fun v7188 k0_hw3 => k0_hw3

def k0_off9 (k0_t5 : Fin k0_t5_loop.trips) (k0_t6 : Fin k0_t6_loop.trips) : Fin 3 → Nat :=
  let c0_i32_229 : BitVec 32 := 0#32
  let c1_i32_231 : BitVec 32 := 1#32
  let arg13 : BitVec 32 := Scf.iv c0_i32_229 c1_i32_231 k0_t5
  let v7192 : Index := Scalar.indexCast arg13
  let c0_i32_3056 : BitVec 32 := 0#32
  let c1_i32_3058 : BitVec 32 := 1#32
  let arg14 : BitVec 32 := Scf.iv c0_i32_3056 c1_i32_3058 k0_t6
  let v7193 : Index := Scalar.indexCast arg14
  let c0_3064 : Index := 0#32
  ![v7192.toNat, v7193.toNat, 0]
@[reducible] def k0_t7_loop : Scf.Loop 32 :=
  let c0_i32_283 : BitVec 32 := 0#32
  let c128_i32_284 : BitVec 32 := 128#32
  let v718 : BitVec 32 := Scalar.addi c0_i32_283 c128_i32_284
  let c1_i32_285 : BitVec 32 := 1#32
  ⟨c0_i32_283, v718, c1_i32_285⟩
@[reducible] def k0_t8_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off10 (k0_t7 : Fin k0_t7_loop.trips) (k0_t8 : Fin k0_t8_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t8
  let v7186 : Index := Scalar.indexCast arg14
  let c0_i32_283 : BitVec 32 := 0#32
  let c1_i32_285 : BitVec 32 := 1#32
  let arg13 : BitVec 32 := Scf.iv c0_i32_283 c1_i32_285 k0_t7
  let v7187 : Index := Scalar.indexCast arg13
  ![1, 1, v7186.toNat, v7187.toNat]
def k0_off11 (v7188 : BitVec 32) : Fin 3 → Nat :=
  let v7189 : Index := Scalar.indexCast v7188
  let c0_3062 : Index := 0#32
  let c0_3063 : Index := 0#32
  ![v7189.toNat, 0, 0]

def k0_chk4 (v7188 : BitVec 32) : Prop :=
  (∀ a, (k0_off11 v7188) a + S1x1x128.size a ≤ S92840x1x128.size a)
theorem k0_off11_inb : ∀ (v7188 : BitVec 32) (k0_hw4 : k0_chk4 v7188), ∀ a, (k0_off11 v7188) a + S1x1x128.size a ≤ S92840x1x128.size a := fun v7188 k0_hw4 => k0_hw4

def k0_off12 (k0_t7 : Fin k0_t7_loop.trips) (k0_t8 : Fin k0_t8_loop.trips) : Fin 3 → Nat :=
  let c0_i32_283 : BitVec 32 := 0#32
  let c1_i32_285 : BitVec 32 := 1#32
  let arg13 : BitVec 32 := Scf.iv c0_i32_283 c1_i32_285 k0_t7
  let v7192 : Index := Scalar.indexCast arg13
  let c0_i32_3056 : BitVec 32 := 0#32
  let c1_i32_3058 : BitVec 32 := 1#32
  let arg14 : BitVec 32 := Scf.iv c0_i32_3056 c1_i32_3058 k0_t8
  let v7193 : Index := Scalar.indexCast arg14
  let c0_3064 : Index := 0#32
  ![v7192.toNat, v7193.toNat, 0]
@[reducible] def k0_t9_loop : Scf.Loop 32 :=
  let c0_i32_383 : BitVec 32 := 0#32
  let c128_i32_384 : BitVec 32 := 128#32
  let v955 : BitVec 32 := Scalar.addi c0_i32_383 c128_i32_384
  let c1_i32_385 : BitVec 32 := 1#32
  ⟨c0_i32_383, v955, c1_i32_385⟩
@[reducible] def k0_t10_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off13 (k0_t9 : Fin k0_t9_loop.trips) (k0_t10 : Fin k0_t10_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t10
  let v7186 : Index := Scalar.indexCast arg14
  let c0_i32_383 : BitVec 32 := 0#32
  let c1_i32_385 : BitVec 32 := 1#32
  let arg13 : BitVec 32 := Scf.iv c0_i32_383 c1_i32_385 k0_t9
  let v7187 : Index := Scalar.indexCast arg13
  ![0, 0, v7186.toNat, v7187.toNat]
def k0_off14 (v7188 : BitVec 32) : Fin 3 → Nat :=
  let v7189 : Index := Scalar.indexCast v7188
  let c0_3062 : Index := 0#32
  let c0_3063 : Index := 0#32
  ![v7189.toNat, 0, 0]

def k0_chk5 (v7188 : BitVec 32) : Prop :=
  (∀ a, (k0_off14 v7188) a + S1x1x128.size a ≤ S92840x1x128.size a)
theorem k0_off14_inb : ∀ (v7188 : BitVec 32) (k0_hw5 : k0_chk5 v7188), ∀ a, (k0_off14 v7188) a + S1x1x128.size a ≤ S92840x1x128.size a := fun v7188 k0_hw5 => k0_hw5

def k0_off15 (k0_t9 : Fin k0_t9_loop.trips) (k0_t10 : Fin k0_t10_loop.trips) : Fin 3 → Nat :=
  let c0_i32_383 : BitVec 32 := 0#32
  let c1_i32_385 : BitVec 32 := 1#32
  let arg13 : BitVec 32 := Scf.iv c0_i32_383 c1_i32_385 k0_t9
  let v7192 : Index := Scalar.indexCast arg13
  let c0_i32_3056 : BitVec 32 := 0#32
  let c1_i32_3058 : BitVec 32 := 1#32
  let arg14 : BitVec 32 := Scf.iv c0_i32_3056 c1_i32_3058 k0_t10
  let v7193 : Index := Scalar.indexCast arg14
  let c0_3064 : Index := 0#32
  ![v7192.toNat, v7193.toNat, 0]
@[reducible] def k0_t11_loop : Scf.Loop 32 :=
  let c0_i32_437 : BitVec 32 := 0#32
  let c128_i32_438 : BitVec 32 := 128#32
  let v1114 : BitVec 32 := Scalar.addi c0_i32_437 c128_i32_438
  let c1_i32_439 : BitVec 32 := 1#32
  ⟨c0_i32_437, v1114, c1_i32_439⟩
@[reducible] def k0_t12_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off16 (k0_t11 : Fin k0_t11_loop.trips) (k0_t12 : Fin k0_t12_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t12
  let v7186 : Index := Scalar.indexCast arg14
  let c0_i32_437 : BitVec 32 := 0#32
  let c1_i32_439 : BitVec 32 := 1#32
  let arg13 : BitVec 32 := Scf.iv c0_i32_437 c1_i32_439 k0_t11
  let v7187 : Index := Scalar.indexCast arg13
  ![0, 1, v7186.toNat, v7187.toNat]
def k0_off17 (v7188 : BitVec 32) : Fin 3 → Nat :=
  let v7189 : Index := Scalar.indexCast v7188
  let c0_3062 : Index := 0#32
  let c0_3063 : Index := 0#32
  ![v7189.toNat, 0, 0]

def k0_chk6 (v7188 : BitVec 32) : Prop :=
  (∀ a, (k0_off17 v7188) a + S1x1x128.size a ≤ S92840x1x128.size a)
theorem k0_off17_inb : ∀ (v7188 : BitVec 32) (k0_hw6 : k0_chk6 v7188), ∀ a, (k0_off17 v7188) a + S1x1x128.size a ≤ S92840x1x128.size a := fun v7188 k0_hw6 => k0_hw6

def k0_off18 (k0_t11 : Fin k0_t11_loop.trips) (k0_t12 : Fin k0_t12_loop.trips) : Fin 3 → Nat :=
  let c0_i32_437 : BitVec 32 := 0#32
  let c1_i32_439 : BitVec 32 := 1#32
  let arg13 : BitVec 32 := Scf.iv c0_i32_437 c1_i32_439 k0_t11
  let v7192 : Index := Scalar.indexCast arg13
  let c0_i32_3056 : BitVec 32 := 0#32
  let c1_i32_3058 : BitVec 32 := 1#32
  let arg14 : BitVec 32 := Scf.iv c0_i32_3056 c1_i32_3058 k0_t12
  let v7193 : Index := Scalar.indexCast arg14
  let c0_3064 : Index := 0#32
  ![v7192.toNat, v7193.toNat, 0]
@[reducible] def k0_t13_loop : Scf.Loop 32 :=
  let c0_i32_535 : BitVec 32 := 0#32
  let c128_i32_536 : BitVec 32 := 128#32
  let v1351 : BitVec 32 := Scalar.addi c0_i32_535 c128_i32_536
  let c1_i32_537 : BitVec 32 := 1#32
  ⟨c0_i32_535, v1351, c1_i32_537⟩
@[reducible] def k0_t14_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off19 (k0_t13 : Fin k0_t13_loop.trips) (k0_t14 : Fin k0_t14_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t14
  let v7186 : Index := Scalar.indexCast arg14
  let c0_i32_535 : BitVec 32 := 0#32
  let c1_i32_537 : BitVec 32 := 1#32
  let arg13 : BitVec 32 := Scf.iv c0_i32_535 c1_i32_537 k0_t13
  let v7187 : Index := Scalar.indexCast arg13
  ![1, 0, v7186.toNat, v7187.toNat]
def k0_off20 (v7188 : BitVec 32) : Fin 3 → Nat :=
  let v7189 : Index := Scalar.indexCast v7188
  let c0_3062 : Index := 0#32
  let c0_3063 : Index := 0#32
  ![v7189.toNat, 0, 0]

def k0_chk7 (v7188 : BitVec 32) : Prop :=
  (∀ a, (k0_off20 v7188) a + S1x1x128.size a ≤ S92840x1x128.size a)
theorem k0_off20_inb : ∀ (v7188 : BitVec 32) (k0_hw7 : k0_chk7 v7188), ∀ a, (k0_off20 v7188) a + S1x1x128.size a ≤ S92840x1x128.size a := fun v7188 k0_hw7 => k0_hw7

def k0_off21 (k0_t13 : Fin k0_t13_loop.trips) (k0_t14 : Fin k0_t14_loop.trips) : Fin 3 → Nat :=
  let c0_i32_535 : BitVec 32 := 0#32
  let c1_i32_537 : BitVec 32 := 1#32
  let arg13 : BitVec 32 := Scf.iv c0_i32_535 c1_i32_537 k0_t13
  let v7192 : Index := Scalar.indexCast arg13
  let c0_i32_3056 : BitVec 32 := 0#32
  let c1_i32_3058 : BitVec 32 := 1#32
  let arg14 : BitVec 32 := Scf.iv c0_i32_3056 c1_i32_3058 k0_t14
  let v7193 : Index := Scalar.indexCast arg14
  let c0_3064 : Index := 0#32
  ![v7192.toNat, v7193.toNat, 0]
@[reducible] def k0_t15_loop : Scf.Loop 32 :=
  let c0_i32_589 : BitVec 32 := 0#32
  let c128_i32_590 : BitVec 32 := 128#32
  let v1510 : BitVec 32 := Scalar.addi c0_i32_589 c128_i32_590
  let c1_i32_591 : BitVec 32 := 1#32
  ⟨c0_i32_589, v1510, c1_i32_591⟩
@[reducible] def k0_t16_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off22 (k0_t15 : Fin k0_t15_loop.trips) (k0_t16 : Fin k0_t16_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t16
  let v7186 : Index := Scalar.indexCast arg14
  let c0_i32_589 : BitVec 32 := 0#32
  let c1_i32_591 : BitVec 32 := 1#32
  let arg13 : BitVec 32 := Scf.iv c0_i32_589 c1_i32_591 k0_t15
  let v7187 : Index := Scalar.indexCast arg13
  ![1, 1, v7186.toNat, v7187.toNat]
def k0_off23 (v7188 : BitVec 32) : Fin 3 → Nat :=
  let v7189 : Index := Scalar.indexCast v7188
  let c0_3062 : Index := 0#32
  let c0_3063 : Index := 0#32
  ![v7189.toNat, 0, 0]

def k0_chk8 (v7188 : BitVec 32) : Prop :=
  (∀ a, (k0_off23 v7188) a + S1x1x128.size a ≤ S92840x1x128.size a)
theorem k0_off23_inb : ∀ (v7188 : BitVec 32) (k0_hw8 : k0_chk8 v7188), ∀ a, (k0_off23 v7188) a + S1x1x128.size a ≤ S92840x1x128.size a := fun v7188 k0_hw8 => k0_hw8

def k0_off24 (k0_t15 : Fin k0_t15_loop.trips) (k0_t16 : Fin k0_t16_loop.trips) : Fin 3 → Nat :=
  let c0_i32_589 : BitVec 32 := 0#32
  let c1_i32_591 : BitVec 32 := 1#32
  let arg13 : BitVec 32 := Scf.iv c0_i32_589 c1_i32_591 k0_t15
  let v7192 : Index := Scalar.indexCast arg13
  let c0_i32_3056 : BitVec 32 := 0#32
  let c1_i32_3058 : BitVec 32 := 1#32
  let arg14 : BitVec 32 := Scf.iv c0_i32_3056 c1_i32_3058 k0_t16
  let v7193 : Index := Scalar.indexCast arg14
  let c0_3064 : Index := 0#32
  ![v7192.toNat, v7193.toNat, 0]
@[reducible] def k0_t17_loop : Scf.Loop 32 :=
  let c0_i32_687 : BitVec 32 := 0#32
  let c128_i32_688 : BitVec 32 := 128#32
  let v1747 : BitVec 32 := Scalar.addi c0_i32_687 c128_i32_688
  let c1_i32_689 : BitVec 32 := 1#32
  ⟨c0_i32_687, v1747, c1_i32_689⟩
@[reducible] def k0_t18_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off25 (k0_t17 : Fin k0_t17_loop.trips) (k0_t18 : Fin k0_t18_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t18
  let v7186 : Index := Scalar.indexCast arg14
  let c0_i32_687 : BitVec 32 := 0#32
  let c1_i32_689 : BitVec 32 := 1#32
  let arg13 : BitVec 32 := Scf.iv c0_i32_687 c1_i32_689 k0_t17
  let v7187 : Index := Scalar.indexCast arg13
  ![0, 0, v7186.toNat, v7187.toNat]
def k0_off26 (v7188 : BitVec 32) : Fin 3 → Nat :=
  let v7189 : Index := Scalar.indexCast v7188
  let c0_3062 : Index := 0#32
  let c0_3063 : Index := 0#32
  ![v7189.toNat, 0, 0]

def k0_chk9 (v7188 : BitVec 32) : Prop :=
  (∀ a, (k0_off26 v7188) a + S1x1x128.size a ≤ S92840x1x128.size a)
theorem k0_off26_inb : ∀ (v7188 : BitVec 32) (k0_hw9 : k0_chk9 v7188), ∀ a, (k0_off26 v7188) a + S1x1x128.size a ≤ S92840x1x128.size a := fun v7188 k0_hw9 => k0_hw9

def k0_off27 (k0_t17 : Fin k0_t17_loop.trips) (k0_t18 : Fin k0_t18_loop.trips) : Fin 3 → Nat :=
  let c0_i32_687 : BitVec 32 := 0#32
  let c1_i32_689 : BitVec 32 := 1#32
  let arg13 : BitVec 32 := Scf.iv c0_i32_687 c1_i32_689 k0_t17
  let v7192 : Index := Scalar.indexCast arg13
  let c0_i32_3056 : BitVec 32 := 0#32
  let c1_i32_3058 : BitVec 32 := 1#32
  let arg14 : BitVec 32 := Scf.iv c0_i32_3056 c1_i32_3058 k0_t18
  let v7193 : Index := Scalar.indexCast arg14
  let c0_3064 : Index := 0#32
  ![v7192.toNat, v7193.toNat, 0]
@[reducible] def k0_t19_loop : Scf.Loop 32 :=
  let c0_i32_741 : BitVec 32 := 0#32
  let c128_i32_742 : BitVec 32 := 128#32
  let v1906 : BitVec 32 := Scalar.addi c0_i32_741 c128_i32_742
  let c1_i32_743 : BitVec 32 := 1#32
  ⟨c0_i32_741, v1906, c1_i32_743⟩
@[reducible] def k0_t20_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off28 (k0_t19 : Fin k0_t19_loop.trips) (k0_t20 : Fin k0_t20_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t20
  let v7186 : Index := Scalar.indexCast arg14
  let c0_i32_741 : BitVec 32 := 0#32
  let c1_i32_743 : BitVec 32 := 1#32
  let arg13 : BitVec 32 := Scf.iv c0_i32_741 c1_i32_743 k0_t19
  let v7187 : Index := Scalar.indexCast arg13
  ![0, 1, v7186.toNat, v7187.toNat]
def k0_off29 (v7188 : BitVec 32) : Fin 3 → Nat :=
  let v7189 : Index := Scalar.indexCast v7188
  let c0_3062 : Index := 0#32
  let c0_3063 : Index := 0#32
  ![v7189.toNat, 0, 0]

def k0_chk10 (v7188 : BitVec 32) : Prop :=
  (∀ a, (k0_off29 v7188) a + S1x1x128.size a ≤ S92840x1x128.size a)
theorem k0_off29_inb : ∀ (v7188 : BitVec 32) (k0_hw10 : k0_chk10 v7188), ∀ a, (k0_off29 v7188) a + S1x1x128.size a ≤ S92840x1x128.size a := fun v7188 k0_hw10 => k0_hw10

def k0_off30 (k0_t19 : Fin k0_t19_loop.trips) (k0_t20 : Fin k0_t20_loop.trips) : Fin 3 → Nat :=
  let c0_i32_741 : BitVec 32 := 0#32
  let c1_i32_743 : BitVec 32 := 1#32
  let arg13 : BitVec 32 := Scf.iv c0_i32_741 c1_i32_743 k0_t19
  let v7192 : Index := Scalar.indexCast arg13
  let c0_i32_3056 : BitVec 32 := 0#32
  let c1_i32_3058 : BitVec 32 := 1#32
  let arg14 : BitVec 32 := Scf.iv c0_i32_3056 c1_i32_3058 k0_t20
  let v7193 : Index := Scalar.indexCast arg14
  let c0_3064 : Index := 0#32
  ![v7192.toNat, v7193.toNat, 0]
@[reducible] def k0_t21_loop : Scf.Loop 32 :=
  let c0_i32_855 : BitVec 32 := 0#32
  let c128_i32_856 : BitVec 32 := 128#32
  let v2181 : BitVec 32 := Scalar.addi c0_i32_855 c128_i32_856
  let c1_i32_857 : BitVec 32 := 1#32
  ⟨c0_i32_855, v2181, c1_i32_857⟩
@[reducible] def k0_t22_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off31 (k0_t21 : Fin k0_t21_loop.trips) (k0_t22 : Fin k0_t22_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t22
  let v7186 : Index := Scalar.indexCast arg14
  let c0_i32_855 : BitVec 32 := 0#32
  let c1_i32_857 : BitVec 32 := 1#32
  let arg13 : BitVec 32 := Scf.iv c0_i32_855 c1_i32_857 k0_t21
  let v7187 : Index := Scalar.indexCast arg13
  ![1, 0, v7186.toNat, v7187.toNat]
def k0_off32 (v7188 : BitVec 32) : Fin 3 → Nat :=
  let v7189 : Index := Scalar.indexCast v7188
  let c0_3062 : Index := 0#32
  let c0_3063 : Index := 0#32
  ![v7189.toNat, 0, 0]

def k0_chk11 (v7188 : BitVec 32) : Prop :=
  (∀ a, (k0_off32 v7188) a + S1x1x128.size a ≤ S92840x1x128.size a)
theorem k0_off32_inb : ∀ (v7188 : BitVec 32) (k0_hw11 : k0_chk11 v7188), ∀ a, (k0_off32 v7188) a + S1x1x128.size a ≤ S92840x1x128.size a := fun v7188 k0_hw11 => k0_hw11

def k0_off33 (k0_t21 : Fin k0_t21_loop.trips) (k0_t22 : Fin k0_t22_loop.trips) : Fin 3 → Nat :=
  let c0_i32_855 : BitVec 32 := 0#32
  let c1_i32_857 : BitVec 32 := 1#32
  let arg13 : BitVec 32 := Scf.iv c0_i32_855 c1_i32_857 k0_t21
  let v7192 : Index := Scalar.indexCast arg13
  let c0_i32_3056 : BitVec 32 := 0#32
  let c1_i32_3058 : BitVec 32 := 1#32
  let arg14 : BitVec 32 := Scf.iv c0_i32_3056 c1_i32_3058 k0_t22
  let v7193 : Index := Scalar.indexCast arg14
  let c0_3064 : Index := 0#32
  ![v7192.toNat, v7193.toNat, 0]
@[reducible] def k0_t23_loop : Scf.Loop 32 :=
  let c0_i32_909 : BitVec 32 := 0#32
  let c128_i32_910 : BitVec 32 := 128#32
  let v2340 : BitVec 32 := Scalar.addi c0_i32_909 c128_i32_910
  let c1_i32_911 : BitVec 32 := 1#32
  ⟨c0_i32_909, v2340, c1_i32_911⟩
@[reducible] def k0_t24_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off34 (k0_t23 : Fin k0_t23_loop.trips) (k0_t24 : Fin k0_t24_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t24
  let v7186 : Index := Scalar.indexCast arg14
  let c0_i32_909 : BitVec 32 := 0#32
  let c1_i32_911 : BitVec 32 := 1#32
  let arg13 : BitVec 32 := Scf.iv c0_i32_909 c1_i32_911 k0_t23
  let v7187 : Index := Scalar.indexCast arg13
  ![1, 1, v7186.toNat, v7187.toNat]
def k0_off35 (v7188 : BitVec 32) : Fin 3 → Nat :=
  let v7189 : Index := Scalar.indexCast v7188
  let c0_3062 : Index := 0#32
  let c0_3063 : Index := 0#32
  ![v7189.toNat, 0, 0]

def k0_chk12 (v7188 : BitVec 32) : Prop :=
  (∀ a, (k0_off35 v7188) a + S1x1x128.size a ≤ S92840x1x128.size a)
theorem k0_off35_inb : ∀ (v7188 : BitVec 32) (k0_hw12 : k0_chk12 v7188), ∀ a, (k0_off35 v7188) a + S1x1x128.size a ≤ S92840x1x128.size a := fun v7188 k0_hw12 => k0_hw12

def k0_off36 (k0_t23 : Fin k0_t23_loop.trips) (k0_t24 : Fin k0_t24_loop.trips) : Fin 3 → Nat :=
  let c0_i32_909 : BitVec 32 := 0#32
  let c1_i32_911 : BitVec 32 := 1#32
  let arg13 : BitVec 32 := Scf.iv c0_i32_909 c1_i32_911 k0_t23
  let v7192 : Index := Scalar.indexCast arg13
  let c0_i32_3056 : BitVec 32 := 0#32
  let c1_i32_3058 : BitVec 32 := 1#32
  let arg14 : BitVec 32 := Scf.iv c0_i32_3056 c1_i32_3058 k0_t24
  let v7193 : Index := Scalar.indexCast arg14
  let c0_3064 : Index := 0#32
  ![v7192.toNat, v7193.toNat, 0]
@[reducible] def k0_t25_loop : Scf.Loop 32 :=
  let c0_i32_1026 : BitVec 32 := 0#32
  let c128_i32_1027 : BitVec 32 := 128#32
  let v2615 : BitVec 32 := Scalar.addi c0_i32_1026 c128_i32_1027
  let c1_i32_1028 : BitVec 32 := 1#32
  ⟨c0_i32_1026, v2615, c1_i32_1028⟩
@[reducible] def k0_t26_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off37 (k0_t25 : Fin k0_t25_loop.trips) (k0_t26 : Fin k0_t26_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t26
  let v7186 : Index := Scalar.indexCast arg14
  let c0_i32_1026 : BitVec 32 := 0#32
  let c1_i32_1028 : BitVec 32 := 1#32
  let arg13 : BitVec 32 := Scf.iv c0_i32_1026 c1_i32_1028 k0_t25
  let v7187 : Index := Scalar.indexCast arg13
  ![0, 0, v7186.toNat, v7187.toNat]
def k0_off38 (v7188 : BitVec 32) : Fin 3 → Nat :=
  let v7189 : Index := Scalar.indexCast v7188
  let c0_3062 : Index := 0#32
  let c0_3063 : Index := 0#32
  ![v7189.toNat, 0, 0]

def k0_chk13 (v7188 : BitVec 32) : Prop :=
  (∀ a, (k0_off38 v7188) a + S1x1x128.size a ≤ S92840x1x128.size a)
theorem k0_off38_inb : ∀ (v7188 : BitVec 32) (k0_hw13 : k0_chk13 v7188), ∀ a, (k0_off38 v7188) a + S1x1x128.size a ≤ S92840x1x128.size a := fun v7188 k0_hw13 => k0_hw13

def k0_off39 (k0_t25 : Fin k0_t25_loop.trips) (k0_t26 : Fin k0_t26_loop.trips) : Fin 3 → Nat :=
  let c0_i32_1026 : BitVec 32 := 0#32
  let c1_i32_1028 : BitVec 32 := 1#32
  let arg13 : BitVec 32 := Scf.iv c0_i32_1026 c1_i32_1028 k0_t25
  let v7192 : Index := Scalar.indexCast arg13
  let c0_i32_3056 : BitVec 32 := 0#32
  let c1_i32_3058 : BitVec 32 := 1#32
  let arg14 : BitVec 32 := Scf.iv c0_i32_3056 c1_i32_3058 k0_t26
  let v7193 : Index := Scalar.indexCast arg14
  let c0_3064 : Index := 0#32
  ![v7192.toNat, v7193.toNat, 0]
@[reducible] def k0_t27_loop : Scf.Loop 32 :=
  let c0_i32_1055 : BitVec 32 := 0#32
  let c128_i32_1056 : BitVec 32 := 128#32
  let v2695 : BitVec 32 := Scalar.addi c0_i32_1055 c128_i32_1056
  let c1_i32_1057 : BitVec 32 := 1#32
  ⟨c0_i32_1055, v2695, c1_i32_1057⟩
@[reducible] def k0_t28_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off40 (k0_t27 : Fin k0_t27_loop.trips) (k0_t28 : Fin k0_t28_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t28
  let v7186 : Index := Scalar.indexCast arg14
  let c0_i32_1055 : BitVec 32 := 0#32
  let c1_i32_1057 : BitVec 32 := 1#32
  let arg13 : BitVec 32 := Scf.iv c0_i32_1055 c1_i32_1057 k0_t27
  let v7187 : Index := Scalar.indexCast arg13
  ![0, 1, v7186.toNat, v7187.toNat]
def k0_off41 (v7188 : BitVec 32) : Fin 3 → Nat :=
  let v7189 : Index := Scalar.indexCast v7188
  let c0_3062 : Index := 0#32
  let c0_3063 : Index := 0#32
  ![v7189.toNat, 0, 0]

def k0_chk14 (v7188 : BitVec 32) : Prop :=
  (∀ a, (k0_off41 v7188) a + S1x1x128.size a ≤ S92840x1x128.size a)
theorem k0_off41_inb : ∀ (v7188 : BitVec 32) (k0_hw14 : k0_chk14 v7188), ∀ a, (k0_off41 v7188) a + S1x1x128.size a ≤ S92840x1x128.size a := fun v7188 k0_hw14 => k0_hw14

def k0_off42 (k0_t27 : Fin k0_t27_loop.trips) (k0_t28 : Fin k0_t28_loop.trips) : Fin 3 → Nat :=
  let c0_i32_1055 : BitVec 32 := 0#32
  let c1_i32_1057 : BitVec 32 := 1#32
  let arg13 : BitVec 32 := Scf.iv c0_i32_1055 c1_i32_1057 k0_t27
  let v7192 : Index := Scalar.indexCast arg13
  let c0_i32_3056 : BitVec 32 := 0#32
  let c1_i32_3058 : BitVec 32 := 1#32
  let arg14 : BitVec 32 := Scf.iv c0_i32_3056 c1_i32_3058 k0_t28
  let v7193 : Index := Scalar.indexCast arg14
  let c0_3064 : Index := 0#32
  ![v7192.toNat, v7193.toNat, 0]
@[reducible] def k0_t29_loop : Scf.Loop 32 :=
  let c0_i32_1084 : BitVec 32 := 0#32
  let c128_i32_1085 : BitVec 32 := 128#32
  let v2775 : BitVec 32 := Scalar.addi c0_i32_1084 c128_i32_1085
  let c1_i32_1086 : BitVec 32 := 1#32
  ⟨c0_i32_1084, v2775, c1_i32_1086⟩
@[reducible] def k0_t30_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off43 (k0_t29 : Fin k0_t29_loop.trips) (k0_t30 : Fin k0_t30_loop.trips) : Fin 4 → Nat :=
  let c0_3060 : Index := 0#32
  let c2_3061 : Index := 2#32
  let c0_i32_3056 : BitVec 32 := 0#32
  let c1_i32_3058 : BitVec 32 := 1#32
  let arg14 : BitVec 32 := Scf.iv c0_i32_3056 c1_i32_3058 k0_t30
  let v7186 : Index := Scalar.indexCast arg14
  let c0_i32_1084 : BitVec 32 := 0#32
  let c1_i32_1086 : BitVec 32 := 1#32
  let arg13 : BitVec 32 := Scf.iv c0_i32_1084 c1_i32_1086 k0_t29
  let v7187 : Index := Scalar.indexCast arg13
  ![0, 2, v7186.toNat, v7187.toNat]
def k0_off44 (v7188 : BitVec 32) : Fin 3 → Nat :=
  let v7189 : Index := Scalar.indexCast v7188
  let c0_3062 : Index := 0#32
  let c0_3063 : Index := 0#32
  ![v7189.toNat, 0, 0]

def k0_chk15 (v7188 : BitVec 32) : Prop :=
  (∀ a, (k0_off44 v7188) a + S1x1x128.size a ≤ S92840x1x128.size a)
theorem k0_off44_inb : ∀ (v7188 : BitVec 32) (k0_hw15 : k0_chk15 v7188), ∀ a, (k0_off44 v7188) a + S1x1x128.size a ≤ S92840x1x128.size a := fun v7188 k0_hw15 => k0_hw15

def k0_off45 (k0_t29 : Fin k0_t29_loop.trips) (k0_t30 : Fin k0_t30_loop.trips) : Fin 3 → Nat :=
  let c0_i32_1084 : BitVec 32 := 0#32
  let c1_i32_1086 : BitVec 32 := 1#32
  let arg13 : BitVec 32 := Scf.iv c0_i32_1084 c1_i32_1086 k0_t29
  let v7192 : Index := Scalar.indexCast arg13
  let c0_i32_3056 : BitVec 32 := 0#32
  let c1_i32_3058 : BitVec 32 := 1#32
  let arg14 : BitVec 32 := Scf.iv c0_i32_3056 c1_i32_3058 k0_t30
  let v7193 : Index := Scalar.indexCast arg14
  let c0_3064 : Index := 0#32
  ![v7192.toNat, v7193.toNat, 0]
@[reducible] def k0_t31_loop : Scf.Loop 32 :=
  let c0_i32_1113 : BitVec 32 := 0#32
  let c128_i32_1114 : BitVec 32 := 128#32
  let v2855 : BitVec 32 := Scalar.addi c0_i32_1113 c128_i32_1114
  let c1_i32_1115 : BitVec 32 := 1#32
  ⟨c0_i32_1113, v2855, c1_i32_1115⟩
@[reducible] def k0_t32_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off46 (k0_t31 : Fin k0_t31_loop.trips) (k0_t32 : Fin k0_t32_loop.trips) : Fin 4 → Nat :=
  let c0_3060 : Index := 0#32
  let c3_3061 : Index := 3#32
  let c0_i32_3056 : BitVec 32 := 0#32
  let c1_i32_3058 : BitVec 32 := 1#32
  let arg14 : BitVec 32 := Scf.iv c0_i32_3056 c1_i32_3058 k0_t32
  let v7186 : Index := Scalar.indexCast arg14
  let c0_i32_1113 : BitVec 32 := 0#32
  let c1_i32_1115 : BitVec 32 := 1#32
  let arg13 : BitVec 32 := Scf.iv c0_i32_1113 c1_i32_1115 k0_t31
  let v7187 : Index := Scalar.indexCast arg13
  ![0, 3, v7186.toNat, v7187.toNat]
def k0_off47 (v7188 : BitVec 32) : Fin 3 → Nat :=
  let v7189 : Index := Scalar.indexCast v7188
  let c0_3062 : Index := 0#32
  let c0_3063 : Index := 0#32
  ![v7189.toNat, 0, 0]

def k0_chk16 (v7188 : BitVec 32) : Prop :=
  (∀ a, (k0_off47 v7188) a + S1x1x128.size a ≤ S92840x1x128.size a)
theorem k0_off47_inb : ∀ (v7188 : BitVec 32) (k0_hw16 : k0_chk16 v7188), ∀ a, (k0_off47 v7188) a + S1x1x128.size a ≤ S92840x1x128.size a := fun v7188 k0_hw16 => k0_hw16

def k0_off48 (k0_t31 : Fin k0_t31_loop.trips) (k0_t32 : Fin k0_t32_loop.trips) : Fin 3 → Nat :=
  let c0_i32_1113 : BitVec 32 := 0#32
  let c1_i32_1115 : BitVec 32 := 1#32
  let arg13 : BitVec 32 := Scf.iv c0_i32_1113 c1_i32_1115 k0_t31
  let v7192 : Index := Scalar.indexCast arg13
  let c0_i32_3056 : BitVec 32 := 0#32
  let c1_i32_3058 : BitVec 32 := 1#32
  let arg14 : BitVec 32 := Scf.iv c0_i32_3056 c1_i32_3058 k0_t32
  let v7193 : Index := Scalar.indexCast arg14
  let c0_3064 : Index := 0#32
  ![v7192.toNat, v7193.toNat, 0]
@[reducible] def k0_t33_loop : Scf.Loop 32 :=
  let c0_i32_1205 : BitVec 32 := 0#32
  let c128_i32_1206 : BitVec 32 := 128#32
  let v3051 : BitVec 32 := Scalar.addi c0_i32_1205 c128_i32_1206
  let c1_i32_1207 : BitVec 32 := 1#32
  ⟨c0_i32_1205, v3051, c1_i32_1207⟩
@[reducible] def k0_t34_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off49 (k0_t33 : Fin k0_t33_loop.trips) (k0_t34 : Fin k0_t34_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t34
  let v7186 : Index := Scalar.indexCast arg14
  let c0_i32_1205 : BitVec 32 := 0#32
  let c1_i32_1207 : BitVec 32 := 1#32
  let arg13 : BitVec 32 := Scf.iv c0_i32_1205 c1_i32_1207 k0_t33
  let v7187 : Index := Scalar.indexCast arg13
  ![1, 0, v7186.toNat, v7187.toNat]
def k0_off50 (v7188 : BitVec 32) : Fin 3 → Nat :=
  let v7189 : Index := Scalar.indexCast v7188
  let c0_3062 : Index := 0#32
  let c0_3063 : Index := 0#32
  ![v7189.toNat, 0, 0]

def k0_chk17 (v7188 : BitVec 32) : Prop :=
  (∀ a, (k0_off50 v7188) a + S1x1x128.size a ≤ S92840x1x128.size a)
theorem k0_off50_inb : ∀ (v7188 : BitVec 32) (k0_hw17 : k0_chk17 v7188), ∀ a, (k0_off50 v7188) a + S1x1x128.size a ≤ S92840x1x128.size a := fun v7188 k0_hw17 => k0_hw17

def k0_off51 (k0_t33 : Fin k0_t33_loop.trips) (k0_t34 : Fin k0_t34_loop.trips) : Fin 3 → Nat :=
  let c0_i32_1205 : BitVec 32 := 0#32
  let c1_i32_1207 : BitVec 32 := 1#32
  let arg13 : BitVec 32 := Scf.iv c0_i32_1205 c1_i32_1207 k0_t33
  let v7192 : Index := Scalar.indexCast arg13
  let c0_i32_3056 : BitVec 32 := 0#32
  let c1_i32_3058 : BitVec 32 := 1#32
  let arg14 : BitVec 32 := Scf.iv c0_i32_3056 c1_i32_3058 k0_t34
  let v7193 : Index := Scalar.indexCast arg14
  let c0_3064 : Index := 0#32
  ![v7192.toNat, v7193.toNat, 0]
@[reducible] def k0_t35_loop : Scf.Loop 32 :=
  let c0_i32_1234 : BitVec 32 := 0#32
  let c128_i32_1235 : BitVec 32 := 128#32
  let v3131 : BitVec 32 := Scalar.addi c0_i32_1234 c128_i32_1235
  let c1_i32_1236 : BitVec 32 := 1#32
  ⟨c0_i32_1234, v3131, c1_i32_1236⟩
@[reducible] def k0_t36_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off52 (k0_t35 : Fin k0_t35_loop.trips) (k0_t36 : Fin k0_t36_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t36
  let v7186 : Index := Scalar.indexCast arg14
  let c0_i32_1234 : BitVec 32 := 0#32
  let c1_i32_1236 : BitVec 32 := 1#32
  let arg13 : BitVec 32 := Scf.iv c0_i32_1234 c1_i32_1236 k0_t35
  let v7187 : Index := Scalar.indexCast arg13
  ![1, 1, v7186.toNat, v7187.toNat]
def k0_off53 (v7188 : BitVec 32) : Fin 3 → Nat :=
  let v7189 : Index := Scalar.indexCast v7188
  let c0_3062 : Index := 0#32
  let c0_3063 : Index := 0#32
  ![v7189.toNat, 0, 0]

def k0_chk18 (v7188 : BitVec 32) : Prop :=
  (∀ a, (k0_off53 v7188) a + S1x1x128.size a ≤ S92840x1x128.size a)
theorem k0_off53_inb : ∀ (v7188 : BitVec 32) (k0_hw18 : k0_chk18 v7188), ∀ a, (k0_off53 v7188) a + S1x1x128.size a ≤ S92840x1x128.size a := fun v7188 k0_hw18 => k0_hw18

def k0_off54 (k0_t35 : Fin k0_t35_loop.trips) (k0_t36 : Fin k0_t36_loop.trips) : Fin 3 → Nat :=
  let c0_i32_1234 : BitVec 32 := 0#32
  let c1_i32_1236 : BitVec 32 := 1#32
  let arg13 : BitVec 32 := Scf.iv c0_i32_1234 c1_i32_1236 k0_t35
  let v7192 : Index := Scalar.indexCast arg13
  let c0_i32_3056 : BitVec 32 := 0#32
  let c1_i32_3058 : BitVec 32 := 1#32
  let arg14 : BitVec 32 := Scf.iv c0_i32_3056 c1_i32_3058 k0_t36
  let v7193 : Index := Scalar.indexCast arg14
  let c0_3064 : Index := 0#32
  ![v7192.toNat, v7193.toNat, 0]
@[reducible] def k0_t37_loop : Scf.Loop 32 :=
  let c0_i32_1263 : BitVec 32 := 0#32
  let c128_i32_1264 : BitVec 32 := 128#32
  let v3211 : BitVec 32 := Scalar.addi c0_i32_1263 c128_i32_1264
  let c1_i32_1265 : BitVec 32 := 1#32
  ⟨c0_i32_1263, v3211, c1_i32_1265⟩
@[reducible] def k0_t38_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off55 (k0_t37 : Fin k0_t37_loop.trips) (k0_t38 : Fin k0_t38_loop.trips) : Fin 4 → Nat :=
  let c1_3060 : Index := 1#32
  let c2_3061 : Index := 2#32
  let c0_i32_3056 : BitVec 32 := 0#32
  let c1_i32_3058 : BitVec 32 := 1#32
  let arg14 : BitVec 32 := Scf.iv c0_i32_3056 c1_i32_3058 k0_t38
  let v7186 : Index := Scalar.indexCast arg14
  let c0_i32_1263 : BitVec 32 := 0#32
  let c1_i32_1265 : BitVec 32 := 1#32
  let arg13 : BitVec 32 := Scf.iv c0_i32_1263 c1_i32_1265 k0_t37
  let v7187 : Index := Scalar.indexCast arg13
  ![1, 2, v7186.toNat, v7187.toNat]
def k0_off56 (v7188 : BitVec 32) : Fin 3 → Nat :=
  let v7189 : Index := Scalar.indexCast v7188
  let c0_3062 : Index := 0#32
  let c0_3063 : Index := 0#32
  ![v7189.toNat, 0, 0]

def k0_chk19 (v7188 : BitVec 32) : Prop :=
  (∀ a, (k0_off56 v7188) a + S1x1x128.size a ≤ S92840x1x128.size a)
theorem k0_off56_inb : ∀ (v7188 : BitVec 32) (k0_hw19 : k0_chk19 v7188), ∀ a, (k0_off56 v7188) a + S1x1x128.size a ≤ S92840x1x128.size a := fun v7188 k0_hw19 => k0_hw19

def k0_off57 (k0_t37 : Fin k0_t37_loop.trips) (k0_t38 : Fin k0_t38_loop.trips) : Fin 3 → Nat :=
  let c0_i32_1263 : BitVec 32 := 0#32
  let c1_i32_1265 : BitVec 32 := 1#32
  let arg13 : BitVec 32 := Scf.iv c0_i32_1263 c1_i32_1265 k0_t37
  let v7192 : Index := Scalar.indexCast arg13
  let c0_i32_3056 : BitVec 32 := 0#32
  let c1_i32_3058 : BitVec 32 := 1#32
  let arg14 : BitVec 32 := Scf.iv c0_i32_3056 c1_i32_3058 k0_t38
  let v7193 : Index := Scalar.indexCast arg14
  let c0_3064 : Index := 0#32
  ![v7192.toNat, v7193.toNat, 0]
@[reducible] def k0_t39_loop : Scf.Loop 32 :=
  let c0_i32_1292 : BitVec 32 := 0#32
  let c128_i32_1293 : BitVec 32 := 128#32
  let v3291 : BitVec 32 := Scalar.addi c0_i32_1292 c128_i32_1293
  let c1_i32_1294 : BitVec 32 := 1#32
  ⟨c0_i32_1292, v3291, c1_i32_1294⟩
@[reducible] def k0_t40_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off58 (k0_t39 : Fin k0_t39_loop.trips) (k0_t40 : Fin k0_t40_loop.trips) : Fin 4 → Nat :=
  let c1_3060 : Index := 1#32
  let c3_3061 : Index := 3#32
  let c0_i32_3056 : BitVec 32 := 0#32
  let c1_i32_3058 : BitVec 32 := 1#32
  let arg14 : BitVec 32 := Scf.iv c0_i32_3056 c1_i32_3058 k0_t40
  let v7186 : Index := Scalar.indexCast arg14
  let c0_i32_1292 : BitVec 32 := 0#32
  let c1_i32_1294 : BitVec 32 := 1#32
  let arg13 : BitVec 32 := Scf.iv c0_i32_1292 c1_i32_1294 k0_t39
  let v7187 : Index := Scalar.indexCast arg13
  ![1, 3, v7186.toNat, v7187.toNat]
def k0_off59 (v7188 : BitVec 32) : Fin 3 → Nat :=
  let v7189 : Index := Scalar.indexCast v7188
  let c0_3062 : Index := 0#32
  let c0_3063 : Index := 0#32
  ![v7189.toNat, 0, 0]

def k0_chk20 (v7188 : BitVec 32) : Prop :=
  (∀ a, (k0_off59 v7188) a + S1x1x128.size a ≤ S92840x1x128.size a)
theorem k0_off59_inb : ∀ (v7188 : BitVec 32) (k0_hw20 : k0_chk20 v7188), ∀ a, (k0_off59 v7188) a + S1x1x128.size a ≤ S92840x1x128.size a := fun v7188 k0_hw20 => k0_hw20

def k0_off60 (k0_t39 : Fin k0_t39_loop.trips) (k0_t40 : Fin k0_t40_loop.trips) : Fin 3 → Nat :=
  let c0_i32_1292 : BitVec 32 := 0#32
  let c1_i32_1294 : BitVec 32 := 1#32
  let arg13 : BitVec 32 := Scf.iv c0_i32_1292 c1_i32_1294 k0_t39
  let v7192 : Index := Scalar.indexCast arg13
  let c0_i32_3056 : BitVec 32 := 0#32
  let c1_i32_3058 : BitVec 32 := 1#32
  let arg14 : BitVec 32 := Scf.iv c0_i32_3056 c1_i32_3058 k0_t40
  let v7193 : Index := Scalar.indexCast arg14
  let c0_3064 : Index := 0#32
  ![v7192.toNat, v7193.toNat, 0]
@[reducible] def k0_t41_loop : Scf.Loop 32 :=
  let c0_i32_1384 : BitVec 32 := 0#32
  let c128_i32_1385 : BitVec 32 := 128#32
  let v3487 : BitVec 32 := Scalar.addi c0_i32_1384 c128_i32_1385
  let c1_i32_1386 : BitVec 32 := 1#32
  ⟨c0_i32_1384, v3487, c1_i32_1386⟩
@[reducible] def k0_t42_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off61 (k0_t41 : Fin k0_t41_loop.trips) (k0_t42 : Fin k0_t42_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t42
  let v7186 : Index := Scalar.indexCast arg14
  let c0_i32_1384 : BitVec 32 := 0#32
  let c1_i32_1386 : BitVec 32 := 1#32
  let arg13 : BitVec 32 := Scf.iv c0_i32_1384 c1_i32_1386 k0_t41
  let v7187 : Index := Scalar.indexCast arg13
  ![0, 0, v7186.toNat, v7187.toNat]
def k0_off62 (v7188 : BitVec 32) : Fin 3 → Nat :=
  let v7189 : Index := Scalar.indexCast v7188
  let c0_3062 : Index := 0#32
  let c0_3063 : Index := 0#32
  ![v7189.toNat, 0, 0]

def k0_chk21 (v7188 : BitVec 32) : Prop :=
  (∀ a, (k0_off62 v7188) a + S1x1x128.size a ≤ S92840x1x128.size a)
theorem k0_off62_inb : ∀ (v7188 : BitVec 32) (k0_hw21 : k0_chk21 v7188), ∀ a, (k0_off62 v7188) a + S1x1x128.size a ≤ S92840x1x128.size a := fun v7188 k0_hw21 => k0_hw21

def k0_off63 (k0_t41 : Fin k0_t41_loop.trips) (k0_t42 : Fin k0_t42_loop.trips) : Fin 3 → Nat :=
  let c0_i32_1384 : BitVec 32 := 0#32
  let c1_i32_1386 : BitVec 32 := 1#32
  let arg13 : BitVec 32 := Scf.iv c0_i32_1384 c1_i32_1386 k0_t41
  let v7192 : Index := Scalar.indexCast arg13
  let c0_i32_3056 : BitVec 32 := 0#32
  let c1_i32_3058 : BitVec 32 := 1#32
  let arg14 : BitVec 32 := Scf.iv c0_i32_3056 c1_i32_3058 k0_t42
  let v7193 : Index := Scalar.indexCast arg14
  let c0_3064 : Index := 0#32
  ![v7192.toNat, v7193.toNat, 0]
@[reducible] def k0_t43_loop : Scf.Loop 32 :=
  let c0_i32_1413 : BitVec 32 := 0#32
  let c128_i32_1414 : BitVec 32 := 128#32
  let v3567 : BitVec 32 := Scalar.addi c0_i32_1413 c128_i32_1414
  let c1_i32_1415 : BitVec 32 := 1#32
  ⟨c0_i32_1413, v3567, c1_i32_1415⟩
@[reducible] def k0_t44_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off64 (k0_t43 : Fin k0_t43_loop.trips) (k0_t44 : Fin k0_t44_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t44
  let v7186 : Index := Scalar.indexCast arg14
  let c0_i32_1413 : BitVec 32 := 0#32
  let c1_i32_1415 : BitVec 32 := 1#32
  let arg13 : BitVec 32 := Scf.iv c0_i32_1413 c1_i32_1415 k0_t43
  let v7187 : Index := Scalar.indexCast arg13
  ![0, 1, v7186.toNat, v7187.toNat]
def k0_off65 (v7188 : BitVec 32) : Fin 3 → Nat :=
  let v7189 : Index := Scalar.indexCast v7188
  let c0_3062 : Index := 0#32
  let c0_3063 : Index := 0#32
  ![v7189.toNat, 0, 0]

def k0_chk22 (v7188 : BitVec 32) : Prop :=
  (∀ a, (k0_off65 v7188) a + S1x1x128.size a ≤ S92840x1x128.size a)
theorem k0_off65_inb : ∀ (v7188 : BitVec 32) (k0_hw22 : k0_chk22 v7188), ∀ a, (k0_off65 v7188) a + S1x1x128.size a ≤ S92840x1x128.size a := fun v7188 k0_hw22 => k0_hw22

def k0_off66 (k0_t43 : Fin k0_t43_loop.trips) (k0_t44 : Fin k0_t44_loop.trips) : Fin 3 → Nat :=
  let c0_i32_1413 : BitVec 32 := 0#32
  let c1_i32_1415 : BitVec 32 := 1#32
  let arg13 : BitVec 32 := Scf.iv c0_i32_1413 c1_i32_1415 k0_t43
  let v7192 : Index := Scalar.indexCast arg13
  let c0_i32_3056 : BitVec 32 := 0#32
  let c1_i32_3058 : BitVec 32 := 1#32
  let arg14 : BitVec 32 := Scf.iv c0_i32_3056 c1_i32_3058 k0_t44
  let v7193 : Index := Scalar.indexCast arg14
  let c0_3064 : Index := 0#32
  ![v7192.toNat, v7193.toNat, 0]
@[reducible] def k0_t45_loop : Scf.Loop 32 :=
  let c0_i32_1442 : BitVec 32 := 0#32
  let c128_i32_1443 : BitVec 32 := 128#32
  let v3647 : BitVec 32 := Scalar.addi c0_i32_1442 c128_i32_1443
  let c1_i32_1444 : BitVec 32 := 1#32
  ⟨c0_i32_1442, v3647, c1_i32_1444⟩
@[reducible] def k0_t46_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off67 (k0_t45 : Fin k0_t45_loop.trips) (k0_t46 : Fin k0_t46_loop.trips) : Fin 4 → Nat :=
  let c0_3060 : Index := 0#32
  let c2_3061 : Index := 2#32
  let c0_i32_3056 : BitVec 32 := 0#32
  let c1_i32_3058 : BitVec 32 := 1#32
  let arg14 : BitVec 32 := Scf.iv c0_i32_3056 c1_i32_3058 k0_t46
  let v7186 : Index := Scalar.indexCast arg14
  let c0_i32_1442 : BitVec 32 := 0#32
  let c1_i32_1444 : BitVec 32 := 1#32
  let arg13 : BitVec 32 := Scf.iv c0_i32_1442 c1_i32_1444 k0_t45
  let v7187 : Index := Scalar.indexCast arg13
  ![0, 2, v7186.toNat, v7187.toNat]
def k0_off68 (v7188 : BitVec 32) : Fin 3 → Nat :=
  let v7189 : Index := Scalar.indexCast v7188
  let c0_3062 : Index := 0#32
  let c0_3063 : Index := 0#32
  ![v7189.toNat, 0, 0]

def k0_chk23 (v7188 : BitVec 32) : Prop :=
  (∀ a, (k0_off68 v7188) a + S1x1x128.size a ≤ S92840x1x128.size a)
theorem k0_off68_inb : ∀ (v7188 : BitVec 32) (k0_hw23 : k0_chk23 v7188), ∀ a, (k0_off68 v7188) a + S1x1x128.size a ≤ S92840x1x128.size a := fun v7188 k0_hw23 => k0_hw23

def k0_off69 (k0_t45 : Fin k0_t45_loop.trips) (k0_t46 : Fin k0_t46_loop.trips) : Fin 3 → Nat :=
  let c0_i32_1442 : BitVec 32 := 0#32
  let c1_i32_1444 : BitVec 32 := 1#32
  let arg13 : BitVec 32 := Scf.iv c0_i32_1442 c1_i32_1444 k0_t45
  let v7192 : Index := Scalar.indexCast arg13
  let c0_i32_3056 : BitVec 32 := 0#32
  let c1_i32_3058 : BitVec 32 := 1#32
  let arg14 : BitVec 32 := Scf.iv c0_i32_3056 c1_i32_3058 k0_t46
  let v7193 : Index := Scalar.indexCast arg14
  let c0_3064 : Index := 0#32
  ![v7192.toNat, v7193.toNat, 0]
@[reducible] def k0_t47_loop : Scf.Loop 32 :=
  let c0_i32_1471 : BitVec 32 := 0#32
  let c128_i32_1472 : BitVec 32 := 128#32
  let v3727 : BitVec 32 := Scalar.addi c0_i32_1471 c128_i32_1472
  let c1_i32_1473 : BitVec 32 := 1#32
  ⟨c0_i32_1471, v3727, c1_i32_1473⟩
@[reducible] def k0_t48_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off70 (k0_t47 : Fin k0_t47_loop.trips) (k0_t48 : Fin k0_t48_loop.trips) : Fin 4 → Nat :=
  let c0_3060 : Index := 0#32
  let c3_3061 : Index := 3#32
  let c0_i32_3056 : BitVec 32 := 0#32
  let c1_i32_3058 : BitVec 32 := 1#32
  let arg14 : BitVec 32 := Scf.iv c0_i32_3056 c1_i32_3058 k0_t48
  let v7186 : Index := Scalar.indexCast arg14
  let c0_i32_1471 : BitVec 32 := 0#32
  let c1_i32_1473 : BitVec 32 := 1#32
  let arg13 : BitVec 32 := Scf.iv c0_i32_1471 c1_i32_1473 k0_t47
  let v7187 : Index := Scalar.indexCast arg13
  ![0, 3, v7186.toNat, v7187.toNat]
def k0_off71 (v7188 : BitVec 32) : Fin 3 → Nat :=
  let v7189 : Index := Scalar.indexCast v7188
  let c0_3062 : Index := 0#32
  let c0_3063 : Index := 0#32
  ![v7189.toNat, 0, 0]

def k0_chk24 (v7188 : BitVec 32) : Prop :=
  (∀ a, (k0_off71 v7188) a + S1x1x128.size a ≤ S92840x1x128.size a)
theorem k0_off71_inb : ∀ (v7188 : BitVec 32) (k0_hw24 : k0_chk24 v7188), ∀ a, (k0_off71 v7188) a + S1x1x128.size a ≤ S92840x1x128.size a := fun v7188 k0_hw24 => k0_hw24

def k0_off72 (k0_t47 : Fin k0_t47_loop.trips) (k0_t48 : Fin k0_t48_loop.trips) : Fin 3 → Nat :=
  let c0_i32_1471 : BitVec 32 := 0#32
  let c1_i32_1473 : BitVec 32 := 1#32
  let arg13 : BitVec 32 := Scf.iv c0_i32_1471 c1_i32_1473 k0_t47
  let v7192 : Index := Scalar.indexCast arg13
  let c0_i32_3056 : BitVec 32 := 0#32
  let c1_i32_3058 : BitVec 32 := 1#32
  let arg14 : BitVec 32 := Scf.iv c0_i32_3056 c1_i32_3058 k0_t48
  let v7193 : Index := Scalar.indexCast arg14
  let c0_3064 : Index := 0#32
  ![v7192.toNat, v7193.toNat, 0]
@[reducible] def k0_t49_loop : Scf.Loop 32 :=
  let c0_i32_1563 : BitVec 32 := 0#32
  let c128_i32_1564 : BitVec 32 := 128#32
  let v3923 : BitVec 32 := Scalar.addi c0_i32_1563 c128_i32_1564
  let c1_i32_1565 : BitVec 32 := 1#32
  ⟨c0_i32_1563, v3923, c1_i32_1565⟩
@[reducible] def k0_t50_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off73 (k0_t49 : Fin k0_t49_loop.trips) (k0_t50 : Fin k0_t50_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t50
  let v7186 : Index := Scalar.indexCast arg14
  let c0_i32_1563 : BitVec 32 := 0#32
  let c1_i32_1565 : BitVec 32 := 1#32
  let arg13 : BitVec 32 := Scf.iv c0_i32_1563 c1_i32_1565 k0_t49
  let v7187 : Index := Scalar.indexCast arg13
  ![1, 0, v7186.toNat, v7187.toNat]
def k0_off74 (v7188 : BitVec 32) : Fin 3 → Nat :=
  let v7189 : Index := Scalar.indexCast v7188
  let c0_3062 : Index := 0#32
  let c0_3063 : Index := 0#32
  ![v7189.toNat, 0, 0]

def k0_chk25 (v7188 : BitVec 32) : Prop :=
  (∀ a, (k0_off74 v7188) a + S1x1x128.size a ≤ S92840x1x128.size a)
theorem k0_off74_inb : ∀ (v7188 : BitVec 32) (k0_hw25 : k0_chk25 v7188), ∀ a, (k0_off74 v7188) a + S1x1x128.size a ≤ S92840x1x128.size a := fun v7188 k0_hw25 => k0_hw25

def k0_off75 (k0_t49 : Fin k0_t49_loop.trips) (k0_t50 : Fin k0_t50_loop.trips) : Fin 3 → Nat :=
  let c0_i32_1563 : BitVec 32 := 0#32
  let c1_i32_1565 : BitVec 32 := 1#32
  let arg13 : BitVec 32 := Scf.iv c0_i32_1563 c1_i32_1565 k0_t49
  let v7192 : Index := Scalar.indexCast arg13
  let c0_i32_3056 : BitVec 32 := 0#32
  let c1_i32_3058 : BitVec 32 := 1#32
  let arg14 : BitVec 32 := Scf.iv c0_i32_3056 c1_i32_3058 k0_t50
  let v7193 : Index := Scalar.indexCast arg14
  let c0_3064 : Index := 0#32
  ![v7192.toNat, v7193.toNat, 0]
@[reducible] def k0_t51_loop : Scf.Loop 32 :=
  let c0_i32_1592 : BitVec 32 := 0#32
  let c128_i32_1593 : BitVec 32 := 128#32
  let v4003 : BitVec 32 := Scalar.addi c0_i32_1592 c128_i32_1593
  let c1_i32_1594 : BitVec 32 := 1#32
  ⟨c0_i32_1592, v4003, c1_i32_1594⟩
@[reducible] def k0_t52_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off76 (k0_t51 : Fin k0_t51_loop.trips) (k0_t52 : Fin k0_t52_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t52
  let v7186 : Index := Scalar.indexCast arg14
  let c0_i32_1592 : BitVec 32 := 0#32
  let c1_i32_1594 : BitVec 32 := 1#32
  let arg13 : BitVec 32 := Scf.iv c0_i32_1592 c1_i32_1594 k0_t51
  let v7187 : Index := Scalar.indexCast arg13
  ![1, 1, v7186.toNat, v7187.toNat]
def k0_off77 (v7188 : BitVec 32) : Fin 3 → Nat :=
  let v7189 : Index := Scalar.indexCast v7188
  let c0_3062 : Index := 0#32
  let c0_3063 : Index := 0#32
  ![v7189.toNat, 0, 0]

def k0_chk26 (v7188 : BitVec 32) : Prop :=
  (∀ a, (k0_off77 v7188) a + S1x1x128.size a ≤ S92840x1x128.size a)
theorem k0_off77_inb : ∀ (v7188 : BitVec 32) (k0_hw26 : k0_chk26 v7188), ∀ a, (k0_off77 v7188) a + S1x1x128.size a ≤ S92840x1x128.size a := fun v7188 k0_hw26 => k0_hw26

def k0_off78 (k0_t51 : Fin k0_t51_loop.trips) (k0_t52 : Fin k0_t52_loop.trips) : Fin 3 → Nat :=
  let c0_i32_1592 : BitVec 32 := 0#32
  let c1_i32_1594 : BitVec 32 := 1#32
  let arg13 : BitVec 32 := Scf.iv c0_i32_1592 c1_i32_1594 k0_t51
  let v7192 : Index := Scalar.indexCast arg13
  let c0_i32_3056 : BitVec 32 := 0#32
  let c1_i32_3058 : BitVec 32 := 1#32
  let arg14 : BitVec 32 := Scf.iv c0_i32_3056 c1_i32_3058 k0_t52
  let v7193 : Index := Scalar.indexCast arg14
  let c0_3064 : Index := 0#32
  ![v7192.toNat, v7193.toNat, 0]
@[reducible] def k0_t53_loop : Scf.Loop 32 :=
  let c0_i32_1621 : BitVec 32 := 0#32
  let c128_i32_1622 : BitVec 32 := 128#32
  let v4083 : BitVec 32 := Scalar.addi c0_i32_1621 c128_i32_1622
  let c1_i32_1623 : BitVec 32 := 1#32
  ⟨c0_i32_1621, v4083, c1_i32_1623⟩
@[reducible] def k0_t54_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off79 (k0_t53 : Fin k0_t53_loop.trips) (k0_t54 : Fin k0_t54_loop.trips) : Fin 4 → Nat :=
  let c1_3060 : Index := 1#32
  let c2_3061 : Index := 2#32
  let c0_i32_3056 : BitVec 32 := 0#32
  let c1_i32_3058 : BitVec 32 := 1#32
  let arg14 : BitVec 32 := Scf.iv c0_i32_3056 c1_i32_3058 k0_t54
  let v7186 : Index := Scalar.indexCast arg14
  let c0_i32_1621 : BitVec 32 := 0#32
  let c1_i32_1623 : BitVec 32 := 1#32
  let arg13 : BitVec 32 := Scf.iv c0_i32_1621 c1_i32_1623 k0_t53
  let v7187 : Index := Scalar.indexCast arg13
  ![1, 2, v7186.toNat, v7187.toNat]
def k0_off80 (v7188 : BitVec 32) : Fin 3 → Nat :=
  let v7189 : Index := Scalar.indexCast v7188
  let c0_3062 : Index := 0#32
  let c0_3063 : Index := 0#32
  ![v7189.toNat, 0, 0]

def k0_chk27 (v7188 : BitVec 32) : Prop :=
  (∀ a, (k0_off80 v7188) a + S1x1x128.size a ≤ S92840x1x128.size a)
theorem k0_off80_inb : ∀ (v7188 : BitVec 32) (k0_hw27 : k0_chk27 v7188), ∀ a, (k0_off80 v7188) a + S1x1x128.size a ≤ S92840x1x128.size a := fun v7188 k0_hw27 => k0_hw27

def k0_off81 (k0_t53 : Fin k0_t53_loop.trips) (k0_t54 : Fin k0_t54_loop.trips) : Fin 3 → Nat :=
  let c0_i32_1621 : BitVec 32 := 0#32
  let c1_i32_1623 : BitVec 32 := 1#32
  let arg13 : BitVec 32 := Scf.iv c0_i32_1621 c1_i32_1623 k0_t53
  let v7192 : Index := Scalar.indexCast arg13
  let c0_i32_3056 : BitVec 32 := 0#32
  let c1_i32_3058 : BitVec 32 := 1#32
  let arg14 : BitVec 32 := Scf.iv c0_i32_3056 c1_i32_3058 k0_t54
  let v7193 : Index := Scalar.indexCast arg14
  let c0_3064 : Index := 0#32
  ![v7192.toNat, v7193.toNat, 0]
@[reducible] def k0_t55_loop : Scf.Loop 32 :=
  let c0_i32_1650 : BitVec 32 := 0#32
  let c128_i32_1651 : BitVec 32 := 128#32
  let v4163 : BitVec 32 := Scalar.addi c0_i32_1650 c128_i32_1651
  let c1_i32_1652 : BitVec 32 := 1#32
  ⟨c0_i32_1650, v4163, c1_i32_1652⟩
@[reducible] def k0_t56_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off82 (k0_t55 : Fin k0_t55_loop.trips) (k0_t56 : Fin k0_t56_loop.trips) : Fin 4 → Nat :=
  let c1_3060 : Index := 1#32
  let c3_3061 : Index := 3#32
  let c0_i32_3056 : BitVec 32 := 0#32
  let c1_i32_3058 : BitVec 32 := 1#32
  let arg14 : BitVec 32 := Scf.iv c0_i32_3056 c1_i32_3058 k0_t56
  let v7186 : Index := Scalar.indexCast arg14
  let c0_i32_1650 : BitVec 32 := 0#32
  let c1_i32_1652 : BitVec 32 := 1#32
  let arg13 : BitVec 32 := Scf.iv c0_i32_1650 c1_i32_1652 k0_t55
  let v7187 : Index := Scalar.indexCast arg13
  ![1, 3, v7186.toNat, v7187.toNat]
def k0_off83 (v7188 : BitVec 32) : Fin 3 → Nat :=
  let v7189 : Index := Scalar.indexCast v7188
  let c0_3062 : Index := 0#32
  let c0_3063 : Index := 0#32
  ![v7189.toNat, 0, 0]

def k0_chk28 (v7188 : BitVec 32) : Prop :=
  (∀ a, (k0_off83 v7188) a + S1x1x128.size a ≤ S92840x1x128.size a)
theorem k0_off83_inb : ∀ (v7188 : BitVec 32) (k0_hw28 : k0_chk28 v7188), ∀ a, (k0_off83 v7188) a + S1x1x128.size a ≤ S92840x1x128.size a := fun v7188 k0_hw28 => k0_hw28

def k0_off84 (k0_t55 : Fin k0_t55_loop.trips) (k0_t56 : Fin k0_t56_loop.trips) : Fin 3 → Nat :=
  let c0_i32_1650 : BitVec 32 := 0#32
  let c1_i32_1652 : BitVec 32 := 1#32
  let arg13 : BitVec 32 := Scf.iv c0_i32_1650 c1_i32_1652 k0_t55
  let v7192 : Index := Scalar.indexCast arg13
  let c0_i32_3056 : BitVec 32 := 0#32
  let c1_i32_3058 : BitVec 32 := 1#32
  let arg14 : BitVec 32 := Scf.iv c0_i32_3056 c1_i32_3058 k0_t56
  let v7193 : Index := Scalar.indexCast arg14
  let c0_3064 : Index := 0#32
  ![v7192.toNat, v7193.toNat, 0]
@[reducible] def k0_t57_loop : Scf.Loop 32 :=
  let c0_i32_1742 : BitVec 32 := 0#32
  let c128_i32_1743 : BitVec 32 := 128#32
  let v4359 : BitVec 32 := Scalar.addi c0_i32_1742 c128_i32_1743
  let c1_i32_1744 : BitVec 32 := 1#32
  ⟨c0_i32_1742, v4359, c1_i32_1744⟩
@[reducible] def k0_t58_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off85 (k0_t57 : Fin k0_t57_loop.trips) (k0_t58 : Fin k0_t58_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t58
  let v7186 : Index := Scalar.indexCast arg14
  let c0_i32_1742 : BitVec 32 := 0#32
  let c1_i32_1744 : BitVec 32 := 1#32
  let arg13 : BitVec 32 := Scf.iv c0_i32_1742 c1_i32_1744 k0_t57
  let v7187 : Index := Scalar.indexCast arg13
  ![0, 0, v7186.toNat, v7187.toNat]
def k0_off86 (v7188 : BitVec 32) : Fin 3 → Nat :=
  let v7189 : Index := Scalar.indexCast v7188
  let c0_3062 : Index := 0#32
  let c0_3063 : Index := 0#32
  ![v7189.toNat, 0, 0]

def k0_chk29 (v7188 : BitVec 32) : Prop :=
  (∀ a, (k0_off86 v7188) a + S1x1x128.size a ≤ S92840x1x128.size a)
theorem k0_off86_inb : ∀ (v7188 : BitVec 32) (k0_hw29 : k0_chk29 v7188), ∀ a, (k0_off86 v7188) a + S1x1x128.size a ≤ S92840x1x128.size a := fun v7188 k0_hw29 => k0_hw29

def k0_off87 (k0_t57 : Fin k0_t57_loop.trips) (k0_t58 : Fin k0_t58_loop.trips) : Fin 3 → Nat :=
  let c0_i32_1742 : BitVec 32 := 0#32
  let c1_i32_1744 : BitVec 32 := 1#32
  let arg13 : BitVec 32 := Scf.iv c0_i32_1742 c1_i32_1744 k0_t57
  let v7192 : Index := Scalar.indexCast arg13
  let c0_i32_3056 : BitVec 32 := 0#32
  let c1_i32_3058 : BitVec 32 := 1#32
  let arg14 : BitVec 32 := Scf.iv c0_i32_3056 c1_i32_3058 k0_t58
  let v7193 : Index := Scalar.indexCast arg14
  let c0_3064 : Index := 0#32
  ![v7192.toNat, v7193.toNat, 0]
@[reducible] def k0_t59_loop : Scf.Loop 32 :=
  let c0_i32_1771 : BitVec 32 := 0#32
  let c128_i32_1772 : BitVec 32 := 128#32
  let v4439 : BitVec 32 := Scalar.addi c0_i32_1771 c128_i32_1772
  let c1_i32_1773 : BitVec 32 := 1#32
  ⟨c0_i32_1771, v4439, c1_i32_1773⟩
@[reducible] def k0_t60_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off88 (k0_t59 : Fin k0_t59_loop.trips) (k0_t60 : Fin k0_t60_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t60
  let v7186 : Index := Scalar.indexCast arg14
  let c0_i32_1771 : BitVec 32 := 0#32
  let c1_i32_1773 : BitVec 32 := 1#32
  let arg13 : BitVec 32 := Scf.iv c0_i32_1771 c1_i32_1773 k0_t59
  let v7187 : Index := Scalar.indexCast arg13
  ![0, 1, v7186.toNat, v7187.toNat]
def k0_off89 (v7188 : BitVec 32) : Fin 3 → Nat :=
  let v7189 : Index := Scalar.indexCast v7188
  let c0_3062 : Index := 0#32
  let c0_3063 : Index := 0#32
  ![v7189.toNat, 0, 0]

def k0_chk30 (v7188 : BitVec 32) : Prop :=
  (∀ a, (k0_off89 v7188) a + S1x1x128.size a ≤ S92840x1x128.size a)
theorem k0_off89_inb : ∀ (v7188 : BitVec 32) (k0_hw30 : k0_chk30 v7188), ∀ a, (k0_off89 v7188) a + S1x1x128.size a ≤ S92840x1x128.size a := fun v7188 k0_hw30 => k0_hw30

def k0_off90 (k0_t59 : Fin k0_t59_loop.trips) (k0_t60 : Fin k0_t60_loop.trips) : Fin 3 → Nat :=
  let c0_i32_1771 : BitVec 32 := 0#32
  let c1_i32_1773 : BitVec 32 := 1#32
  let arg13 : BitVec 32 := Scf.iv c0_i32_1771 c1_i32_1773 k0_t59
  let v7192 : Index := Scalar.indexCast arg13
  let c0_i32_3056 : BitVec 32 := 0#32
  let c1_i32_3058 : BitVec 32 := 1#32
  let arg14 : BitVec 32 := Scf.iv c0_i32_3056 c1_i32_3058 k0_t60
  let v7193 : Index := Scalar.indexCast arg14
  let c0_3064 : Index := 0#32
  ![v7192.toNat, v7193.toNat, 0]
@[reducible] def k0_t61_loop : Scf.Loop 32 :=
  let c0_i32_1800 : BitVec 32 := 0#32
  let c128_i32_1801 : BitVec 32 := 128#32
  let v4519 : BitVec 32 := Scalar.addi c0_i32_1800 c128_i32_1801
  let c1_i32_1802 : BitVec 32 := 1#32
  ⟨c0_i32_1800, v4519, c1_i32_1802⟩
@[reducible] def k0_t62_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off91 (k0_t61 : Fin k0_t61_loop.trips) (k0_t62 : Fin k0_t62_loop.trips) : Fin 4 → Nat :=
  let c0_3060 : Index := 0#32
  let c2_3061 : Index := 2#32
  let c0_i32_3056 : BitVec 32 := 0#32
  let c1_i32_3058 : BitVec 32 := 1#32
  let arg14 : BitVec 32 := Scf.iv c0_i32_3056 c1_i32_3058 k0_t62
  let v7186 : Index := Scalar.indexCast arg14
  let c0_i32_1800 : BitVec 32 := 0#32
  let c1_i32_1802 : BitVec 32 := 1#32
  let arg13 : BitVec 32 := Scf.iv c0_i32_1800 c1_i32_1802 k0_t61
  let v7187 : Index := Scalar.indexCast arg13
  ![0, 2, v7186.toNat, v7187.toNat]
def k0_off92 (v7188 : BitVec 32) : Fin 3 → Nat :=
  let v7189 : Index := Scalar.indexCast v7188
  let c0_3062 : Index := 0#32
  let c0_3063 : Index := 0#32
  ![v7189.toNat, 0, 0]

def k0_chk31 (v7188 : BitVec 32) : Prop :=
  (∀ a, (k0_off92 v7188) a + S1x1x128.size a ≤ S92840x1x128.size a)
theorem k0_off92_inb : ∀ (v7188 : BitVec 32) (k0_hw31 : k0_chk31 v7188), ∀ a, (k0_off92 v7188) a + S1x1x128.size a ≤ S92840x1x128.size a := fun v7188 k0_hw31 => k0_hw31

def k0_off93 (k0_t61 : Fin k0_t61_loop.trips) (k0_t62 : Fin k0_t62_loop.trips) : Fin 3 → Nat :=
  let c0_i32_1800 : BitVec 32 := 0#32
  let c1_i32_1802 : BitVec 32 := 1#32
  let arg13 : BitVec 32 := Scf.iv c0_i32_1800 c1_i32_1802 k0_t61
  let v7192 : Index := Scalar.indexCast arg13
  let c0_i32_3056 : BitVec 32 := 0#32
  let c1_i32_3058 : BitVec 32 := 1#32
  let arg14 : BitVec 32 := Scf.iv c0_i32_3056 c1_i32_3058 k0_t62
  let v7193 : Index := Scalar.indexCast arg14
  let c0_3064 : Index := 0#32
  ![v7192.toNat, v7193.toNat, 0]
@[reducible] def k0_t63_loop : Scf.Loop 32 :=
  let c0_i32_1829 : BitVec 32 := 0#32
  let c128_i32_1830 : BitVec 32 := 128#32
  let v4599 : BitVec 32 := Scalar.addi c0_i32_1829 c128_i32_1830
  let c1_i32_1831 : BitVec 32 := 1#32
  ⟨c0_i32_1829, v4599, c1_i32_1831⟩
@[reducible] def k0_t64_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off94 (k0_t63 : Fin k0_t63_loop.trips) (k0_t64 : Fin k0_t64_loop.trips) : Fin 4 → Nat :=
  let c0_3060 : Index := 0#32
  let c3_3061 : Index := 3#32
  let c0_i32_3056 : BitVec 32 := 0#32
  let c1_i32_3058 : BitVec 32 := 1#32
  let arg14 : BitVec 32 := Scf.iv c0_i32_3056 c1_i32_3058 k0_t64
  let v7186 : Index := Scalar.indexCast arg14
  let c0_i32_1829 : BitVec 32 := 0#32
  let c1_i32_1831 : BitVec 32 := 1#32
  let arg13 : BitVec 32 := Scf.iv c0_i32_1829 c1_i32_1831 k0_t63
  let v7187 : Index := Scalar.indexCast arg13
  ![0, 3, v7186.toNat, v7187.toNat]
def k0_off95 (v7188 : BitVec 32) : Fin 3 → Nat :=
  let v7189 : Index := Scalar.indexCast v7188
  let c0_3062 : Index := 0#32
  let c0_3063 : Index := 0#32
  ![v7189.toNat, 0, 0]

def k0_chk32 (v7188 : BitVec 32) : Prop :=
  (∀ a, (k0_off95 v7188) a + S1x1x128.size a ≤ S92840x1x128.size a)
theorem k0_off95_inb : ∀ (v7188 : BitVec 32) (k0_hw32 : k0_chk32 v7188), ∀ a, (k0_off95 v7188) a + S1x1x128.size a ≤ S92840x1x128.size a := fun v7188 k0_hw32 => k0_hw32

def k0_off96 (k0_t63 : Fin k0_t63_loop.trips) (k0_t64 : Fin k0_t64_loop.trips) : Fin 3 → Nat :=
  let c0_i32_1829 : BitVec 32 := 0#32
  let c1_i32_1831 : BitVec 32 := 1#32
  let arg13 : BitVec 32 := Scf.iv c0_i32_1829 c1_i32_1831 k0_t63
  let v7192 : Index := Scalar.indexCast arg13
  let c0_i32_3056 : BitVec 32 := 0#32
  let c1_i32_3058 : BitVec 32 := 1#32
  let arg14 : BitVec 32 := Scf.iv c0_i32_3056 c1_i32_3058 k0_t64
  let v7193 : Index := Scalar.indexCast arg14
  let c0_3064 : Index := 0#32
  ![v7192.toNat, v7193.toNat, 0]
@[reducible] def k0_t65_loop : Scf.Loop 32 :=
  let c0_i32_1921 : BitVec 32 := 0#32
  let c128_i32_1922 : BitVec 32 := 128#32
  let v4795 : BitVec 32 := Scalar.addi c0_i32_1921 c128_i32_1922
  let c1_i32_1923 : BitVec 32 := 1#32
  ⟨c0_i32_1921, v4795, c1_i32_1923⟩
@[reducible] def k0_t66_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off97 (k0_t65 : Fin k0_t65_loop.trips) (k0_t66 : Fin k0_t66_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t66
  let v7186 : Index := Scalar.indexCast arg14
  let c0_i32_1921 : BitVec 32 := 0#32
  let c1_i32_1923 : BitVec 32 := 1#32
  let arg13 : BitVec 32 := Scf.iv c0_i32_1921 c1_i32_1923 k0_t65
  let v7187 : Index := Scalar.indexCast arg13
  ![1, 0, v7186.toNat, v7187.toNat]
def k0_off98 (v7188 : BitVec 32) : Fin 3 → Nat :=
  let v7189 : Index := Scalar.indexCast v7188
  let c0_3062 : Index := 0#32
  let c0_3063 : Index := 0#32
  ![v7189.toNat, 0, 0]

def k0_chk33 (v7188 : BitVec 32) : Prop :=
  (∀ a, (k0_off98 v7188) a + S1x1x128.size a ≤ S92840x1x128.size a)
theorem k0_off98_inb : ∀ (v7188 : BitVec 32) (k0_hw33 : k0_chk33 v7188), ∀ a, (k0_off98 v7188) a + S1x1x128.size a ≤ S92840x1x128.size a := fun v7188 k0_hw33 => k0_hw33

def k0_off99 (k0_t65 : Fin k0_t65_loop.trips) (k0_t66 : Fin k0_t66_loop.trips) : Fin 3 → Nat :=
  let c0_i32_1921 : BitVec 32 := 0#32
  let c1_i32_1923 : BitVec 32 := 1#32
  let arg13 : BitVec 32 := Scf.iv c0_i32_1921 c1_i32_1923 k0_t65
  let v7192 : Index := Scalar.indexCast arg13
  let c0_i32_3056 : BitVec 32 := 0#32
  let c1_i32_3058 : BitVec 32 := 1#32
  let arg14 : BitVec 32 := Scf.iv c0_i32_3056 c1_i32_3058 k0_t66
  let v7193 : Index := Scalar.indexCast arg14
  let c0_3064 : Index := 0#32
  ![v7192.toNat, v7193.toNat, 0]
@[reducible] def k0_t67_loop : Scf.Loop 32 :=
  let c0_i32_1950 : BitVec 32 := 0#32
  let c128_i32_1951 : BitVec 32 := 128#32
  let v4875 : BitVec 32 := Scalar.addi c0_i32_1950 c128_i32_1951
  let c1_i32_1952 : BitVec 32 := 1#32
  ⟨c0_i32_1950, v4875, c1_i32_1952⟩
@[reducible] def k0_t68_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off100 (k0_t67 : Fin k0_t67_loop.trips) (k0_t68 : Fin k0_t68_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t68
  let v7186 : Index := Scalar.indexCast arg14
  let c0_i32_1950 : BitVec 32 := 0#32
  let c1_i32_1952 : BitVec 32 := 1#32
  let arg13 : BitVec 32 := Scf.iv c0_i32_1950 c1_i32_1952 k0_t67
  let v7187 : Index := Scalar.indexCast arg13
  ![1, 1, v7186.toNat, v7187.toNat]
def k0_off101 (v7188 : BitVec 32) : Fin 3 → Nat :=
  let v7189 : Index := Scalar.indexCast v7188
  let c0_3062 : Index := 0#32
  let c0_3063 : Index := 0#32
  ![v7189.toNat, 0, 0]

def k0_chk34 (v7188 : BitVec 32) : Prop :=
  (∀ a, (k0_off101 v7188) a + S1x1x128.size a ≤ S92840x1x128.size a)
theorem k0_off101_inb : ∀ (v7188 : BitVec 32) (k0_hw34 : k0_chk34 v7188), ∀ a, (k0_off101 v7188) a + S1x1x128.size a ≤ S92840x1x128.size a := fun v7188 k0_hw34 => k0_hw34

def k0_off102 (k0_t67 : Fin k0_t67_loop.trips) (k0_t68 : Fin k0_t68_loop.trips) : Fin 3 → Nat :=
  let c0_i32_1950 : BitVec 32 := 0#32
  let c1_i32_1952 : BitVec 32 := 1#32
  let arg13 : BitVec 32 := Scf.iv c0_i32_1950 c1_i32_1952 k0_t67
  let v7192 : Index := Scalar.indexCast arg13
  let c0_i32_3056 : BitVec 32 := 0#32
  let c1_i32_3058 : BitVec 32 := 1#32
  let arg14 : BitVec 32 := Scf.iv c0_i32_3056 c1_i32_3058 k0_t68
  let v7193 : Index := Scalar.indexCast arg14
  let c0_3064 : Index := 0#32
  ![v7192.toNat, v7193.toNat, 0]
@[reducible] def k0_t69_loop : Scf.Loop 32 :=
  let c0_i32_1979 : BitVec 32 := 0#32
  let c128_i32_1980 : BitVec 32 := 128#32
  let v4955 : BitVec 32 := Scalar.addi c0_i32_1979 c128_i32_1980
  let c1_i32_1981 : BitVec 32 := 1#32
  ⟨c0_i32_1979, v4955, c1_i32_1981⟩
@[reducible] def k0_t70_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off103 (k0_t69 : Fin k0_t69_loop.trips) (k0_t70 : Fin k0_t70_loop.trips) : Fin 4 → Nat :=
  let c1_3060 : Index := 1#32
  let c2_3061 : Index := 2#32
  let c0_i32_3056 : BitVec 32 := 0#32
  let c1_i32_3058 : BitVec 32 := 1#32
  let arg14 : BitVec 32 := Scf.iv c0_i32_3056 c1_i32_3058 k0_t70
  let v7186 : Index := Scalar.indexCast arg14
  let c0_i32_1979 : BitVec 32 := 0#32
  let c1_i32_1981 : BitVec 32 := 1#32
  let arg13 : BitVec 32 := Scf.iv c0_i32_1979 c1_i32_1981 k0_t69
  let v7187 : Index := Scalar.indexCast arg13
  ![1, 2, v7186.toNat, v7187.toNat]
def k0_off104 (v7188 : BitVec 32) : Fin 3 → Nat :=
  let v7189 : Index := Scalar.indexCast v7188
  let c0_3062 : Index := 0#32
  let c0_3063 : Index := 0#32
  ![v7189.toNat, 0, 0]

def k0_chk35 (v7188 : BitVec 32) : Prop :=
  (∀ a, (k0_off104 v7188) a + S1x1x128.size a ≤ S92840x1x128.size a)
theorem k0_off104_inb : ∀ (v7188 : BitVec 32) (k0_hw35 : k0_chk35 v7188), ∀ a, (k0_off104 v7188) a + S1x1x128.size a ≤ S92840x1x128.size a := fun v7188 k0_hw35 => k0_hw35

def k0_off105 (k0_t69 : Fin k0_t69_loop.trips) (k0_t70 : Fin k0_t70_loop.trips) : Fin 3 → Nat :=
  let c0_i32_1979 : BitVec 32 := 0#32
  let c1_i32_1981 : BitVec 32 := 1#32
  let arg13 : BitVec 32 := Scf.iv c0_i32_1979 c1_i32_1981 k0_t69
  let v7192 : Index := Scalar.indexCast arg13
  let c0_i32_3056 : BitVec 32 := 0#32
  let c1_i32_3058 : BitVec 32 := 1#32
  let arg14 : BitVec 32 := Scf.iv c0_i32_3056 c1_i32_3058 k0_t70
  let v7193 : Index := Scalar.indexCast arg14
  let c0_3064 : Index := 0#32
  ![v7192.toNat, v7193.toNat, 0]
@[reducible] def k0_t71_loop : Scf.Loop 32 :=
  let c0_i32_2008 : BitVec 32 := 0#32
  let c128_i32_2009 : BitVec 32 := 128#32
  let v5035 : BitVec 32 := Scalar.addi c0_i32_2008 c128_i32_2009
  let c1_i32_2010 : BitVec 32 := 1#32
  ⟨c0_i32_2008, v5035, c1_i32_2010⟩
@[reducible] def k0_t72_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off106 (k0_t71 : Fin k0_t71_loop.trips) (k0_t72 : Fin k0_t72_loop.trips) : Fin 4 → Nat :=
  let c1_3060 : Index := 1#32
  let c3_3061 : Index := 3#32
  let c0_i32_3056 : BitVec 32 := 0#32
  let c1_i32_3058 : BitVec 32 := 1#32
  let arg14 : BitVec 32 := Scf.iv c0_i32_3056 c1_i32_3058 k0_t72
  let v7186 : Index := Scalar.indexCast arg14
  let c0_i32_2008 : BitVec 32 := 0#32
  let c1_i32_2010 : BitVec 32 := 1#32
  let arg13 : BitVec 32 := Scf.iv c0_i32_2008 c1_i32_2010 k0_t71
  let v7187 : Index := Scalar.indexCast arg13
  ![1, 3, v7186.toNat, v7187.toNat]
def k0_off107 (v7188 : BitVec 32) : Fin 3 → Nat :=
  let v7189 : Index := Scalar.indexCast v7188
  let c0_3062 : Index := 0#32
  let c0_3063 : Index := 0#32
  ![v7189.toNat, 0, 0]

def k0_chk36 (v7188 : BitVec 32) : Prop :=
  (∀ a, (k0_off107 v7188) a + S1x1x128.size a ≤ S92840x1x128.size a)
theorem k0_off107_inb : ∀ (v7188 : BitVec 32) (k0_hw36 : k0_chk36 v7188), ∀ a, (k0_off107 v7188) a + S1x1x128.size a ≤ S92840x1x128.size a := fun v7188 k0_hw36 => k0_hw36

def k0_off108 (k0_t71 : Fin k0_t71_loop.trips) (k0_t72 : Fin k0_t72_loop.trips) : Fin 3 → Nat :=
  let c0_i32_2008 : BitVec 32 := 0#32
  let c1_i32_2010 : BitVec 32 := 1#32
  let arg13 : BitVec 32 := Scf.iv c0_i32_2008 c1_i32_2010 k0_t71
  let v7192 : Index := Scalar.indexCast arg13
  let c0_i32_3056 : BitVec 32 := 0#32
  let c1_i32_3058 : BitVec 32 := 1#32
  let arg14 : BitVec 32 := Scf.iv c0_i32_3056 c1_i32_3058 k0_t72
  let v7193 : Index := Scalar.indexCast arg14
  let c0_3064 : Index := 0#32
  ![v7192.toNat, v7193.toNat, 0]
@[reducible] def k0_t73_loop : Scf.Loop 32 :=
  let c0_i32_2100 : BitVec 32 := 0#32
  let c128_i32_2101 : BitVec 32 := 128#32
  let v5231 : BitVec 32 := Scalar.addi c0_i32_2100 c128_i32_2101
  let c1_i32_2102 : BitVec 32 := 1#32
  ⟨c0_i32_2100, v5231, c1_i32_2102⟩
@[reducible] def k0_t74_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off109 (k0_t73 : Fin k0_t73_loop.trips) (k0_t74 : Fin k0_t74_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t74
  let v7186 : Index := Scalar.indexCast arg14
  let c0_i32_2100 : BitVec 32 := 0#32
  let c1_i32_2102 : BitVec 32 := 1#32
  let arg13 : BitVec 32 := Scf.iv c0_i32_2100 c1_i32_2102 k0_t73
  let v7187 : Index := Scalar.indexCast arg13
  ![0, 0, v7186.toNat, v7187.toNat]
def k0_off110 (v7188 : BitVec 32) : Fin 3 → Nat :=
  let v7189 : Index := Scalar.indexCast v7188
  let c0_3062 : Index := 0#32
  let c0_3063 : Index := 0#32
  ![v7189.toNat, 0, 0]

def k0_chk37 (v7188 : BitVec 32) : Prop :=
  (∀ a, (k0_off110 v7188) a + S1x1x128.size a ≤ S92840x1x128.size a)
theorem k0_off110_inb : ∀ (v7188 : BitVec 32) (k0_hw37 : k0_chk37 v7188), ∀ a, (k0_off110 v7188) a + S1x1x128.size a ≤ S92840x1x128.size a := fun v7188 k0_hw37 => k0_hw37

def k0_off111 (k0_t73 : Fin k0_t73_loop.trips) (k0_t74 : Fin k0_t74_loop.trips) : Fin 3 → Nat :=
  let c0_i32_2100 : BitVec 32 := 0#32
  let c1_i32_2102 : BitVec 32 := 1#32
  let arg13 : BitVec 32 := Scf.iv c0_i32_2100 c1_i32_2102 k0_t73
  let v7192 : Index := Scalar.indexCast arg13
  let c0_i32_3056 : BitVec 32 := 0#32
  let c1_i32_3058 : BitVec 32 := 1#32
  let arg14 : BitVec 32 := Scf.iv c0_i32_3056 c1_i32_3058 k0_t74
  let v7193 : Index := Scalar.indexCast arg14
  let c0_3064 : Index := 0#32
  ![v7192.toNat, v7193.toNat, 0]
@[reducible] def k0_t75_loop : Scf.Loop 32 :=
  let c0_i32_2129 : BitVec 32 := 0#32
  let c128_i32_2130 : BitVec 32 := 128#32
  let v5311 : BitVec 32 := Scalar.addi c0_i32_2129 c128_i32_2130
  let c1_i32_2131 : BitVec 32 := 1#32
  ⟨c0_i32_2129, v5311, c1_i32_2131⟩
@[reducible] def k0_t76_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off112 (k0_t75 : Fin k0_t75_loop.trips) (k0_t76 : Fin k0_t76_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t76
  let v7186 : Index := Scalar.indexCast arg14
  let c0_i32_2129 : BitVec 32 := 0#32
  let c1_i32_2131 : BitVec 32 := 1#32
  let arg13 : BitVec 32 := Scf.iv c0_i32_2129 c1_i32_2131 k0_t75
  let v7187 : Index := Scalar.indexCast arg13
  ![0, 1, v7186.toNat, v7187.toNat]
def k0_off113 (v7188 : BitVec 32) : Fin 3 → Nat :=
  let v7189 : Index := Scalar.indexCast v7188
  let c0_3062 : Index := 0#32
  let c0_3063 : Index := 0#32
  ![v7189.toNat, 0, 0]

def k0_chk38 (v7188 : BitVec 32) : Prop :=
  (∀ a, (k0_off113 v7188) a + S1x1x128.size a ≤ S92840x1x128.size a)
theorem k0_off113_inb : ∀ (v7188 : BitVec 32) (k0_hw38 : k0_chk38 v7188), ∀ a, (k0_off113 v7188) a + S1x1x128.size a ≤ S92840x1x128.size a := fun v7188 k0_hw38 => k0_hw38

def k0_off114 (k0_t75 : Fin k0_t75_loop.trips) (k0_t76 : Fin k0_t76_loop.trips) : Fin 3 → Nat :=
  let c0_i32_2129 : BitVec 32 := 0#32
  let c1_i32_2131 : BitVec 32 := 1#32
  let arg13 : BitVec 32 := Scf.iv c0_i32_2129 c1_i32_2131 k0_t75
  let v7192 : Index := Scalar.indexCast arg13
  let c0_i32_3056 : BitVec 32 := 0#32
  let c1_i32_3058 : BitVec 32 := 1#32
  let arg14 : BitVec 32 := Scf.iv c0_i32_3056 c1_i32_3058 k0_t76
  let v7193 : Index := Scalar.indexCast arg14
  let c0_3064 : Index := 0#32
  ![v7192.toNat, v7193.toNat, 0]
@[reducible] def k0_t77_loop : Scf.Loop 32 :=
  let c0_i32_2158 : BitVec 32 := 0#32
  let c128_i32_2159 : BitVec 32 := 128#32
  let v5391 : BitVec 32 := Scalar.addi c0_i32_2158 c128_i32_2159
  let c1_i32_2160 : BitVec 32 := 1#32
  ⟨c0_i32_2158, v5391, c1_i32_2160⟩
@[reducible] def k0_t78_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off115 (k0_t77 : Fin k0_t77_loop.trips) (k0_t78 : Fin k0_t78_loop.trips) : Fin 4 → Nat :=
  let c0_3060 : Index := 0#32
  let c2_3061 : Index := 2#32
  let c0_i32_3056 : BitVec 32 := 0#32
  let c1_i32_3058 : BitVec 32 := 1#32
  let arg14 : BitVec 32 := Scf.iv c0_i32_3056 c1_i32_3058 k0_t78
  let v7186 : Index := Scalar.indexCast arg14
  let c0_i32_2158 : BitVec 32 := 0#32
  let c1_i32_2160 : BitVec 32 := 1#32
  let arg13 : BitVec 32 := Scf.iv c0_i32_2158 c1_i32_2160 k0_t77
  let v7187 : Index := Scalar.indexCast arg13
  ![0, 2, v7186.toNat, v7187.toNat]
def k0_off116 (v7188 : BitVec 32) : Fin 3 → Nat :=
  let v7189 : Index := Scalar.indexCast v7188
  let c0_3062 : Index := 0#32
  let c0_3063 : Index := 0#32
  ![v7189.toNat, 0, 0]

def k0_chk39 (v7188 : BitVec 32) : Prop :=
  (∀ a, (k0_off116 v7188) a + S1x1x128.size a ≤ S92840x1x128.size a)
theorem k0_off116_inb : ∀ (v7188 : BitVec 32) (k0_hw39 : k0_chk39 v7188), ∀ a, (k0_off116 v7188) a + S1x1x128.size a ≤ S92840x1x128.size a := fun v7188 k0_hw39 => k0_hw39

def k0_off117 (k0_t77 : Fin k0_t77_loop.trips) (k0_t78 : Fin k0_t78_loop.trips) : Fin 3 → Nat :=
  let c0_i32_2158 : BitVec 32 := 0#32
  let c1_i32_2160 : BitVec 32 := 1#32
  let arg13 : BitVec 32 := Scf.iv c0_i32_2158 c1_i32_2160 k0_t77
  let v7192 : Index := Scalar.indexCast arg13
  let c0_i32_3056 : BitVec 32 := 0#32
  let c1_i32_3058 : BitVec 32 := 1#32
  let arg14 : BitVec 32 := Scf.iv c0_i32_3056 c1_i32_3058 k0_t78
  let v7193 : Index := Scalar.indexCast arg14
  let c0_3064 : Index := 0#32
  ![v7192.toNat, v7193.toNat, 0]
@[reducible] def k0_t79_loop : Scf.Loop 32 :=
  let c0_i32_2187 : BitVec 32 := 0#32
  let c128_i32_2188 : BitVec 32 := 128#32
  let v5471 : BitVec 32 := Scalar.addi c0_i32_2187 c128_i32_2188
  let c1_i32_2189 : BitVec 32 := 1#32
  ⟨c0_i32_2187, v5471, c1_i32_2189⟩
@[reducible] def k0_t80_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off118 (k0_t79 : Fin k0_t79_loop.trips) (k0_t80 : Fin k0_t80_loop.trips) : Fin 4 → Nat :=
  let c0_3060 : Index := 0#32
  let c3_3061 : Index := 3#32
  let c0_i32_3056 : BitVec 32 := 0#32
  let c1_i32_3058 : BitVec 32 := 1#32
  let arg14 : BitVec 32 := Scf.iv c0_i32_3056 c1_i32_3058 k0_t80
  let v7186 : Index := Scalar.indexCast arg14
  let c0_i32_2187 : BitVec 32 := 0#32
  let c1_i32_2189 : BitVec 32 := 1#32
  let arg13 : BitVec 32 := Scf.iv c0_i32_2187 c1_i32_2189 k0_t79
  let v7187 : Index := Scalar.indexCast arg13
  ![0, 3, v7186.toNat, v7187.toNat]
def k0_off119 (v7188 : BitVec 32) : Fin 3 → Nat :=
  let v7189 : Index := Scalar.indexCast v7188
  let c0_3062 : Index := 0#32
  let c0_3063 : Index := 0#32
  ![v7189.toNat, 0, 0]

def k0_chk40 (v7188 : BitVec 32) : Prop :=
  (∀ a, (k0_off119 v7188) a + S1x1x128.size a ≤ S92840x1x128.size a)
theorem k0_off119_inb : ∀ (v7188 : BitVec 32) (k0_hw40 : k0_chk40 v7188), ∀ a, (k0_off119 v7188) a + S1x1x128.size a ≤ S92840x1x128.size a := fun v7188 k0_hw40 => k0_hw40

def k0_off120 (k0_t79 : Fin k0_t79_loop.trips) (k0_t80 : Fin k0_t80_loop.trips) : Fin 3 → Nat :=
  let c0_i32_2187 : BitVec 32 := 0#32
  let c1_i32_2189 : BitVec 32 := 1#32
  let arg13 : BitVec 32 := Scf.iv c0_i32_2187 c1_i32_2189 k0_t79
  let v7192 : Index := Scalar.indexCast arg13
  let c0_i32_3056 : BitVec 32 := 0#32
  let c1_i32_3058 : BitVec 32 := 1#32
  let arg14 : BitVec 32 := Scf.iv c0_i32_3056 c1_i32_3058 k0_t80
  let v7193 : Index := Scalar.indexCast arg14
  let c0_3064 : Index := 0#32
  ![v7192.toNat, v7193.toNat, 0]
@[reducible] def k0_t81_loop : Scf.Loop 32 :=
  let c0_i32_2279 : BitVec 32 := 0#32
  let c128_i32_2280 : BitVec 32 := 128#32
  let v5667 : BitVec 32 := Scalar.addi c0_i32_2279 c128_i32_2280
  let c1_i32_2281 : BitVec 32 := 1#32
  ⟨c0_i32_2279, v5667, c1_i32_2281⟩
@[reducible] def k0_t82_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off121 (k0_t81 : Fin k0_t81_loop.trips) (k0_t82 : Fin k0_t82_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t82
  let v7186 : Index := Scalar.indexCast arg14
  let c0_i32_2279 : BitVec 32 := 0#32
  let c1_i32_2281 : BitVec 32 := 1#32
  let arg13 : BitVec 32 := Scf.iv c0_i32_2279 c1_i32_2281 k0_t81
  let v7187 : Index := Scalar.indexCast arg13
  ![1, 0, v7186.toNat, v7187.toNat]
def k0_off122 (v7188 : BitVec 32) : Fin 3 → Nat :=
  let v7189 : Index := Scalar.indexCast v7188
  let c0_3062 : Index := 0#32
  let c0_3063 : Index := 0#32
  ![v7189.toNat, 0, 0]

def k0_chk41 (v7188 : BitVec 32) : Prop :=
  (∀ a, (k0_off122 v7188) a + S1x1x128.size a ≤ S92840x1x128.size a)
theorem k0_off122_inb : ∀ (v7188 : BitVec 32) (k0_hw41 : k0_chk41 v7188), ∀ a, (k0_off122 v7188) a + S1x1x128.size a ≤ S92840x1x128.size a := fun v7188 k0_hw41 => k0_hw41

def k0_off123 (k0_t81 : Fin k0_t81_loop.trips) (k0_t82 : Fin k0_t82_loop.trips) : Fin 3 → Nat :=
  let c0_i32_2279 : BitVec 32 := 0#32
  let c1_i32_2281 : BitVec 32 := 1#32
  let arg13 : BitVec 32 := Scf.iv c0_i32_2279 c1_i32_2281 k0_t81
  let v7192 : Index := Scalar.indexCast arg13
  let c0_i32_3056 : BitVec 32 := 0#32
  let c1_i32_3058 : BitVec 32 := 1#32
  let arg14 : BitVec 32 := Scf.iv c0_i32_3056 c1_i32_3058 k0_t82
  let v7193 : Index := Scalar.indexCast arg14
  let c0_3064 : Index := 0#32
  ![v7192.toNat, v7193.toNat, 0]
@[reducible] def k0_t83_loop : Scf.Loop 32 :=
  let c0_i32_2308 : BitVec 32 := 0#32
  let c128_i32_2309 : BitVec 32 := 128#32
  let v5747 : BitVec 32 := Scalar.addi c0_i32_2308 c128_i32_2309
  let c1_i32_2310 : BitVec 32 := 1#32
  ⟨c0_i32_2308, v5747, c1_i32_2310⟩
@[reducible] def k0_t84_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off124 (k0_t83 : Fin k0_t83_loop.trips) (k0_t84 : Fin k0_t84_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t84
  let v7186 : Index := Scalar.indexCast arg14
  let c0_i32_2308 : BitVec 32 := 0#32
  let c1_i32_2310 : BitVec 32 := 1#32
  let arg13 : BitVec 32 := Scf.iv c0_i32_2308 c1_i32_2310 k0_t83
  let v7187 : Index := Scalar.indexCast arg13
  ![1, 1, v7186.toNat, v7187.toNat]
def k0_off125 (v7188 : BitVec 32) : Fin 3 → Nat :=
  let v7189 : Index := Scalar.indexCast v7188
  let c0_3062 : Index := 0#32
  let c0_3063 : Index := 0#32
  ![v7189.toNat, 0, 0]

def k0_chk42 (v7188 : BitVec 32) : Prop :=
  (∀ a, (k0_off125 v7188) a + S1x1x128.size a ≤ S92840x1x128.size a)
theorem k0_off125_inb : ∀ (v7188 : BitVec 32) (k0_hw42 : k0_chk42 v7188), ∀ a, (k0_off125 v7188) a + S1x1x128.size a ≤ S92840x1x128.size a := fun v7188 k0_hw42 => k0_hw42

def k0_off126 (k0_t83 : Fin k0_t83_loop.trips) (k0_t84 : Fin k0_t84_loop.trips) : Fin 3 → Nat :=
  let c0_i32_2308 : BitVec 32 := 0#32
  let c1_i32_2310 : BitVec 32 := 1#32
  let arg13 : BitVec 32 := Scf.iv c0_i32_2308 c1_i32_2310 k0_t83
  let v7192 : Index := Scalar.indexCast arg13
  let c0_i32_3056 : BitVec 32 := 0#32
  let c1_i32_3058 : BitVec 32 := 1#32
  let arg14 : BitVec 32 := Scf.iv c0_i32_3056 c1_i32_3058 k0_t84
  let v7193 : Index := Scalar.indexCast arg14
  let c0_3064 : Index := 0#32
  ![v7192.toNat, v7193.toNat, 0]
@[reducible] def k0_t85_loop : Scf.Loop 32 :=
  let c0_i32_2337 : BitVec 32 := 0#32
  let c128_i32_2338 : BitVec 32 := 128#32
  let v5827 : BitVec 32 := Scalar.addi c0_i32_2337 c128_i32_2338
  let c1_i32_2339 : BitVec 32 := 1#32
  ⟨c0_i32_2337, v5827, c1_i32_2339⟩
@[reducible] def k0_t86_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off127 (k0_t85 : Fin k0_t85_loop.trips) (k0_t86 : Fin k0_t86_loop.trips) : Fin 4 → Nat :=
  let c1_3060 : Index := 1#32
  let c2_3061 : Index := 2#32
  let c0_i32_3056 : BitVec 32 := 0#32
  let c1_i32_3058 : BitVec 32 := 1#32
  let arg14 : BitVec 32 := Scf.iv c0_i32_3056 c1_i32_3058 k0_t86
  let v7186 : Index := Scalar.indexCast arg14
  let c0_i32_2337 : BitVec 32 := 0#32
  let c1_i32_2339 : BitVec 32 := 1#32
  let arg13 : BitVec 32 := Scf.iv c0_i32_2337 c1_i32_2339 k0_t85
  let v7187 : Index := Scalar.indexCast arg13
  ![1, 2, v7186.toNat, v7187.toNat]
def k0_off128 (v7188 : BitVec 32) : Fin 3 → Nat :=
  let v7189 : Index := Scalar.indexCast v7188
  let c0_3062 : Index := 0#32
  let c0_3063 : Index := 0#32
  ![v7189.toNat, 0, 0]

def k0_chk43 (v7188 : BitVec 32) : Prop :=
  (∀ a, (k0_off128 v7188) a + S1x1x128.size a ≤ S92840x1x128.size a)
theorem k0_off128_inb : ∀ (v7188 : BitVec 32) (k0_hw43 : k0_chk43 v7188), ∀ a, (k0_off128 v7188) a + S1x1x128.size a ≤ S92840x1x128.size a := fun v7188 k0_hw43 => k0_hw43

def k0_off129 (k0_t85 : Fin k0_t85_loop.trips) (k0_t86 : Fin k0_t86_loop.trips) : Fin 3 → Nat :=
  let c0_i32_2337 : BitVec 32 := 0#32
  let c1_i32_2339 : BitVec 32 := 1#32
  let arg13 : BitVec 32 := Scf.iv c0_i32_2337 c1_i32_2339 k0_t85
  let v7192 : Index := Scalar.indexCast arg13
  let c0_i32_3056 : BitVec 32 := 0#32
  let c1_i32_3058 : BitVec 32 := 1#32
  let arg14 : BitVec 32 := Scf.iv c0_i32_3056 c1_i32_3058 k0_t86
  let v7193 : Index := Scalar.indexCast arg14
  let c0_3064 : Index := 0#32
  ![v7192.toNat, v7193.toNat, 0]
@[reducible] def k0_t87_loop : Scf.Loop 32 :=
  let c0_i32_2366 : BitVec 32 := 0#32
  let c128_i32_2367 : BitVec 32 := 128#32
  let v5907 : BitVec 32 := Scalar.addi c0_i32_2366 c128_i32_2367
  let c1_i32_2368 : BitVec 32 := 1#32
  ⟨c0_i32_2366, v5907, c1_i32_2368⟩
@[reducible] def k0_t88_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off130 (k0_t87 : Fin k0_t87_loop.trips) (k0_t88 : Fin k0_t88_loop.trips) : Fin 4 → Nat :=
  let c1_3060 : Index := 1#32
  let c3_3061 : Index := 3#32
  let c0_i32_3056 : BitVec 32 := 0#32
  let c1_i32_3058 : BitVec 32 := 1#32
  let arg14 : BitVec 32 := Scf.iv c0_i32_3056 c1_i32_3058 k0_t88
  let v7186 : Index := Scalar.indexCast arg14
  let c0_i32_2366 : BitVec 32 := 0#32
  let c1_i32_2368 : BitVec 32 := 1#32
  let arg13 : BitVec 32 := Scf.iv c0_i32_2366 c1_i32_2368 k0_t87
  let v7187 : Index := Scalar.indexCast arg13
  ![1, 3, v7186.toNat, v7187.toNat]
def k0_off131 (v7188 : BitVec 32) : Fin 3 → Nat :=
  let v7189 : Index := Scalar.indexCast v7188
  let c0_3062 : Index := 0#32
  let c0_3063 : Index := 0#32
  ![v7189.toNat, 0, 0]

def k0_chk44 (v7188 : BitVec 32) : Prop :=
  (∀ a, (k0_off131 v7188) a + S1x1x128.size a ≤ S92840x1x128.size a)
theorem k0_off131_inb : ∀ (v7188 : BitVec 32) (k0_hw44 : k0_chk44 v7188), ∀ a, (k0_off131 v7188) a + S1x1x128.size a ≤ S92840x1x128.size a := fun v7188 k0_hw44 => k0_hw44

def k0_off132 (k0_t87 : Fin k0_t87_loop.trips) (k0_t88 : Fin k0_t88_loop.trips) : Fin 3 → Nat :=
  let c0_i32_2366 : BitVec 32 := 0#32
  let c1_i32_2368 : BitVec 32 := 1#32
  let arg13 : BitVec 32 := Scf.iv c0_i32_2366 c1_i32_2368 k0_t87
  let v7192 : Index := Scalar.indexCast arg13
  let c0_i32_3056 : BitVec 32 := 0#32
  let c1_i32_3058 : BitVec 32 := 1#32
  let arg14 : BitVec 32 := Scf.iv c0_i32_3056 c1_i32_3058 k0_t88
  let v7193 : Index := Scalar.indexCast arg14
  let c0_3064 : Index := 0#32
  ![v7192.toNat, v7193.toNat, 0]
@[reducible] def k0_t89_loop : Scf.Loop 32 :=
  let c0_i32_2458 : BitVec 32 := 0#32
  let c128_i32_2459 : BitVec 32 := 128#32
  let v6103 : BitVec 32 := Scalar.addi c0_i32_2458 c128_i32_2459
  let c1_i32_2460 : BitVec 32 := 1#32
  ⟨c0_i32_2458, v6103, c1_i32_2460⟩
@[reducible] def k0_t90_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off133 (k0_t89 : Fin k0_t89_loop.trips) (k0_t90 : Fin k0_t90_loop.trips) : Fin 4 → Nat :=
  let c0_3060 : Index := 0#32
  let c0_3061 : Index := 0#32
  let c0_i32_3056 : BitVec 32 := 0#32
  let c1_i32_3058 : BitVec 32 := 1#32
  let arg14 : BitVec 32 := Scf.iv c0_i32_3056 c1_i32_3058 k0_t90
  let v7186 : Index := Scalar.indexCast arg14
  let c0_i32_2458 : BitVec 32 := 0#32
  let c1_i32_2460 : BitVec 32 := 1#32
  let arg13 : BitVec 32 := Scf.iv c0_i32_2458 c1_i32_2460 k0_t89
  let v7187 : Index := Scalar.indexCast arg13
  ![0, 0, v7186.toNat, v7187.toNat]
def k0_off134 (v7188 : BitVec 32) : Fin 3 → Nat :=
  let v7189 : Index := Scalar.indexCast v7188
  let c0_3062 : Index := 0#32
  let c0_3063 : Index := 0#32
  ![v7189.toNat, 0, 0]

def k0_chk45 (v7188 : BitVec 32) : Prop :=
  (∀ a, (k0_off134 v7188) a + S1x1x128.size a ≤ S92840x1x128.size a)
theorem k0_off134_inb : ∀ (v7188 : BitVec 32) (k0_hw45 : k0_chk45 v7188), ∀ a, (k0_off134 v7188) a + S1x1x128.size a ≤ S92840x1x128.size a := fun v7188 k0_hw45 => k0_hw45

def k0_off135 (k0_t89 : Fin k0_t89_loop.trips) (k0_t90 : Fin k0_t90_loop.trips) : Fin 3 → Nat :=
  let c0_i32_2458 : BitVec 32 := 0#32
  let c1_i32_2460 : BitVec 32 := 1#32
  let arg13 : BitVec 32 := Scf.iv c0_i32_2458 c1_i32_2460 k0_t89
  let v7192 : Index := Scalar.indexCast arg13
  let c0_i32_3056 : BitVec 32 := 0#32
  let c1_i32_3058 : BitVec 32 := 1#32
  let arg14 : BitVec 32 := Scf.iv c0_i32_3056 c1_i32_3058 k0_t90
  let v7193 : Index := Scalar.indexCast arg14
  let c0_3064 : Index := 0#32
  ![v7192.toNat, v7193.toNat, 0]
@[reducible] def k0_t91_loop : Scf.Loop 32 :=
  let c0_i32_2487 : BitVec 32 := 0#32
  let c128_i32_2488 : BitVec 32 := 128#32
  let v6183 : BitVec 32 := Scalar.addi c0_i32_2487 c128_i32_2488
  let c1_i32_2489 : BitVec 32 := 1#32
  ⟨c0_i32_2487, v6183, c1_i32_2489⟩
@[reducible] def k0_t92_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off136 (k0_t91 : Fin k0_t91_loop.trips) (k0_t92 : Fin k0_t92_loop.trips) : Fin 4 → Nat :=
  let c0_3060 : Index := 0#32
  let c1_3061 : Index := 1#32
  let c0_i32_3056 : BitVec 32 := 0#32
  let c1_i32_3058 : BitVec 32 := 1#32
  let arg14 : BitVec 32 := Scf.iv c0_i32_3056 c1_i32_3058 k0_t92
  let v7186 : Index := Scalar.indexCast arg14
  let c0_i32_2487 : BitVec 32 := 0#32
  let c1_i32_2489 : BitVec 32 := 1#32
  let arg13 : BitVec 32 := Scf.iv c0_i32_2487 c1_i32_2489 k0_t91
  let v7187 : Index := Scalar.indexCast arg13
  ![0, 1, v7186.toNat, v7187.toNat]
def k0_off137 (v7188 : BitVec 32) : Fin 3 → Nat :=
  let v7189 : Index := Scalar.indexCast v7188
  let c0_3062 : Index := 0#32
  let c0_3063 : Index := 0#32
  ![v7189.toNat, 0, 0]

def k0_chk46 (v7188 : BitVec 32) : Prop :=
  (∀ a, (k0_off137 v7188) a + S1x1x128.size a ≤ S92840x1x128.size a)
theorem k0_off137_inb : ∀ (v7188 : BitVec 32) (k0_hw46 : k0_chk46 v7188), ∀ a, (k0_off137 v7188) a + S1x1x128.size a ≤ S92840x1x128.size a := fun v7188 k0_hw46 => k0_hw46

def k0_off138 (k0_t91 : Fin k0_t91_loop.trips) (k0_t92 : Fin k0_t92_loop.trips) : Fin 3 → Nat :=
  let c0_i32_2487 : BitVec 32 := 0#32
  let c1_i32_2489 : BitVec 32 := 1#32
  let arg13 : BitVec 32 := Scf.iv c0_i32_2487 c1_i32_2489 k0_t91
  let v7192 : Index := Scalar.indexCast arg13
  let c0_i32_3056 : BitVec 32 := 0#32
  let c1_i32_3058 : BitVec 32 := 1#32
  let arg14 : BitVec 32 := Scf.iv c0_i32_3056 c1_i32_3058 k0_t92
  let v7193 : Index := Scalar.indexCast arg14
  let c0_3064 : Index := 0#32
  ![v7192.toNat, v7193.toNat, 0]
@[reducible] def k0_t93_loop : Scf.Loop 32 :=
  let c0_i32_2516 : BitVec 32 := 0#32
  let c128_i32_2517 : BitVec 32 := 128#32
  let v6263 : BitVec 32 := Scalar.addi c0_i32_2516 c128_i32_2517
  let c1_i32_2518 : BitVec 32 := 1#32
  ⟨c0_i32_2516, v6263, c1_i32_2518⟩
@[reducible] def k0_t94_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off139 (k0_t93 : Fin k0_t93_loop.trips) (k0_t94 : Fin k0_t94_loop.trips) : Fin 4 → Nat :=
  let c0_3060 : Index := 0#32
  let c2_3061 : Index := 2#32
  let c0_i32_3056 : BitVec 32 := 0#32
  let c1_i32_3058 : BitVec 32 := 1#32
  let arg14 : BitVec 32 := Scf.iv c0_i32_3056 c1_i32_3058 k0_t94
  let v7186 : Index := Scalar.indexCast arg14
  let c0_i32_2516 : BitVec 32 := 0#32
  let c1_i32_2518 : BitVec 32 := 1#32
  let arg13 : BitVec 32 := Scf.iv c0_i32_2516 c1_i32_2518 k0_t93
  let v7187 : Index := Scalar.indexCast arg13
  ![0, 2, v7186.toNat, v7187.toNat]
def k0_off140 (v7188 : BitVec 32) : Fin 3 → Nat :=
  let v7189 : Index := Scalar.indexCast v7188
  let c0_3062 : Index := 0#32
  let c0_3063 : Index := 0#32
  ![v7189.toNat, 0, 0]

def k0_chk47 (v7188 : BitVec 32) : Prop :=
  (∀ a, (k0_off140 v7188) a + S1x1x128.size a ≤ S92840x1x128.size a)
theorem k0_off140_inb : ∀ (v7188 : BitVec 32) (k0_hw47 : k0_chk47 v7188), ∀ a, (k0_off140 v7188) a + S1x1x128.size a ≤ S92840x1x128.size a := fun v7188 k0_hw47 => k0_hw47

def k0_off141 (k0_t93 : Fin k0_t93_loop.trips) (k0_t94 : Fin k0_t94_loop.trips) : Fin 3 → Nat :=
  let c0_i32_2516 : BitVec 32 := 0#32
  let c1_i32_2518 : BitVec 32 := 1#32
  let arg13 : BitVec 32 := Scf.iv c0_i32_2516 c1_i32_2518 k0_t93
  let v7192 : Index := Scalar.indexCast arg13
  let c0_i32_3056 : BitVec 32 := 0#32
  let c1_i32_3058 : BitVec 32 := 1#32
  let arg14 : BitVec 32 := Scf.iv c0_i32_3056 c1_i32_3058 k0_t94
  let v7193 : Index := Scalar.indexCast arg14
  let c0_3064 : Index := 0#32
  ![v7192.toNat, v7193.toNat, 0]
@[reducible] def k0_t95_loop : Scf.Loop 32 :=
  let c0_i32_2545 : BitVec 32 := 0#32
  let c128_i32_2546 : BitVec 32 := 128#32
  let v6343 : BitVec 32 := Scalar.addi c0_i32_2545 c128_i32_2546
  let c1_i32_2547 : BitVec 32 := 1#32
  ⟨c0_i32_2545, v6343, c1_i32_2547⟩
@[reducible] def k0_t96_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off142 (k0_t95 : Fin k0_t95_loop.trips) (k0_t96 : Fin k0_t96_loop.trips) : Fin 4 → Nat :=
  let c0_3060 : Index := 0#32
  let c3_3061 : Index := 3#32
  let c0_i32_3056 : BitVec 32 := 0#32
  let c1_i32_3058 : BitVec 32 := 1#32
  let arg14 : BitVec 32 := Scf.iv c0_i32_3056 c1_i32_3058 k0_t96
  let v7186 : Index := Scalar.indexCast arg14
  let c0_i32_2545 : BitVec 32 := 0#32
  let c1_i32_2547 : BitVec 32 := 1#32
  let arg13 : BitVec 32 := Scf.iv c0_i32_2545 c1_i32_2547 k0_t95
  let v7187 : Index := Scalar.indexCast arg13
  ![0, 3, v7186.toNat, v7187.toNat]
def k0_off143 (v7188 : BitVec 32) : Fin 3 → Nat :=
  let v7189 : Index := Scalar.indexCast v7188
  let c0_3062 : Index := 0#32
  let c0_3063 : Index := 0#32
  ![v7189.toNat, 0, 0]

def k0_chk48 (v7188 : BitVec 32) : Prop :=
  (∀ a, (k0_off143 v7188) a + S1x1x128.size a ≤ S92840x1x128.size a)
theorem k0_off143_inb : ∀ (v7188 : BitVec 32) (k0_hw48 : k0_chk48 v7188), ∀ a, (k0_off143 v7188) a + S1x1x128.size a ≤ S92840x1x128.size a := fun v7188 k0_hw48 => k0_hw48

def k0_off144 (k0_t95 : Fin k0_t95_loop.trips) (k0_t96 : Fin k0_t96_loop.trips) : Fin 3 → Nat :=
  let c0_i32_2545 : BitVec 32 := 0#32
  let c1_i32_2547 : BitVec 32 := 1#32
  let arg13 : BitVec 32 := Scf.iv c0_i32_2545 c1_i32_2547 k0_t95
  let v7192 : Index := Scalar.indexCast arg13
  let c0_i32_3056 : BitVec 32 := 0#32
  let c1_i32_3058 : BitVec 32 := 1#32
  let arg14 : BitVec 32 := Scf.iv c0_i32_3056 c1_i32_3058 k0_t96
  let v7193 : Index := Scalar.indexCast arg14
  let c0_3064 : Index := 0#32
  ![v7192.toNat, v7193.toNat, 0]
@[reducible] def k0_t97_loop : Scf.Loop 32 :=
  let c0_i32_2585 : BitVec 32 := 0#32
  let c128_i32_2586 : BitVec 32 := 128#32
  let v6431 : BitVec 32 := Scalar.addi c0_i32_2585 c128_i32_2586
  let c1_i32_2587 : BitVec 32 := 1#32
  ⟨c0_i32_2585, v6431, c1_i32_2587⟩
@[reducible] def k0_t98_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off145 (k0_t97 : Fin k0_t97_loop.trips) (k0_t98 : Fin k0_t98_loop.trips) : Fin 4 → Nat :=
  let c1_3060 : Index := 1#32
  let c0_3061 : Index := 0#32
  let c0_i32_3056 : BitVec 32 := 0#32
  let c1_i32_3058 : BitVec 32 := 1#32
  let arg14 : BitVec 32 := Scf.iv c0_i32_3056 c1_i32_3058 k0_t98
  let v7186 : Index := Scalar.indexCast arg14
  let c0_i32_2585 : BitVec 32 := 0#32
  let c1_i32_2587 : BitVec 32 := 1#32
  let arg13 : BitVec 32 := Scf.iv c0_i32_2585 c1_i32_2587 k0_t97
  let v7187 : Index := Scalar.indexCast arg13
  ![1, 0, v7186.toNat, v7187.toNat]
def k0_off146 (v7188 : BitVec 32) : Fin 3 → Nat :=
  let v7189 : Index := Scalar.indexCast v7188
  let c0_3062 : Index := 0#32
  let c0_3063 : Index := 0#32
  ![v7189.toNat, 0, 0]

def k0_chk49 (v7188 : BitVec 32) : Prop :=
  (∀ a, (k0_off146 v7188) a + S1x1x128.size a ≤ S92840x1x128.size a)
theorem k0_off146_inb : ∀ (v7188 : BitVec 32) (k0_hw49 : k0_chk49 v7188), ∀ a, (k0_off146 v7188) a + S1x1x128.size a ≤ S92840x1x128.size a := fun v7188 k0_hw49 => k0_hw49

def k0_off147 (k0_t97 : Fin k0_t97_loop.trips) (k0_t98 : Fin k0_t98_loop.trips) : Fin 3 → Nat :=
  let c0_i32_2585 : BitVec 32 := 0#32
  let c1_i32_2587 : BitVec 32 := 1#32
  let arg13 : BitVec 32 := Scf.iv c0_i32_2585 c1_i32_2587 k0_t97
  let v7192 : Index := Scalar.indexCast arg13
  let c0_i32_3056 : BitVec 32 := 0#32
  let c1_i32_3058 : BitVec 32 := 1#32
  let arg14 : BitVec 32 := Scf.iv c0_i32_3056 c1_i32_3058 k0_t98
  let v7193 : Index := Scalar.indexCast arg14
  let c0_3064 : Index := 0#32
  ![v7192.toNat, v7193.toNat, 0]
@[reducible] def k0_t99_loop : Scf.Loop 32 :=
  let c0_i32_2614 : BitVec 32 := 0#32
  let c128_i32_2615 : BitVec 32 := 128#32
  let v6511 : BitVec 32 := Scalar.addi c0_i32_2614 c128_i32_2615
  let c1_i32_2616 : BitVec 32 := 1#32
  ⟨c0_i32_2614, v6511, c1_i32_2616⟩
@[reducible] def k0_t100_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off148 (k0_t99 : Fin k0_t99_loop.trips) (k0_t100 : Fin k0_t100_loop.trips) : Fin 4 → Nat :=
  let c1_3060 : Index := 1#32
  let c1_3061 : Index := 1#32
  let c0_i32_3056 : BitVec 32 := 0#32
  let c1_i32_3058 : BitVec 32 := 1#32
  let arg14 : BitVec 32 := Scf.iv c0_i32_3056 c1_i32_3058 k0_t100
  let v7186 : Index := Scalar.indexCast arg14
  let c0_i32_2614 : BitVec 32 := 0#32
  let c1_i32_2616 : BitVec 32 := 1#32
  let arg13 : BitVec 32 := Scf.iv c0_i32_2614 c1_i32_2616 k0_t99
  let v7187 : Index := Scalar.indexCast arg13
  ![1, 1, v7186.toNat, v7187.toNat]
def k0_off149 (v7188 : BitVec 32) : Fin 3 → Nat :=
  let v7189 : Index := Scalar.indexCast v7188
  let c0_3062 : Index := 0#32
  let c0_3063 : Index := 0#32
  ![v7189.toNat, 0, 0]

def k0_chk50 (v7188 : BitVec 32) : Prop :=
  (∀ a, (k0_off149 v7188) a + S1x1x128.size a ≤ S92840x1x128.size a)
theorem k0_off149_inb : ∀ (v7188 : BitVec 32) (k0_hw50 : k0_chk50 v7188), ∀ a, (k0_off149 v7188) a + S1x1x128.size a ≤ S92840x1x128.size a := fun v7188 k0_hw50 => k0_hw50

def k0_off150 (k0_t99 : Fin k0_t99_loop.trips) (k0_t100 : Fin k0_t100_loop.trips) : Fin 3 → Nat :=
  let c0_i32_2614 : BitVec 32 := 0#32
  let c1_i32_2616 : BitVec 32 := 1#32
  let arg13 : BitVec 32 := Scf.iv c0_i32_2614 c1_i32_2616 k0_t99
  let v7192 : Index := Scalar.indexCast arg13
  let c0_i32_3056 : BitVec 32 := 0#32
  let c1_i32_3058 : BitVec 32 := 1#32
  let arg14 : BitVec 32 := Scf.iv c0_i32_3056 c1_i32_3058 k0_t100
  let v7193 : Index := Scalar.indexCast arg14
  let c0_3064 : Index := 0#32
  ![v7192.toNat, v7193.toNat, 0]
@[reducible] def k0_t101_loop : Scf.Loop 32 :=
  let c0_i32_2643 : BitVec 32 := 0#32
  let c128_i32_2644 : BitVec 32 := 128#32
  let v6591 : BitVec 32 := Scalar.addi c0_i32_2643 c128_i32_2644
  let c1_i32_2645 : BitVec 32 := 1#32
  ⟨c0_i32_2643, v6591, c1_i32_2645⟩
@[reducible] def k0_t102_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off151 (k0_t101 : Fin k0_t101_loop.trips) (k0_t102 : Fin k0_t102_loop.trips) : Fin 4 → Nat :=
  let c1_3060 : Index := 1#32
  let c2_3061 : Index := 2#32
  let c0_i32_3056 : BitVec 32 := 0#32
  let c1_i32_3058 : BitVec 32 := 1#32
  let arg14 : BitVec 32 := Scf.iv c0_i32_3056 c1_i32_3058 k0_t102
  let v7186 : Index := Scalar.indexCast arg14
  let c0_i32_2643 : BitVec 32 := 0#32
  let c1_i32_2645 : BitVec 32 := 1#32
  let arg13 : BitVec 32 := Scf.iv c0_i32_2643 c1_i32_2645 k0_t101
  let v7187 : Index := Scalar.indexCast arg13
  ![1, 2, v7186.toNat, v7187.toNat]
def k0_off152 (v7188 : BitVec 32) : Fin 3 → Nat :=
  let v7189 : Index := Scalar.indexCast v7188
  let c0_3062 : Index := 0#32
  let c0_3063 : Index := 0#32
  ![v7189.toNat, 0, 0]

def k0_chk51 (v7188 : BitVec 32) : Prop :=
  (∀ a, (k0_off152 v7188) a + S1x1x128.size a ≤ S92840x1x128.size a)
theorem k0_off152_inb : ∀ (v7188 : BitVec 32) (k0_hw51 : k0_chk51 v7188), ∀ a, (k0_off152 v7188) a + S1x1x128.size a ≤ S92840x1x128.size a := fun v7188 k0_hw51 => k0_hw51

def k0_off153 (k0_t101 : Fin k0_t101_loop.trips) (k0_t102 : Fin k0_t102_loop.trips) : Fin 3 → Nat :=
  let c0_i32_2643 : BitVec 32 := 0#32
  let c1_i32_2645 : BitVec 32 := 1#32
  let arg13 : BitVec 32 := Scf.iv c0_i32_2643 c1_i32_2645 k0_t101
  let v7192 : Index := Scalar.indexCast arg13
  let c0_i32_3056 : BitVec 32 := 0#32
  let c1_i32_3058 : BitVec 32 := 1#32
  let arg14 : BitVec 32 := Scf.iv c0_i32_3056 c1_i32_3058 k0_t102
  let v7193 : Index := Scalar.indexCast arg14
  let c0_3064 : Index := 0#32
  ![v7192.toNat, v7193.toNat, 0]
@[reducible] def k0_t103_loop : Scf.Loop 32 :=
  let c0_i32_2672 : BitVec 32 := 0#32
  let c128_i32_2673 : BitVec 32 := 128#32
  let v6671 : BitVec 32 := Scalar.addi c0_i32_2672 c128_i32_2673
  let c1_i32_2674 : BitVec 32 := 1#32
  ⟨c0_i32_2672, v6671, c1_i32_2674⟩
@[reducible] def k0_t104_loop : Scf.Loop 32 :=
  let c0_i32_3056 : BitVec 32 := 0#32
  let c8_i32_3057 : BitVec 32 := 8#32
  let v7185 : BitVec 32 := Scalar.addi c0_i32_3056 c8_i32_3057
  let c1_i32_3058 : BitVec 32 := 1#32
  ⟨c0_i32_3056, v7185, c1_i32_3058⟩
def k0_off154 (k0_t103 : Fin k0_t103_loop.trips) (k0_t104 : Fin k0_t104_loop.trips) : Fin 4 → Nat :=
  let c1_3060 : Index := 1#32
  let c3_3061 : Index := 3#32
  let c0_i32_3056 : BitVec 32 := 0#32
  let c1_i32_3058 : BitVec 32 := 1#32
  let arg14 : BitVec 32 := Scf.iv c0_i32_3056 c1_i32_3058 k0_t104
  let v7186 : Index := Scalar.indexCast arg14
  let c0_i32_2672 : BitVec 32 := 0#32
  let c1_i32_2674 : BitVec 32 := 1#32
  let arg13 : BitVec 32 := Scf.iv c0_i32_2672 c1_i32_2674 k0_t103
  let v7187 : Index := Scalar.indexCast arg13
  ![1, 3, v7186.toNat, v7187.toNat]
def k0_off155 (v7188 : BitVec 32) : Fin 3 → Nat :=
  let v7189 : Index := Scalar.indexCast v7188
  let c0_3062 : Index := 0#32
  let c0_3063 : Index := 0#32
  ![v7189.toNat, 0, 0]

def k0_chk52 (v7188 : BitVec 32) : Prop :=
  (∀ a, (k0_off155 v7188) a + S1x1x128.size a ≤ S92840x1x128.size a)
theorem k0_off155_inb : ∀ (v7188 : BitVec 32) (k0_hw52 : k0_chk52 v7188), ∀ a, (k0_off155 v7188) a + S1x1x128.size a ≤ S92840x1x128.size a := fun v7188 k0_hw52 => k0_hw52

def k0_off156 (k0_t103 : Fin k0_t103_loop.trips) (k0_t104 : Fin k0_t104_loop.trips) : Fin 3 → Nat :=
  let c0_i32_2672 : BitVec 32 := 0#32
  let c1_i32_2674 : BitVec 32 := 1#32
  let arg13 : BitVec 32 := Scf.iv c0_i32_2672 c1_i32_2674 k0_t103
  let v7192 : Index := Scalar.indexCast arg13
  let c0_i32_3056 : BitVec 32 := 0#32
  let c1_i32_3058 : BitVec 32 := 1#32
  let arg14 : BitVec 32 := Scf.iv c0_i32_3056 c1_i32_3058 k0_t104
  let v7193 : Index := Scalar.indexCast arg14
  let c0_3064 : Index := 0#32
  ![v7192.toNat, v7193.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S92840x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2097152x2 : Shape := ⟨2, ![2097152, 2]⟩
abbrev S16x524288x2 : Shape := ⟨3, ![16, 524288, 2]⟩
abbrev S32x128 : Shape := ⟨2, ![32, 128]⟩
abbrev S7x128x128 : Shape := ⟨3, ![7, 128, 128]⟩
abbrev S128x3 : Shape := ⟨2, ![128, 3]⟩
abbrev S16 : Shape := ⟨1, ![16]⟩
abbrev S16x1 : Shape := ⟨2, ![16, 1]⟩
abbrev S8388608x2 : Shape := ⟨2, ![8388608, 2]⟩
abbrev S2097152x1 : Shape := ⟨2, ![2097152, 1]⟩
abbrev S2097152 : Shape := ⟨1, ![2097152]⟩
abbrev S1x2097152 : Shape := ⟨2, ![1, 2097152]⟩
abbrev S16x2097152 : Shape := ⟨2, ![16, 2097152]⟩
abbrev S_ : Shape := ⟨0, ![]⟩
abbrev S16x2097152x2 : Shape := ⟨3, ![16, 2097152, 2]⟩
abbrev S16x2097152x1 : Shape := ⟨3, ![16, 2097152, 1]⟩
abbrev S2097152x16x2 : Shape := ⟨3, ![2097152, 16, 2]⟩
abbrev S2097152x32 : Shape := ⟨2, ![2097152, 32]⟩
abbrev S2097152x128 : Shape := ⟨2, ![2097152, 128]⟩
abbrev S1x128x128 : Shape := ⟨3, ![1, 128, 128]⟩
abbrev S128x128 : Shape := ⟨2, ![128, 128]⟩
abbrev S2097152x3 : Shape := ⟨2, ![2097152, 3]⟩

abbrev nBuf : Space → Nat
  | .hbm => 227
  | .vmem => 0
  | .smem => 0
  | _ => 0

abbrev hbmTy0_0 (i : Nat) : BufTy := match i % 128 with
  | 0 => ⟨S2097152x2, .f32⟩
  | 1 => ⟨S16x524288x2, .f32⟩
  | 2 => ⟨S32x128, .f32⟩
  | 3 => ⟨S7x128x128, .f32⟩
  | 4 => ⟨S128x3, .f32⟩
  | 5 => ⟨S16, .f32⟩
  | 6 => ⟨S16x1, .f32⟩
  | 7 => ⟨S16, .i32⟩
  | 8 => ⟨S16x1, .i32⟩
  | 9 => ⟨S16, .i32⟩
  | 10 => ⟨S16x1, .i32⟩
  | 11 => ⟨S16, .i1⟩
  | 12 => ⟨S16x1, .i1⟩
  | 13 => ⟨S16, .i32⟩
  | 14 => ⟨S16x1, .i32⟩
  | 15 => ⟨S8388608x2, .f32⟩
  | 16 => ⟨S2097152x1, .f32⟩
  | 17 => ⟨S2097152, .f32⟩
  | 18 => ⟨S1x2097152, .f32⟩
  | 19 => ⟨S16x2097152, .f32⟩
  | 20 => ⟨S16x2097152, .f32⟩
  | 21 => ⟨S16x2097152, .f32⟩
  | 22 => ⟨S_, .f32⟩
  | 23 => ⟨S16x2097152, .f32⟩
  | 24 => ⟨S16x2097152, .f32⟩
  | 25 => ⟨S16x2097152, .f32⟩
  | 26 => ⟨S16x2097152, .i32⟩
  | 27 => ⟨S16x2097152, .f32⟩
  | 28 => ⟨S2097152x1, .f32⟩
  | 29 => ⟨S2097152, .f32⟩
  | 30 => ⟨S1x2097152, .f32⟩
  | 31 => ⟨S16x2097152, .f32⟩
  | 32 => ⟨S16x2097152, .f32⟩
  | 33 => ⟨S16x2097152, .f32⟩
  | 34 => ⟨S_, .f32⟩
  | 35 => ⟨S16x2097152, .f32⟩
  | 36 => ⟨S16x2097152, .f32⟩
  | 37 => ⟨S16x2097152, .f32⟩
  | 38 => ⟨S16x2097152, .i32⟩
  | 39 => ⟨S16x2097152, .f32⟩
  | 40 => ⟨S_, .f32⟩
  | 41 => ⟨S16x2097152x2, .f32⟩
  | 42 => ⟨S_, .i32⟩
  | 43 => ⟨S16x2097152, .i32⟩
  | 44 => ⟨S16x2097152, .i32⟩
  | 45 => ⟨S_, .i32⟩
  | 46 => ⟨S16x2097152, .i32⟩
  | 47 => ⟨S16x2097152, .i32⟩
  | 48 => ⟨S16x2097152, .i32⟩
  | 49 => ⟨S16x2097152, .i32⟩
  | 50 => ⟨S16x2097152, .i32⟩
  | 51 => ⟨S16x2097152, .i32⟩
  | 52 => ⟨S16x2097152, .i32⟩
  | 53 => ⟨S16x2097152, .i32⟩
  | 54 => ⟨S16x2097152, .i32⟩
  | 55 => ⟨S_, .i32⟩
  | 56 => ⟨S16x2097152, .i32⟩
  | 57 => ⟨S16x2097152, .i32⟩
  | 58 => ⟨S16x2097152, .i32⟩
  | 59 => ⟨S_, .i32⟩
  | 60 => ⟨S16x2097152, .i32⟩
  | 61 => ⟨S16x2097152, .i32⟩
  | 62 => ⟨S16x2097152, .i1⟩
  | 63 => ⟨S16x2097152, .i32⟩
  | 64 => ⟨S_, .f32⟩
  | 65 => ⟨S16x2097152, .f32⟩
  | 66 => ⟨S16x2097152, .f32⟩
  | 67 => ⟨S_, .f32⟩
  | 68 => ⟨S16x2097152, .f32⟩
  | 69 => ⟨S16x2097152, .f32⟩
  | 70 => ⟨S16x2097152, .i32⟩
  | 71 => ⟨S16x2097152, .i32⟩
  | 72 => ⟨S16x2097152x1, .i32⟩
  | 73 => ⟨S16x2097152x2, .f32⟩
  | 74 => ⟨S16x2097152, .f32⟩
  | 75 => ⟨S16x2097152x1, .f32⟩
  | 76 => ⟨S16x2097152x2, .f32⟩
  | 77 => ⟨S16x2097152x2, .f32⟩
  | 78 => ⟨S16x2097152x2, .f32⟩
  | 79 => ⟨S_, .i32⟩
  | 80 => ⟨S16x2097152, .i32⟩
  | 81 => ⟨S16x2097152, .i32⟩
  | 82 => ⟨S_, .i32⟩
  | 83 => ⟨S16x2097152, .i32⟩
  | 84 => ⟨S16x2097152, .i32⟩
  | 85 => ⟨S16x2097152, .i32⟩
  | 86 => ⟨S16x2097152, .i32⟩
  | 87 => ⟨S16x2097152, .i32⟩
  | 88 => ⟨S16x2097152, .i32⟩
  | 89 => ⟨S16x2097152, .i32⟩
  | 90 => ⟨S16x2097152, .i32⟩
  | 91 => ⟨S16x2097152, .i32⟩
  | 92 => ⟨S_, .i32⟩
  | 93 => ⟨S16x2097152, .i32⟩
  | 94 => ⟨S16x2097152, .i32⟩
  | 95 => ⟨S16x2097152, .i32⟩
  | 96 => ⟨S_, .i32⟩
  | 97 => ⟨S16x2097152, .i32⟩
  | 98 => ⟨S16x2097152, .i32⟩
  | 99 => ⟨S16x2097152, .i1⟩
  | 100 => ⟨S16x2097152, .i32⟩
  | 101 => ⟨S_, .f32⟩
  | 102 => ⟨S16x2097152, .f32⟩
  | 103 => ⟨S16x2097152, .f32⟩
  | 104 => ⟨S16x2097152, .i32⟩
  | 105 => ⟨S16x2097152, .i32⟩
  | 106 => ⟨S16x2097152x1, .i32⟩
  | 107 => ⟨S16x2097152x2, .f32⟩
  | 108 => ⟨S16x2097152, .f32⟩
  | 109 => ⟨S16x2097152x1, .f32⟩
  | 110 => ⟨S16x2097152x2, .f32⟩
  | 111 => ⟨S16x2097152x2, .f32⟩
  | 112 => ⟨S16x2097152x2, .f32⟩
  | 113 => ⟨S_, .i32⟩
  | 114 => ⟨S16x2097152, .i32⟩
  | 115 => ⟨S16x2097152, .i32⟩
  | 116 => ⟨S_, .i32⟩
  | 117 => ⟨S16x2097152, .i32⟩
  | 118 => ⟨S16x2097152, .i32⟩
  | 119 => ⟨S16x2097152, .i32⟩
  | 120 => ⟨S16x2097152, .i32⟩
  | 121 => ⟨S16x2097152, .i32⟩
  | 122 => ⟨S16x2097152, .i32⟩
  | 123 => ⟨S16x2097152, .i32⟩
  | 124 => ⟨S16x2097152, .i32⟩
  | 125 => ⟨S16x2097152, .i32⟩
  | 126 => ⟨S_, .i32⟩
  | 127 => ⟨S16x2097152, .i32⟩
  | _ => ⟨S2097152x2, .f32⟩

abbrev hbmTy0_1 (i : Nat) : BufTy := match i % 128 with
  | 0 => ⟨S16x2097152, .i32⟩
  | 1 => ⟨S16x2097152, .i32⟩
  | 2 => ⟨S_, .i32⟩
  | 3 => ⟨S16x2097152, .i32⟩
  | 4 => ⟨S16x2097152, .i32⟩
  | 5 => ⟨S16x2097152, .i1⟩
  | 6 => ⟨S16x2097152, .i32⟩
  | 7 => ⟨S_, .f32⟩
  | 8 => ⟨S16x2097152, .f32⟩
  | 9 => ⟨S16x2097152, .f32⟩
  | 10 => ⟨S16x2097152, .i32⟩
  | 11 => ⟨S16x2097152, .i32⟩
  | 12 => ⟨S16x2097152x1, .i32⟩
  | 13 => ⟨S16x2097152x2, .f32⟩
  | 14 => ⟨S16x2097152, .f32⟩
  | 15 => ⟨S16x2097152x1, .f32⟩
  | 16 => ⟨S16x2097152x2, .f32⟩
  | 17 => ⟨S16x2097152x2, .f32⟩
  | 18 => ⟨S16x2097152x2, .f32⟩
  | 19 => ⟨S_, .i32⟩
  | 20 => ⟨S16x2097152, .i32⟩
  | 21 => ⟨S16x2097152, .i32⟩
  | 22 => ⟨S_, .i32⟩
  | 23 => ⟨S16x2097152, .i32⟩
  | 24 => ⟨S16x2097152, .i32⟩
  | 25 => ⟨S16x2097152, .i32⟩
  | 26 => ⟨S16x2097152, .i32⟩
  | 27 => ⟨S16x2097152, .i32⟩
  | 28 => ⟨S16x2097152, .i32⟩
  | 29 => ⟨S16x2097152, .i32⟩
  | 30 => ⟨S16x2097152, .i32⟩
  | 31 => ⟨S16x2097152, .i32⟩
  | 32 => ⟨S_, .i32⟩
  | 33 => ⟨S16x2097152, .i32⟩
  | 34 => ⟨S16x2097152, .i32⟩
  | 35 => ⟨S16x2097152, .i32⟩
  | 36 => ⟨S_, .i32⟩
  | 37 => ⟨S16x2097152, .i32⟩
  | 38 => ⟨S16x2097152, .i32⟩
  | 39 => ⟨S16x2097152, .i1⟩
  | 40 => ⟨S16x2097152, .i32⟩
  | 41 => ⟨S16x2097152, .i32⟩
  | 42 => ⟨S16x2097152, .i32⟩
  | 43 => ⟨S16x2097152x1, .i32⟩
  | 44 => ⟨S16x2097152x2, .f32⟩
  | 45 => ⟨S16x2097152, .f32⟩
  | 46 => ⟨S16x2097152x1, .f32⟩
  | 47 => ⟨S16x2097152x2, .f32⟩
  | 48 => ⟨S16x2097152x2, .f32⟩
  | 49 => ⟨S16x2097152x2, .f32⟩
  | 50 => ⟨S2097152x16x2, .f32⟩
  | 51 => ⟨S2097152x32, .f32⟩
  | 52 => ⟨S2097152x128, .f32⟩
  | 53 => ⟨S_, .f32⟩
  | 54 => ⟨S2097152x128, .f32⟩
  | 55 => ⟨S2097152x128, .f32⟩
  | 56 => ⟨S1x128x128, .f32⟩
  | 57 => ⟨S128x128, .f32⟩
  | 58 => ⟨S2097152x128, .f32⟩
  | 59 => ⟨S_, .f32⟩
  | 60 => ⟨S2097152x128, .f32⟩
  | 61 => ⟨S2097152x128, .f32⟩
  | 62 => ⟨S1x128x128, .f32⟩
  | 63 => ⟨S128x128, .f32⟩
  | 64 => ⟨S2097152x128, .f32⟩
  | 65 => ⟨S_, .f32⟩
  | 66 => ⟨S2097152x128, .f32⟩
  | 67 => ⟨S2097152x128, .f32⟩
  | 68 => ⟨S1x128x128, .f32⟩
  | 69 => ⟨S128x128, .f32⟩
  | 70 => ⟨S2097152x128, .f32⟩
  | 71 => ⟨S_, .f32⟩
  | 72 => ⟨S2097152x128, .f32⟩
  | 73 => ⟨S2097152x128, .f32⟩
  | 74 => ⟨S1x128x128, .f32⟩
  | 75 => ⟨S128x128, .f32⟩
  | 76 => ⟨S2097152x128, .f32⟩
  | 77 => ⟨S_, .f32⟩
  | 78 => ⟨S2097152x128, .f32⟩
  | 79 => ⟨S2097152x128, .f32⟩
  | 80 => ⟨S1x128x128, .f32⟩
  | 81 => ⟨S128x128, .f32⟩
  | 82 => ⟨S2097152x128, .f32⟩
  | 83 => ⟨S_, .f32⟩
  | 84 => ⟨S2097152x128, .f32⟩
  | 85 => ⟨S2097152x128, .f32⟩
  | 86 => ⟨S1x128x128, .f32⟩
  | 87 => ⟨S128x128, .f32⟩
  | 88 => ⟨S2097152x128, .f32⟩
  | 89 => ⟨S_, .f32⟩
  | 90 => ⟨S2097152x128, .f32⟩
  | 91 => ⟨S2097152x128, .f32⟩
  | 92 => ⟨S1x128x128, .f32⟩
  | 93 => ⟨S128x128, .f32⟩
  | 94 => ⟨S2097152x128, .f32⟩
  | 95 => ⟨S_, .f32⟩
  | 96 => ⟨S2097152x128, .f32⟩
  | 97 => ⟨S2097152x128, .f32⟩
  | 98 => ⟨S2097152x3, .f32⟩
  | _ => ⟨S2097152x2, .f32⟩

abbrev hbmTy (i : Nat) : BufTy := match i / 128 with
  | 0 => hbmTy0_0 i
  | 1 => hbmTy0_1 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_14 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_15 : Ref sig .tc := ⟨.hbm, 96, rfl⟩
abbrev main_v73 : Ref sig .tc := ⟨.hbm, 97, rfl⟩
abbrev main_v74 : Ref sig .tc := ⟨.hbm, 98, rfl⟩
abbrev main_call1_v0 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_17 : Ref sig .tc := ⟨.hbm, 113, rfl⟩
abbrev main_v87 : Ref sig .tc := ⟨.hbm, 114, rfl⟩
abbrev main_v88 : Ref sig .tc := ⟨.hbm, 115, rfl⟩
abbrev main_c_18 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_19 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_c_20 : Ref sig .tc := ⟨.hbm, 130, rfl⟩
abbrev main_v101 : Ref sig .tc := ⟨.hbm, 131, rfl⟩
abbrev main_v102 : Ref sig .tc := ⟨.hbm, 132, rfl⟩
abbrev main_call2_v0 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_22 : Ref sig .tc := ⟨.hbm, 147, rfl⟩
abbrev main_v115 : Ref sig .tc := ⟨.hbm, 148, rfl⟩
abbrev main_v116 : Ref sig .tc := ⟨.hbm, 149, rfl⟩
abbrev main_c_23 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_c_25 : Ref sig .tc := ⟨.hbm, 164, rfl⟩
abbrev main_v129 : Ref sig .tc := ⟨.hbm, 165, rfl⟩
abbrev main_v130 : Ref sig .tc := ⟨.hbm, 166, rfl⟩
abbrev main_call3_v0 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_26 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_27 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_28 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_29 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_30 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_31 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_32 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_cst_33 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩

abbrev nD : Nat := 1
abbrev τ : Topo := Topo.v7x

variable {F : FTy → Type} [FloatOps F]
-- ==== Proof.Words.lean ====
/- Facts about 32-bit words: the sums, clamps, shifts and masks by which a cell's number becomes a packed row and a lane,
   read as natural numbers. -/
module

public import Idealize.ShloMosaic.PureOps

@[expose] public section

namespace Cert.Words

open Idealize.ShloMosaic

/-- Both bits of a conjunction that is one are one. -/
theorem and_one {a b : BitVec 1} (h : IntOp.andi a b = 1#1) : a = 1#1 ∧ b = 1#1 := by
  revert a b; decide

/-- A bit made of a truth value is one when that is true. -/
theorem ofBool_one {b : Bool} (h : BitVec.ofBool b = 1#1) : b = true := by
  revert h; cases b <;> decide

/-- A word between zero and a bound below `2 ^ 31`, both compared with sign. -/
theorem toNat_le_of_sle {a r : BitVec 32} (h0 : IntOp.cmpi .sge a 0#32 = 1#1) (h1 : IntOp.cmpi .sle a r = 1#1)
    (hr : r.toNat < 2 ^ 31) : a.toNat ≤ r.toNat := by
  have h0' : (0#32).toInt ≤ a.toInt := of_decide_eq_true (ofBool_one h0)
  have h1' : a.toInt ≤ r.toInt := of_decide_eq_true (ofBool_one h1)
  have := a.isLt
  rw [BitVec.toInt_eq_toNat_cond] at h0' h1'
  rw [BitVec.toInt_eq_toNat_cond] at h0' h1'
  simp only [BitVec.toNat_ofNat] at h0' h1'
  split at h0' <;> split at h1' <;> (try split at h1') <;> (try split at h0') <;> omega

/-- The clamp at the last cell. -/
theorem minsi_toNat {a b : BitVec 32} (ha : a.toNat < 2 ^ 31) (hb : b.toNat < 2 ^ 31) :
    (IntOp.minsi a b).toNat = min a.toNat b.toNat := by
  have ea : a.toInt = a.toNat := by rw [BitVec.toInt_eq_toNat_cond, if_pos (by omega)]
  have eb : b.toInt = b.toNat := by rw [BitVec.toInt_eq_toNat_cond, if_pos (by omega)]
  have h : a.slt b = decide (a.toNat < b.toNat) := by
    unfold BitVec.slt
    exact decide_eq_decide.mpr (by rw [ea, eb, Int.ofNat_lt])
  unfold IntOp.minsi
  rw [h]
  by_cases hlt : a.toNat < b.toNat
  · rw [if_pos (by simpa using hlt), min_eq_left hlt.le]
  · rw [if_neg (by simpa using hlt), min_eq_right (not_lt.mp hlt)]

/-- A shift to the right of a word without sign, as a division. -/
theorem shr_toNat (u : ArithUnit) {a k : BitVec 32} (ha : a.toNat < 2 ^ 31) (hk : k.toNat < 32) :
    (IntOp.shrsi u a k).toNat = a.toNat / 2 ^ k.toNat := by
  unfold IntOp.shrsi
  rw [if_pos hk, BitVec.sshiftRight', BitVec.sshiftRight_eq_of_msb_false (by
    rw [BitVec.msb_eq_decide]; simpa using ha), BitVec.toNat_ushiftRight, Nat.shiftRight_eq_div_pow]

/-- A dense level's entry: a column plus a clamped row times the resolution, without overflow. -/
theorem dense_toNat {a b d r1 r : BitVec 32} (ha : a.toNat ≤ 511) (hb : b.toNat ≤ 511) (hd : d.toNat ≤ 1)
    (hr1 : r1.toNat ≤ 511) (hr : r.toNat ≤ 512) :
    (IntOp.addi a (IntOp.muli (IntOp.minsi (IntOp.addi b d) r1) r)).toNat
      = a.toNat + min (b.toNat + d.toNat) r1.toNat * r.toNat := by
  have hbd : (IntOp.addi b d).toNat = b.toNat + d.toNat := by
    unfold IntOp.addi; rw [BitVec.toNat_add, Nat.mod_eq_of_lt (by omega)]
  have hm := minsi_toNat (a := IntOp.addi b d) (b := r1) (by omega) (by omega)
  rw [hbd] at hm
  have hle : min (b.toNat + d.toNat) r1.toNat ≤ 511 := (min_le_right _ _).trans hr1
  have hmul := Nat.mul_le_mul hle hr
  unfold IntOp.addi at hm
  unfold IntOp.addi IntOp.muli
  rw [BitVec.toNat_add, BitVec.toNat_mul, hm, Nat.mod_eq_of_lt (a := _ * _) (by omega), Nat.mod_eq_of_lt (by omega)]

/-- It lies below the square of the resolution. -/
theorem dense_lt {a m R : ℕ} (hR : 0 < R) (ha : a ≤ R - 1) (hm : m ≤ R - 1) : a + m * R < R * R := by
  have h := Nat.mul_le_mul_right R hm
  have h' : (R - 1) * R + R = R * R := by
    obtain ⟨k, rfl⟩ := Nat.exists_eq_succ_of_ne_zero hR.ne'
    simp only [Nat.succ_eq_add_one, Nat.add_sub_cancel, Nat.succ_mul]
  omega

/-- A packed row: an entry's number shifted down, plus the level's first row. -/
theorem row_toNat (u : ArithUnit) {e k off : BitVec 32} (he : e.toNat < 2 ^ 20) (hk : k.toNat < 32) (ho : off.toNat < 2 ^ 20) :
    (IntOp.addi (IntOp.shrsi u e k) off).toNat = e.toNat / 2 ^ k.toNat + off.toNat := by
  have hs := shr_toNat u (a := e) (k := k) (by omega) hk
  have hd : e.toNat / 2 ^ k.toNat ≤ e.toNat := Nat.div_le_self _ _
  unfold IntOp.addi
  rw [BitVec.toNat_add, hs, Nat.mod_eq_of_lt (by omega)]

/-- A hashed entry's number is below the table's size. -/
theorem hash_toNat (h : BitVec 32) : (IntOp.andi h 524287#32).toNat = h.toNat % 524288 := by
  unfold IntOp.andi
  rw [BitVec.toNat_and]
  exact Nat.and_two_pow_sub_one_eq_mod h.toNat 19

/-- The lane of a dense entry: four times the entry's place among thirty-two. -/
theorem lane4_toNat (e : BitVec 32) : (IntOp.muli 4#32 (IntOp.andi e 31#32)).toNat = 4 * (e.toNat % 32) := by
  unfold IntOp.andi IntOp.muli
  rw [BitVec.toNat_mul, BitVec.toNat_and, show (31#32).toNat = 2 ^ 5 - 1 from rfl, Nat.and_two_pow_sub_one_eq_mod,
    show (4#32).toNat = 4 from rfl, Nat.mod_eq_of_lt (by have := Nat.mod_lt e.toNat (show 0 < 2 ^ 5 by decide); omega)]

/-- The lane of a hashed entry: twice the entry's place among sixty-four. -/
theorem lane2_toNat (e : BitVec 32) : (IntOp.muli 2#32 (IntOp.andi e 63#32)).toNat = 2 * (e.toNat % 64) := by
  unfold IntOp.andi IntOp.muli
  rw [BitVec.toNat_mul, BitVec.toNat_and, show (63#32).toNat = 2 ^ 6 - 1 from rfl, Nat.and_two_pow_sub_one_eq_mod,
    show (2#32).toNat = 2 from rfl, Nat.mod_eq_of_lt (by have := Nat.mod_lt e.toNat (show 0 < 2 ^ 6 by decide); omega)]

end Cert.Words

end
-- ==== Proof.KernelBodyEq.lean ====
/- The printed body is the body written level by level. -/
module

public import proofs.«01_k».proof.Proof.KernelBody
public import Idealize.ShloMosaic.PureOps.BitExact

@[expose] public section

noncomputable section

namespace Cert.Kernel.Own

open Idealize.ShloMosaic Idealize.SL.Sem
open scoped Idealize.ShloMosaic.ProgEq
open Cert.Kernel Cert.Kernel.Gen

set_option maxHeartbeats 0 in
set_option maxRecDepth 20000 in
prog_eq Cert.Kernel.Own.skel_eq : Cert.Kernel.Gen.cc0_tiny_inr_fused_skel Cert.Kernel.Own.body from Cert.Kernel to Cert.Kernel at Bits inferInstance by intros; rfl

end Cert.Kernel.Own

end
-- ==== Proof.KernelIdealBody.lean ====
/- The kernel's body, written again level by level: the vectors a level computes, what a level's four weighted corners
   add up to, the network, and the program that makes the same memory operations over them. -/
module

public import proofs.«01_k».proof.Proof.Gen.KernelIdeal.Skeleton
public import Idealize.ShloMosaic.Lib.Tactic
public import Idealize.ShloMosaic.Lib.Tactic.ProgEq

@[expose] public section

noncomputable section

namespace Cert.KernelIdeal.Own

open Idealize.ShloMosaic Idealize.SL.Sem
open Cert.KernelIdeal Cert.KernelIdeal.Gen

variable {F : FTy → Type} [FloatOps F]

/-! ## The vectors of one level -/

/-- A word as a value of the kernel's float type. -/
abbrev fc (b : BitVec 32) : F .f32 := Scalar.ofBits .f32 b
/-- A coordinate scaled to a level: `x * (res - 1) + 1/2`. -/
def fpos (x : FVec F S8x128 .f32) (sc : BitVec 32) : FVec F S8x128 .f32 :=
  addf (mulf x (broadcast S8x128 (fc sc))) (broadcast S8x128 (fc 0x3F000000#32))
/-- Its cell. -/
def icell (p : FVec F S8x128 .f32) : IVec S8x128 32 := fptosi 32 p
/-- Its place inside the cell. -/
def frc (p : FVec F S8x128 .f32) : FVec F S8x128 .f32 := subf p (sitofp .f32 (icell p))
/-- One minus a weight. -/
def om (a : FVec F S8x128 .f32) : FVec F S8x128 .f32 := subf (broadcast S8x128 (fc 0x3F800000#32)) a
/-- A dense level's entry: the column plus the clamped row times the resolution. -/
def dcell (ix iy : IVec S8x128 32) (d r1 r : BitVec 32) : IVec S8x128 32 :=
  addi ix (muli (minsi (addi iy (broadcast S8x128 d)) (broadcast S8x128 r1)) (broadcast S8x128 r))
/-- The packed row that holds a dense level's entry. -/
def drow (e : IVec S8x128 32) (off : BitVec 32) : IVec S8x128 32 :=
  addi (shrsi e (broadcast S8x128 5#32)) (broadcast S8x128 off)
/-- The lane of a dense entry in its packed row. -/
def dlane (e : IVec S8x128 32) : IVec S8x128 32 := muli (broadcast S8x128 4#32) (andi e (broadcast S8x128 31#32))
/-- The lane of its right neighbour's copy. -/
def dlane2 (e : IVec S8x128 32) : IVec S8x128 32 := addi (dlane e) (broadcast S8x128 2#32)
/-- A hashed level's entry. -/
def hcell (ix iy : IVec S8x128 32) (dx dy : BitVec 32) : IVec S8x128 32 :=
  andi (xori (addi ix (broadcast S8x128 dx)) (muli (addi iy (broadcast S8x128 dy)) (broadcast S8x128 2654435761#32)))
    (broadcast S8x128 524287#32)
/-- The packed row that holds a hashed level's entry. -/
def hrow (e : IVec S8x128 32) (off : BitVec 32) : IVec S8x128 32 :=
  addi (shrsi e (broadcast S8x128 6#32)) (broadcast S8x128 off)
/-- The lane of a hashed entry in its packed row. -/
def hlane (e : IVec S8x128 32) : IVec S8x128 32 := muli (broadcast S8x128 2#32) (andi e (broadcast S8x128 63#32))

/-- A level's numbers: the scale, the last cell, the resolution, the first packed row. -/
structure Lvl where
  sc : BitVec 32
  r1 : BitVec 32
  r : BitVec 32
  off : BitVec 32

/-- The cells of a level's points. -/
abbrev Lvl.ix (L : Lvl) (x : FVec F S8x128 .f32) : IVec S8x128 32 := icell (fpos x L.sc)
abbrev Lvl.wx (L : Lvl) (x : FVec F S8x128 .f32) : FVec F S8x128 .f32 := frc (fpos x L.sc)
/-- The entries of a dense level's lower and upper neighbours. -/
def Lvl.de (L : Lvl) (x y : FVec F S8x128 .f32) (d : BitVec 32) : IVec S8x128 32 := dcell (L.ix x) (L.ix y) d L.r1 L.r
/-- The entries of a hashed level's neighbours. -/
def Lvl.he (L : Lvl) (x y : FVec F S8x128 .f32) (dx dy : BitVec 32) : IVec S8x128 32 := hcell (L.ix x) (L.ix y) dx dy

/-- The two rows of packed indices that a dense level copies to scalar memory. -/
def Lvl.drows (L : Lvl) (x y : FVec F S8x128 .f32) : IVec S1x2x8x128 32 :=
  shapeCast S1x2x8x128 (concatenate S2x8x128 0
    [⟨S1x8x128, shapeCast S1x8x128 (drow (L.de x y 0#32) L.off) shapeCasts_S8x128_S1x8x128⟩,
     ⟨S1x8x128, shapeCast S1x8x128 (drow (L.de x y 1#32) L.off) shapeCasts_S8x128_S1x8x128⟩]
    concatenates_S1x8x128_S1x8x128_S2x8x128_d0) shapeCasts_S2x8x128_S1x2x8x128
/-- The four rows of packed indices that a hashed level copies to scalar memory. -/
def Lvl.hrows (L : Lvl) (x y : FVec F S8x128 .f32) : IVec S1x4x8x128 32 :=
  shapeCast S1x4x8x128 (concatenate S4x8x128 0
    [⟨S1x8x128, shapeCast S1x8x128 (hrow (L.he x y 0#32 0#32) L.off) shapeCasts_S8x128_S1x8x128⟩,
     ⟨S1x8x128, shapeCast S1x8x128 (hrow (L.he x y 0#32 1#32) L.off) shapeCasts_S8x128_S1x8x128⟩,
     ⟨S1x8x128, shapeCast S1x8x128 (hrow (L.he x y 1#32 0#32) L.off) shapeCasts_S8x128_S1x8x128⟩,
     ⟨S1x8x128, shapeCast S1x8x128 (hrow (L.he x y 1#32 1#32) L.off) shapeCasts_S8x128_S1x8x128⟩]
    concatenates_S1x8x128_S1x8x128_S1x8x128_S1x8x128_S4x8x128_d0) shapeCasts_S4x8x128_S1x4x8x128

/-! ## One corner -/

/-- The lane number. -/
abbrev lane : IVec S8x128 32 := iota .tc S8x128 32 [1] iota_S8x128_d1_w32
/-- The stage row. -/
abbrev t3 : IVec S128x8x128 32 := iota .tc S128x8x128 32 [0] iota_S128x8x128_d0_w32
/-- The stage lane. -/
abbrev l3 : IVec S128x8x128 32 := iota .tc S128x8x128 32 [2] iota_S128x8x128_d2_w32
/-- The rotation that brings a row's pair to its place. -/
def shift3 : IVec S128x8x128 32 := subi l3 (muli (broadcast S128x8x128 2#32) t3)
/-- The pair of lanes kept of each row. -/
def mask3 : IVec S128x8x128 1 :=
  cmpi .eq (shrsi l3 (broadcast S128x8x128 1#32)) (andi t3 (broadcast S128x8x128 63#32))
/-- An index vector as the gather takes it, a negative one counted from the end. -/
def wrap3 (v : IVec S128x8x128 32) : IVec S128x8x128 32 :=
  shapeCast S128x8x128 (shapeCast S128x8x128x1 (select (cmpi .slt v (broadcast S128x8x128 0#32))
    (addi v (broadcast S128x8x128 128#32)) v) shapeCasts_S128x8x128_S128x8x128x1) shapeCasts_S128x8x128x1_S128x8x128
/-- The same for one block. -/
def wrap2 (v : IVec S8x128 32) : IVec S8x128 32 :=
  shapeCast S8x128 (shapeCast S8x128x1 (select (cmpi .slt v (broadcast S8x128 0#32))
    (addi v (broadcast S8x128 128#32)) v) shapeCasts_S8x128_S8x128x1) shapeCasts_S8x128x1_S8x128
/-- The stage with each row's pair moved to its place and all other lanes zero. -/
def picked (cv : IVec S8x128 32) (stg : FVec F S128x8x128 .f32) : FVec F S128x8x128 .f32 :=
  select mask3
    (dynamicGather 2 stg (wrap3 (andi (addi (dynamicGather 2 (broadcastTo S128x8x128 (shapeCast S1x8x128
      (shapeCast S1x8x128 cv shapeCasts_S8x128_S1x8x128) shapeCasts_S1x8x128_S1x8x128) broadcasts_S1x8x128_S128x8x128)
      (wrap3 t3)) shift3) (broadcast S128x8x128 127#32))))
    (broadcast S128x8x128 (fc 0x00000000#32))
/-- The pairs of points 0 to 63, side by side. -/
def pairsA (cv : IVec S8x128 32) (stg : FVec F S128x8x128 .f32) : FVec F S8x128 .f32 :=
  multiReduction .add [0] S8x128 (extractStridedSlice S64x8x128 ![0, 0, 0] (picked cv stg) slices_S128x8x128_o0_0_0_S64x8x128)
    0x00000000#32 reduces_S64x8x128_S8x128 (.inl rfl) rfl
/-- The pairs of points 64 to 127. -/
def pairsB (cv : IVec S8x128 32) (stg : FVec F S128x8x128 .f32) : FVec F S8x128 .f32 :=
  multiReduction .add [0] S8x128 (extractStridedSlice S64x8x128 ![64, 0, 0] (picked cv stg) slices_S128x8x128_o64_0_0_S64x8x128)
    0x00000000#32 reduces_S64x8x128_S8x128 (.inl rfl) rfl
/-- The lanes of the first features. -/
def evl : IVec S8x128 32 := andi (muli (broadcast S8x128 2#32) lane) (broadcast S8x128 127#32)
/-- The lanes of the second features. -/
def odl : IVec S8x128 32 :=
  andi (addi (muli (broadcast S8x128 2#32) lane) (broadcast S8x128 1#32)) (broadcast S8x128 127#32)
/-- One feature of a corner, for every point, from the two halves. -/
def feat (ln : IVec S8x128 32) (cv : IVec S8x128 32) (stg : FVec F S128x8x128 .f32) : FVec F S8x128 .f32 :=
  select (cmpi .slt lane (broadcast S8x128 64#32)) (dynamicGather 1 (pairsA cv stg) (wrap2 ln))
    (dynamicGather 1 (pairsB cv stg) (wrap2 ln))
/-- Four weighted corners added up from zero. -/
def sum4 (ln : IVec S8x128 32) (c1 c2 c3 c4 : IVec S8x128 32) (w1 w2 w3 w4 : FVec F S8x128 .f32)
    (s1 s2 s3 s4 : FVec F S128x8x128 .f32) : FVec F S8x128 .f32 :=
  addf (addf (addf (addf (broadcast S8x128 (fc 0x00000000#32)) (mulf w1 (feat ln c1 s1))) (mulf w2 (feat ln c2 s2)))
    (mulf w3 (feat ln c3 s3))) (mulf w4 (feat ln c4 s4))

/-- One feature of a dense level, from its stages. -/
def Lvl.dfeat (L : Lvl) (ln : IVec S8x128 32) (x y : FVec F S8x128 .f32) (s1 s2 s3 s4 : FVec F S128x8x128 .f32) :
    FVec F S8x128 .f32 :=
  sum4 ln (dlane (L.de x y 0#32)) (dlane2 (L.de x y 0#32)) (dlane (L.de x y 1#32)) (dlane2 (L.de x y 1#32))
    (mulf (om (L.wx x)) (om (L.wx y))) (mulf (L.wx x) (om (L.wx y))) (mulf (om (L.wx x)) (L.wx y)) (mulf (L.wx x) (L.wx y))
    s1 s2 s3 s4
/-- One feature of a hashed level, from its stages. -/
def Lvl.hfeat (L : Lvl) (ln : IVec S8x128 32) (x y : FVec F S8x128 .f32) (s1 s2 s3 s4 : FVec F S128x8x128 .f32) :
    FVec F S8x128 .f32 :=
  sum4 ln (hlane (L.he x y 0#32 0#32)) (hlane (L.he x y 0#32 1#32)) (hlane (L.he x y 1#32 0#32)) (hlane (L.he x y 1#32 1#32))
    (mulf (om (L.wx x)) (om (L.wx y))) (mulf (om (L.wx x)) (L.wx y)) (mulf (L.wx x) (om (L.wx y))) (mulf (L.wx x) (L.wx y))
    s1 s2 s3 s4

/-! ## The network -/

/-- The larger of a value and zero, rounded for the next product. -/
def rl (h : FVec F S128x128 .f32) : FVec F S128x128 .bf16 :=
  truncf .bf16 (maximumf h (broadcast S128x128 (fc 0x00000000#32))) bitsLt_bf16_f32
/-- A hidden layer. -/
def hid (h : FVec F S128x128 .bf16) (m : FVec F S1x128x128 .bf16) : FVec F S128x128 .bf16 :=
  rl (matmul dot_S128x128_S128x128_S128x128_1_0_0_1_n_n none h (shapeCast S128x128 m shapeCasts_S1x128x128_S128x128)
    (constant S128x128 .f32 0x00000000#32))
/-- The encoding, a row per feature and sublane. -/
def enc (f : Fin 32 → FVec F S8x128 .f32) : FVec F S256x128 .bf16 :=
  truncf .bf16 (concatenate S256x128 0
    [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩, ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩, ⟨S8x128, f 16⟩, ⟨S8x128, f 17⟩, ⟨S8x128, f 18⟩, ⟨S8x128, f 19⟩, ⟨S8x128, f 20⟩, ⟨S8x128, f 21⟩, ⟨S8x128, f 22⟩, ⟨S8x128, f 23⟩, ⟨S8x128, f 24⟩, ⟨S8x128, f 25⟩, ⟨S8x128, f 26⟩, ⟨S8x128, f 27⟩, ⟨S8x128, f 28⟩, ⟨S8x128, f 29⟩, ⟨S8x128, f 30⟩, ⟨S8x128, f 31⟩]
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0) bitsLt_bf16_f32
/-- The first layer at one sublane, then seven hidden ones, then the last. -/
def net (pv : FVec F S256x128 .bf16) (w : FVec F S1x256x128 .bf16) (m0 m1 m2 m3 m4 m5 m6 : FVec F S1x128x128 .bf16)
    (wo : FVec F S128x8 .bf16) : FVec F S1x128x8 .f32 :=
  shapeCast S1x128x8 (matmul dot_S128x128_S128x8_S128x8_1_0_0_1_n_n none
    (hid (hid (hid (hid (hid (hid (hid (rl (matmul dot_S256x128_S256x128_S128x128_0_0_1_1_n_n none pv
      (shapeCast S256x128 w shapeCasts_S1x256x128_S256x128) (constant S128x128 .f32 0x00000000#32))) m0) m1) m2) m3) m4) m5) m6)
    (shapeCast S128x8 wo shapeCasts_S128x8_S128x8) (constant S128x8 .f32 0x00000000#32)) shapeCasts_S128x8_S1x128x8

/-! ## The memory operations -/

/-- Programs of the kernel. -/
abbrev KProg (F : FTy → Type) (α : Type) : Type 1 := Prog (TpuEff nD τ sig (Elt F) Λ₀ .tc) α

section Ops
variable (arg8 : Memref sig .tc .vmem S2x4x8x128 .i32) (arg11 : Memref sig .tc .smem S2x4x8x128 .i32) (arg12 : DmaSems sig S2)
  (arg9 : Memref sig .tc .vmem S128x8x128 .f32)

/-- A slot's first two index rows of a buffer. -/
abbrev win2 {sp : Space} (b : Memref sig .tc sp S2x4x8x128 .i32) (o : Fin 4 → Nat)
    (h : ∀ a, o a + S1x2x8x128.size a ≤ S2x4x8x128.size a) : Memref sig .tc sp S2x8x128 .i32 :=
  Memref.squeeze (s := S1x2x8x128) (b.slice (Rect.unit (s := S2x4x8x128) o S1x2x8x128.size h) (fun _ => rfl)) S2x8x128 squeezes_S1x2x8x128_S2x8x128
/-- A slot's four index rows of a buffer. -/
abbrev win4 {sp : Space} (b : Memref sig .tc sp S2x4x8x128 .i32) (o : Fin 4 → Nat)
    (h : ∀ a, o a + S1x4x8x128.size a ≤ S2x4x8x128.size a) : Memref sig .tc sp S4x8x128 .i32 :=
  Memref.squeeze (s := S1x4x8x128) (b.slice (Rect.unit (s := S2x4x8x128) o S1x4x8x128.size h) (fun _ => rfl)) S4x8x128 squeezes_S1x4x8x128_S4x8x128
/-- A slot's semaphore. -/
abbrev slotSem (q : Fin 1 → Nat) (hq : ∀ a, q a + S1.size a ≤ S2.size a) : DmaSem sig :=
  ((arg12.slice (Rect.unit (s := S2) q S1.size hq) : DmaSems sig S1).squeeze S_ squeezes_S1_S_).sem

/-- A dense level's start: its rows stored, their copy begun. -/
def startD (o : Fin 4 → Nat) (h : ∀ a, o a + S1x2x8x128.size a ≤ S2x4x8x128.size a) (q : Fin 1 → Nat)
    (hq : ∀ a, q a + S1.size a ≤ S2.size a) (rows : IVec S1x2x8x128 32) : KProg F PUnit := do
  let _ : Vec F S1x2x8x128 .i32 ← Prog.lift (.load arg8 (Rect.unit (s := S2x4x8x128) o S1x2x8x128.size h).toLoadRect (View.loadsAt_vmem h_S1x2x8x128))
  Prog.lift (.store arg8 (Rect.unit (s := S2x4x8x128) o S1x2x8x128.size h) rows Finset.univ (View.stores_vmem_bits_univ h_S1x2x8x128 rfl) (.inl rfl))
  let a : DmaSems sig S1 := arg12.slice (Rect.unit (s := S2) q S1.size hq)
  let b : DmaSems sig S_ := a.squeeze S_ squeezes_S1_S_
  let c : Memref sig .tc .smem S1x2x8x128 .i32 := arg11.slice (Rect.unit (s := S2x4x8x128) o S1x2x8x128.size h) (fun _ => rfl)
  let d : Memref sig .tc .smem S2x8x128 .i32 := c.squeeze S2x8x128 squeezes_S1x2x8x128_S2x8x128
  let e : Memref sig .tc .vmem S1x2x8x128 .i32 := arg8.slice (Rect.unit (s := S2x4x8x128) o S1x2x8x128.size h) (fun _ => rfl)
  let g : Memref sig .tc .vmem S2x8x128 .i32 := e.squeeze S2x8x128 squeezes_S1x2x8x128_S2x8x128
  Prog.lift (.enqueueDma g (.here d) (.dma b.sem) ((View.wordExact_bits rfl).reshape _ _) ((View.wordExact_bits rfl).reshape _ _) ⟨Or.inl rfl, trivial⟩)
/-- A hashed level's start. -/
def startH (o : Fin 4 → Nat) (h : ∀ a, o a + S1x4x8x128.size a ≤ S2x4x8x128.size a) (q : Fin 1 → Nat)
    (hq : ∀ a, q a + S1.size a ≤ S2.size a) (rows : IVec S1x4x8x128 32) : KProg F PUnit := do
  let _ : Vec F S1x4x8x128 .i32 ← Prog.lift (.load arg8 (Rect.unit (s := S2x4x8x128) o S1x4x8x128.size h).toLoadRect (View.loadsAt_vmem h_S1x4x8x128))
  Prog.lift (.store arg8 (Rect.unit (s := S2x4x8x128) o S1x4x8x128.size h) rows Finset.univ (View.stores_vmem_bits_univ h_S1x4x8x128 rfl) (.inl rfl))
  let a : DmaSems sig S1 := arg12.slice (Rect.unit (s := S2) q S1.size hq)
  let b : DmaSems sig S_ := a.squeeze S_ squeezes_S1_S_
  let c : Memref sig .tc .smem S1x4x8x128 .i32 := arg11.slice (Rect.unit (s := S2x4x8x128) o S1x4x8x128.size h) (fun _ => rfl)
  let d : Memref sig .tc .smem S4x8x128 .i32 := c.squeeze S4x8x128 squeezes_S1x4x8x128_S4x8x128
  let e : Memref sig .tc .vmem S1x4x8x128 .i32 := arg8.slice (Rect.unit (s := S2x4x8x128) o S1x4x8x128.size h) (fun _ => rfl)
  let g : Memref sig .tc .vmem S4x8x128 .i32 := e.squeeze S4x8x128 squeezes_S1x4x8x128_S4x8x128
  Prog.lift (.enqueueDma g (.here d) (.dma b.sem) ((View.wordExact_bits rfl).reshape _ _) ((View.wordExact_bits rfl).reshape _ _) ⟨Or.inl rfl, trivial⟩)
/-- The wait for a dense level's copy. -/
def waitD (o : Fin 4 → Nat) (h : ∀ a, o a + S1x2x8x128.size a ≤ S2x4x8x128.size a) (q : Fin 1 → Nat)
    (hq : ∀ a, q a + S1.size a ≤ S2.size a) : KProg F PUnit := do
  let a : DmaSems sig S1 := arg12.slice (Rect.unit (s := S2) q S1.size hq)
  let b : DmaSems sig S_ := a.squeeze S_ squeezes_S1_S_
  let c : Memref sig .tc .smem S1x2x8x128 .i32 := arg11.slice (Rect.unit (s := S2x4x8x128) o S1x2x8x128.size h) (fun _ => rfl)
  let d : Memref sig .tc .smem S2x8x128 .i32 := c.squeeze S2x8x128 squeezes_S1x2x8x128_S2x8x128
  let e : Memref sig .tc .vmem S1x2x8x128 .i32 := arg8.slice (Rect.unit (s := S2x4x8x128) o S1x2x8x128.size h) (fun _ => rfl)
  let g : Memref sig .tc .vmem S2x8x128 .i32 := e.squeeze S2x8x128 squeezes_S1x2x8x128_S2x8x128
  Prog.lift (.waitDma2 b.sem g d ((View.wordExact_bits rfl).reshape _ _) ((View.wordExact_bits rfl).reshape _ _))
/-- The wait for a hashed level's copy. -/
def waitH (o : Fin 4 → Nat) (h : ∀ a, o a + S1x4x8x128.size a ≤ S2x4x8x128.size a) (q : Fin 1 → Nat)
    (hq : ∀ a, q a + S1.size a ≤ S2.size a) : KProg F PUnit := do
  let a : DmaSems sig S1 := arg12.slice (Rect.unit (s := S2) q S1.size hq)
  let b : DmaSems sig S_ := a.squeeze S_ squeezes_S1_S_
  let c : Memref sig .tc .smem S1x4x8x128 .i32 := arg11.slice (Rect.unit (s := S2x4x8x128) o S1x4x8x128.size h) (fun _ => rfl)
  let d : Memref sig .tc .smem S4x8x128 .i32 := c.squeeze S4x8x128 squeezes_S1x4x8x128_S4x8x128
  let e : Memref sig .tc .vmem S1x4x8x128 .i32 := arg8.slice (Rect.unit (s := S2x4x8x128) o S1x4x8x128.size h) (fun _ => rfl)
  let g : Memref sig .tc .vmem S4x8x128 .i32 := e.squeeze S4x8x128 squeezes_S1x4x8x128_S4x8x128
  Prog.lift (.waitDma2 b.sem g d ((View.wordExact_bits rfl).reshape _ _) ((View.wordExact_bits rfl).reshape _ _))
/-- A stage read whole. -/
def ldStage : KProg F (Vec F S128x8x128 .f32) :=
  Prog.lift (.load arg9 (Rect.unit (s := S128x8x128) ![0, 0, 0] S128x8x128.size inb_S128x8x128_S128x8x128_0_0_0).toLoadRect (View.loadsAt_vmem h_S128x8x128))
end Ops

/-- The four stages that a dense level's corners read. -/
def gathD (sa sb : Memref sig .tc .vmem S128x8x128 .f32) (g0 g1 : KProg F Unit) :
    KProg F (Vec F S128x8x128 .f32 × Vec F S128x8x128 .f32 × Vec F S128x8x128 .f32 × Vec F S128x8x128 .f32) := do
  let _ ← g0
  let s1 ← ldStage sb
  let s2 ← ldStage sb
  let _ ← g1
  let s3 ← ldStage sa
  let s4 ← ldStage sa
  pure (s1, s2, s3, s4)
/-- The four stages that a hashed level's corners read. -/
def gathH (sa sb : Memref sig .tc .vmem S128x8x128 .f32) (g0 g1 g2 g3 : KProg F Unit) :
    KProg F (Vec F S128x8x128 .f32 × Vec F S128x8x128 .f32 × Vec F S128x8x128 .f32 × Vec F S128x8x128 .f32) := do
  let _ ← g0
  let s1 ← ldStage sb
  let _ ← g1
  let s2 ← ldStage sa
  let _ ← g2
  let s3 ← ldStage sb
  let _ ← g3
  let s4 ← ldStage sa
  pure (s1, s2, s3, s4)

section Net
variable (arg4 : Memref sig .tc .vmem S8x256x128 .bf16) (arg5 : Memref sig .tc .vmem S7x128x128 .bf16)
  (arg6 : Memref sig .tc .vmem S128x8 .bf16) (arg7 : Memref sig .tc .vmem S1x128x64 .f32)
/-- A hidden layer's weights. -/
def ldHid (o : Fin 3 → Nat) (h : ∀ a, o a + S1x128x128.size a ≤ S7x128x128.size a) : KProg F (Vec F S1x128x128 .bf16) :=
  Prog.lift (.load arg5 (Rect.unit (s := S7x128x128) o S1x128x128.size h).toLoadRect (View.loadsAt_vmem h_S1x128x128))
/-- The network at one sublane: the weights read, the result's eight lanes stored. -/
def netAt (pv : FVec F S256x128 .bf16) (o : Fin 3 → Nat) (h : ∀ a, o a + S1x256x128.size a ≤ S8x256x128.size a)
    (p : Fin 3 → Nat) (hp : ∀ a, p a + S1x128x8.size a ≤ S1x128x64.size a) : KProg F PUnit := do
  let w : Vec F S1x256x128 .bf16 ← Prog.lift (.load arg4 (Rect.unit (s := S8x256x128) o S1x256x128.size h).toLoadRect (View.loadsAt_vmem h_S1x256x128))
  let m0 ← ldHid arg5 ![0, 0, 0] inb_S7x128x128_S1x128x128_0_0_0
  let m1 ← ldHid arg5 ![1, 0, 0] inb_S7x128x128_S1x128x128_1_0_0
  let m2 ← ldHid arg5 ![2, 0, 0] inb_S7x128x128_S1x128x128_2_0_0
  let m3 ← ldHid arg5 ![3, 0, 0] inb_S7x128x128_S1x128x128_3_0_0
  let m4 ← ldHid arg5 ![4, 0, 0] inb_S7x128x128_S1x128x128_4_0_0
  let m5 ← ldHid arg5 ![5, 0, 0] inb_S7x128x128_S1x128x128_5_0_0
  let m6 ← ldHid arg5 ![6, 0, 0] inb_S7x128x128_S1x128x128_6_0_0
  let wo : Vec F S128x8 .bf16 ← Prog.lift (.load arg6 (Rect.unit (s := S128x8) ![0, 0] S128x8.size inb_S128x8_S128x8_0_0).toLoadRect (View.loadsAt_vmem h_S128x8))
  let _ : Vec F S1x128x8 .f32 ← Prog.lift (.load arg7 (Rect.unit (s := S1x128x64) p S1x128x8.size hp).toLoadRect (View.loadsAt_vmem h_S1x128x8))
  Prog.lift (.store arg7 (Rect.unit (s := S1x128x64) p S1x128x8.size hp) (net pv w m0 m1 m2 m3 m4 m5 m6 wo) Finset.univ (View.stores_vmem_bits_univ h_S1x128x8 rfl) (.inl rfl))
end Net

/-! ## The levels -/
/-- Level 0's numbers. -/
abbrev L0 : Lvl := ⟨0x41700000#32, 15#32, 16#32, 0#32⟩
/-- Level 1's numbers. -/
abbrev L1 : Lvl := ⟨0x41F80000#32, 31#32, 32#32, 8#32⟩
/-- Level 2's numbers. -/
abbrev L2 : Lvl := ⟨0x427C0000#32, 63#32, 64#32, 40#32⟩
/-- Level 3's numbers. -/
abbrev L3 : Lvl := ⟨0x42FE0000#32, 127#32, 128#32, 168#32⟩
/-- Level 4's numbers. -/
abbrev L4 : Lvl := ⟨0x437F0000#32, 255#32, 256#32, 680#32⟩
/-- Level 5's numbers. -/
abbrev L5 : Lvl := ⟨0x43FF8000#32, 511#32, 512#32, 2728#32⟩
/-- Level 6's numbers. -/
abbrev L6 : Lvl := ⟨0x447FC000#32, 1023#32, 1024#32, 10920#32⟩
/-- Level 7's numbers. -/
abbrev L7 : Lvl := ⟨0x44FFE000#32, 2047#32, 2048#32, 19112#32⟩
/-- Level 8's numbers. -/
abbrev L8 : Lvl := ⟨0x457FF000#32, 4095#32, 4096#32, 27304#32⟩
/-- Level 9's numbers. -/
abbrev L9 : Lvl := ⟨0x45FFF800#32, 8191#32, 8192#32, 35496#32⟩
/-- Level 10's numbers. -/
abbrev L10 : Lvl := ⟨0x467FFC00#32, 16383#32, 16384#32, 43688#32⟩
/-- Level 11's numbers. -/
abbrev L11 : Lvl := ⟨0x46FFFE00#32, 32767#32, 32768#32, 51880#32⟩
/-- Level 12's numbers. -/
abbrev L12 : Lvl := ⟨0x477FFF00#32, 65535#32, 65536#32, 60072#32⟩
/-- Level 13's numbers. -/
abbrev L13 : Lvl := ⟨0x47FFFF80#32, 131071#32, 131072#32, 68264#32⟩
/-- Level 14's numbers. -/
abbrev L14 : Lvl := ⟨0x487FFFC0#32, 262143#32, 262144#32, 76456#32⟩
/-- Level 15's numbers. -/
abbrev L15 : Lvl := ⟨0x48FFFFE0#32, 524287#32, 524288#32, 84648#32⟩

/-! ## The gathers: the printed loops, at values that their bodies do not read -/

/-- A vector of zeros. -/
abbrev zf (s : Shape) : FVec F s .f32 := broadcast s (fc 0x00000000#32)
/-- An integer vector of zeros. -/
abbrev zi (s : Shape) (w : Nat) : IVec s w := broadcast s (0#w)
section Loops
variable (i : grid0.Coords)
  (arg1 : Memref sig .tc .vmem S1x8x128 .f32)
  (harg1 : arg1.IsWhole)
  (arg2 : Memref sig .tc .vmem S1x8x128 .f32)
  (harg2 : arg2.IsWhole)
  (arg3 : Memref sig .tc .vmem S92840x1x128 .f32)
  (harg3 : arg3.IsWhole)
  (arg4 : Memref sig .tc .vmem S8x256x128 .bf16)
  (harg4 : arg4.IsWhole)
  (arg5 : Memref sig .tc .vmem S7x128x128 .bf16)
  (harg5 : arg5.IsWhole)
  (arg6 : Memref sig .tc .vmem S128x8 .bf16)
  (harg6 : arg6.IsWhole)
  (arg7 : Memref sig .tc .vmem S1x128x64 .f32)
  (harg7 : arg7.IsWhole)
  (arg8 : Memref sig .tc .vmem S2x4x8x128 .i32)
  (harg8 : arg8.IsWhole)
  (arg9 : Memref sig .tc .vmem S128x8x128 .f32)
  (harg9 : arg9.IsWhole)
  (arg10 : Memref sig .tc .vmem S128x8x128 .f32)
  (harg10 : arg10.IsWhole)
  (arg11 : Memref sig .tc .smem S2x4x8x128 .i32)
  (harg11 : arg11.IsWhole)
  (arg12 : DmaSems sig S2)
/-- Gather 0 of level 0. -/
def G0_0 : KProg F Unit :=
  Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32))
/-- Gather 1 of level 0. -/
def G0_1 : KProg F Unit :=
  Scf.Loop.for k0_t3_loop k0_t3_ok ⟨⟩ (k0_t3_body i arg1 harg1 arg2 harg2 arg3 harg3 arg4 harg4 arg5 harg5 arg6 harg6 arg7 harg7 arg8 harg8 arg9 harg9 arg10 harg10 arg11 harg11 arg12 (zi S8x128 32) (zf S8x128) (zf S8x128) (zf S8x128) (zf S8x128) (zf S8x128) (zi S8x128 32) (zi S8x128 32))
/-- Gather 0 of level 1. -/
def G1_0 : KProg F Unit :=
  Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32) (zi S1x2x8x128 32))
/-- Gather 1 of level 1. -/
def G1_1 : KProg F Unit :=
  Scf.Loop.for k0_t7_loop k0_t7_ok ⟨⟩ (k0_t7_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zi S8x128 32) (zi S8x128 1) (zf S8x128) (zf S8x128) (zi S8x128 1) 0#32)
/-- Gather 0 of level 2. -/
def G2_0 : KProg F Unit :=
  Scf.Loop.for k0_t9_loop k0_t9_ok ⟨⟩ (k0_t9_body i arg1 harg1 arg2 harg2 arg3 harg3 arg4 harg4 arg5 harg5 arg6 harg6 arg7 harg7 arg8 harg8 arg9 harg9 arg10 harg10 arg11 harg11 arg12 (zi S8x128 32) (zf S8x128) (zf S8x128) (zi S8x128 32) (zi S8x128 32) (zi S8x128 32) (zf S8x128))
/-- Gather 1 of level 2. -/
def G2_1 : KProg F Unit :=
  Scf.Loop.for k0_t11_loop k0_t11_ok ⟨⟩ (k0_t11_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 32))
/-- Gather 0 of level 3. -/
def G3_0 : KProg F Unit :=
  Scf.Loop.for k0_t13_loop k0_t13_ok ⟨⟩ (k0_t13_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32))
/-- Gather 1 of level 3. -/
def G3_1 : KProg F Unit :=
  Scf.Loop.for k0_t15_loop k0_t15_ok ⟨⟩ (k0_t15_body i arg1 harg1 arg2 harg2 arg3 harg3 arg4 harg4 arg5 harg5 arg6 harg6 arg7 harg7 arg8 harg8 arg9 harg9 arg10 harg10 arg11 harg11 arg12 (zi S128x8x128 32) (zf S8x128) (zi S8x128 32) (zf S8x128) (zf S8x128) (zf S8x128) (zf S8x128) (zi S8x128 32) (zi S8x128 32) (zi S8x128 1) (zi S8x128 1))
/-- Gather 0 of level 4. -/
def G4_0 : KProg F Unit :=
  Scf.Loop.for k0_t17_loop k0_t17_ok ⟨⟩ (k0_t17_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32))
/-- Gather 1 of level 4. -/
def G4_1 : KProg F Unit :=
  Scf.Loop.for k0_t19_loop k0_t19_ok ⟨⟩ (k0_t19_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32) 0#32)
/-- Gather 0 of level 5. -/
def G5_0 : KProg F Unit :=
  Scf.Loop.for k0_t21_loop k0_t21_ok ⟨⟩ (k0_t21_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32))
/-- Gather 1 of level 5. -/
def G5_1 : KProg F Unit :=
  Scf.Loop.for k0_t23_loop k0_t23_ok ⟨⟩ (k0_t23_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zi S8x128 32) (zi S8x128 1) (zf S8x128) (zf S8x128) (zi S8x128 1) (zi S8x128 32))
/-- Gather 0 of level 6. -/
def G6_0 : KProg F Unit :=
  Scf.Loop.for k0_t25_loop k0_t25_ok ⟨⟩ (k0_t25_body i arg1 harg1 arg2 harg2 arg3 harg3 arg4 harg4 arg5 harg5 arg6 harg6 arg7 harg7 arg8 harg8 arg9 harg9 arg10 harg10 arg11 harg11 arg12 (zi S128x8x128 32) (zi S8x128 32) (zi S8x128 32) (zi S8x128 32) (zi S1x8x128 32) (zi S1x8x128 32))
/-- Gather 1 of level 6. -/
def G6_1 : KProg F Unit :=
  Scf.Loop.for k0_t27_loop k0_t27_ok ⟨⟩ (k0_t27_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zi S8x128 32))
/-- Gather 2 of level 6. -/
def G6_2 : KProg F Unit :=
  Scf.Loop.for k0_t29_loop k0_t29_ok ⟨⟩ (k0_t29_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 32))
/-- Gather 3 of level 6. -/
def G6_3 : KProg F Unit :=
  Scf.Loop.for k0_t31_loop k0_t31_ok ⟨⟩ (k0_t31_body i arg1 harg1 arg2 harg2 arg3 harg3 arg4 harg4 arg5 harg5 arg6 harg6 arg7 harg7 arg8 harg8 arg9 harg9 arg10 harg10 arg11 harg11 arg12 (zi S128x8x128 32) (zi S128x8x128 32) (zi S128x8x128 1) (zf S8x128) (zi S8x128 32) (zf S8x128) (zf S8x128) (zf S8x128) (zf S8x128) (zi S8x128 32) (zi S8x128 1) (zf S8x128) (zi S8x128x1 32))
/-- Gather 0 of level 7. -/
def G7_0 : KProg F Unit :=
  Scf.Loop.for k0_t33_loop k0_t33_ok ⟨⟩ (k0_t33_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32))
/-- Gather 1 of level 7. -/
def G7_1 : KProg F Unit :=
  Scf.Loop.for k0_t35_loop k0_t35_ok ⟨⟩ (k0_t35_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32))
/-- Gather 2 of level 7. -/
def G7_2 : KProg F Unit :=
  Scf.Loop.for k0_t37_loop k0_t37_ok ⟨⟩ (k0_t37_body i arg1 harg1 arg2 harg2 arg3 harg3 arg4 harg4 arg5 harg5 arg6 harg6 arg7 harg7 arg8 harg8 arg9 harg9 arg10 harg10 arg11 harg11 arg12 (zi S8x128 32) (zf S8x128) (zi S8x128 32) (zf S8x128) (zf S8x128) (zf S8x128) (zf S8x128) (zi S8x128 32) (zi S8x128 32) (zi S8x128 32))
/-- Gather 3 of level 7. -/
def G7_3 : KProg F Unit :=
  Scf.Loop.for k0_t39_loop k0_t39_ok ⟨⟩ (k0_t39_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zi S8x128 1) (zi S8x128 32))
/-- Gather 0 of level 8. -/
def G8_0 : KProg F Unit :=
  Scf.Loop.for k0_t41_loop k0_t41_ok ⟨⟩ (k0_t41_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32))
/-- Gather 1 of level 8. -/
def G8_1 : KProg F Unit :=
  Scf.Loop.for k0_t43_loop k0_t43_ok ⟨⟩ (k0_t43_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 32))
/-- Gather 2 of level 8. -/
def G8_2 : KProg F Unit :=
  Scf.Loop.for k0_t45_loop k0_t45_ok ⟨⟩ (k0_t45_body i arg1 harg1 arg2 harg2 arg3 harg3 arg4 harg4 arg5 harg5 arg6 harg6 arg7 harg7 arg8 harg8 arg9 harg9 arg10 harg10 arg11 harg11 arg12 (zi S128x8x128 32) (zi S128x8x128 32) (zi S128x8x128 1) (zf S8x128) (zi S8x128 32) (zf S8x128) (zf S8x128) (zf S8x128) (zi S8x128 32) (zi S8x128 1) (zf S8x128) (zf S8x128) (zi S8x128 32))
/-- Gather 3 of level 8. -/
def G8_3 : KProg F Unit :=
  Scf.Loop.for k0_t47_loop k0_t47_ok ⟨⟩ (k0_t47_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zf S8x128))
/-- Gather 0 of level 9. -/
def G9_0 : KProg F Unit :=
  Scf.Loop.for k0_t49_loop k0_t49_ok ⟨⟩ (k0_t49_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32) 0#32 0#32)
/-- Gather 1 of level 9. -/
def G9_1 : KProg F Unit :=
  Scf.Loop.for k0_t51_loop k0_t51_ok ⟨⟩ (k0_t51_body i arg1 harg1 arg2 harg2 arg3 harg3 arg4 harg4 arg5 harg5 arg6 harg6 arg7 harg7 arg8 harg8 arg9 harg9 arg10 harg10 arg11 harg11 arg12 (zi S128x8x128 32) (zf S8x128) (zi S8x128 32) (zf S8x128) (zf S8x128) (zf S8x128) (zf S8x128) (zi S8x128 32) (zi S8x128 32) (zi S8x128 1))
/-- Gather 2 of level 9. -/
def G9_2 : KProg F Unit :=
  Scf.Loop.for k0_t53_loop k0_t53_ok ⟨⟩ (k0_t53_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zf S8x128))
/-- Gather 3 of level 9. -/
def G9_3 : KProg F Unit :=
  Scf.Loop.for k0_t55_loop k0_t55_ok ⟨⟩ (k0_t55_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zf S8x128))
/-- Gather 0 of level 10. -/
def G10_0 : KProg F Unit :=
  Scf.Loop.for k0_t57_loop k0_t57_ok ⟨⟩ (k0_t57_body i arg1 harg1 arg2 harg2 arg3 harg3 arg4 harg4 arg5 harg5 arg6 harg6 arg7 harg7 arg8 harg8 arg9 harg9 arg10 harg10 arg11 harg11 arg12 (zi S128x8x128 32) (zi S128x8x128 32) (zi S128x8x128 1) (zi S8x128 32))
/-- Gather 1 of level 10. -/
def G10_1 : KProg F Unit :=
  Scf.Loop.for k0_t59_loop k0_t59_ok ⟨⟩ (k0_t59_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zi S8x128 32) (zi S8x128 1) (zf S8x128) (zf S8x128) (zi S8x128 1) (zi S8x128 32))
/-- Gather 2 of level 10. -/
def G10_2 : KProg F Unit :=
  Scf.Loop.for k0_t61_loop k0_t61_ok ⟨⟩ (k0_t61_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32) 0#32)
/-- Gather 3 of level 10. -/
def G10_3 : KProg F Unit :=
  Scf.Loop.for k0_t63_loop k0_t63_ok ⟨⟩ (k0_t63_body i arg1 harg1 arg2 harg2 arg3 harg3 arg4 harg4 arg5 harg5 arg6 harg6 arg7 harg7 arg8 harg8 arg9 harg9 arg10 harg10 arg11 harg11 arg12 (zi S8x128 32) (zf S8x128) (zi S8x128 32) (zf S8x128) (zf S8x128) (zf S8x128) (zf S8x128) (zi S8x128 32) (zi S8x128 32))
/-- Gather 0 of level 11. -/
def G11_0 : KProg F Unit :=
  Scf.Loop.for k0_t65_loop k0_t65_ok ⟨⟩ (k0_t65_body i arg1 harg1 arg2 harg2 arg3 harg3 arg4 harg4 arg5 harg5 arg6 harg6 arg7 harg7 arg8 harg8 arg9 harg9 arg10 harg10 arg11 harg11 arg12 (zi S128x8x128 32) (zi S8x128 32) (zi S4x8x128 32))
/-- Gather 1 of level 11. -/
def G11_1 : KProg F Unit :=
  Scf.Loop.for k0_t67_loop k0_t67_ok ⟨⟩ (k0_t67_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zf S8x128) (zi S8x128 1) 0#32)
/-- Gather 2 of level 11. -/
def G11_2 : KProg F Unit :=
  Scf.Loop.for k0_t69_loop k0_t69_ok ⟨⟩ (k0_t69_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 1))
/-- Gather 3 of level 11. -/
def G11_3 : KProg F Unit :=
  Scf.Loop.for k0_t71_loop k0_t71_ok ⟨⟩ (k0_t71_body i arg1 harg1 arg2 harg2 arg3 harg3 arg4 harg4 arg5 harg5 arg6 harg6 arg7 harg7 arg8 harg8 arg9 harg9 arg10 harg10 arg11 harg11 arg12 (zi S128x8x128 32) (zi S128x8x128 32) (zi S128x8x128 1) (zf S8x128) (zi S8x128 32) (zf S8x128) (zf S8x128) (zf S8x128) (zi S8x128 32) (zi S8x128 1) (zf S8x128) (zf S8x128) (zi S8x128 1))
/-- Gather 0 of level 12. -/
def G12_0 : KProg F Unit :=
  Scf.Loop.for k0_t73_loop k0_t73_ok ⟨⟩ (k0_t73_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32))
/-- Gather 1 of level 12. -/
def G12_1 : KProg F Unit :=
  Scf.Loop.for k0_t75_loop k0_t75_ok ⟨⟩ (k0_t75_body i arg1 harg1 arg2 harg2 arg3 harg3 arg4 harg4 arg5 harg5 arg6 harg6 arg7 harg7 arg8 harg8 arg9 harg9 arg10 harg10 arg11 harg11 arg12 (zi S8x128 32) (zf S8x128) (zf S8x128) (zf S8x128) (zf S8x128) (zf S8x128) (zi S8x128 32) (zi S8x128 32))
/-- Gather 2 of level 12. -/
def G12_2 : KProg F Unit :=
  Scf.Loop.for k0_t77_loop k0_t77_ok ⟨⟩ (k0_t77_body i arg1 harg1 arg2 harg2 arg3 harg3 arg4 harg4 arg5 harg5 arg6 harg6 arg7 harg7 arg8 harg8 arg9 harg9 arg10 harg10 arg11 harg11 arg12 (zi S128x8x128 32) (zf S8x128) (zi S8x128 32) (zf S8x128) (zf S8x128) (zf S8x128) (zf S8x128) (zi S8x128 32) (zi S8x128 32) (zi S8x128 1) 0#32)
/-- Gather 3 of level 12. -/
def G12_3 : KProg F Unit :=
  Scf.Loop.for k0_t79_loop k0_t79_ok ⟨⟩ (k0_t79_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zf S8x128) 0#32)
/-- Gather 0 of level 13. -/
def G13_0 : KProg F Unit :=
  Scf.Loop.for k0_t81_loop k0_t81_ok ⟨⟩ (k0_t81_body i arg1 harg1 arg2 harg2 arg3 harg3 arg4 harg4 arg5 harg5 arg6 harg6 arg7 harg7 arg8 harg8 arg9 harg9 arg10 harg10 arg11 harg11 arg12 (zi S128x8x128 32) (zi S128x8x128 32) (zi S8x128 32))
/-- Gather 1 of level 13. -/
def G13_1 : KProg F Unit :=
  Scf.Loop.for k0_t83_loop k0_t83_ok ⟨⟩ (k0_t83_body i arg1 harg1 arg2 harg2 arg3 harg3 arg4 harg4 arg5 harg5 arg6 harg6 arg7 harg7 arg8 harg8 arg9 harg9 arg10 harg10 arg11 harg11 arg12 (zi S128x8x128 32) (zi S128x8x128 32) (zi S128x8x128 1) (zf S8x128) (zi S8x128 32) (zf S8x128) (zf S8x128) (zf S8x128) (zf S8x128) (zi S8x128 32) (zi S8x128 1) (zf S8x128) (zi S8x128 32))
/-- Gather 2 of level 13. -/
def G13_2 : KProg F Unit :=
  Scf.Loop.for k0_t85_loop k0_t85_ok ⟨⟩ (k0_t85_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zi S8x128 1) (zf S8x128) (zf S8x128) (zi S8x128 32))
/-- Gather 3 of level 13. -/
def G13_3 : KProg F Unit :=
  Scf.Loop.for k0_t87_loop k0_t87_ok ⟨⟩ (k0_t87_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32) 0#32 0#32)
/-- Gather 0 of level 14. -/
def G14_0 : KProg F Unit :=
  Scf.Loop.for k0_t89_loop k0_t89_ok ⟨⟩ (k0_t89_body i arg1 harg1 arg2 harg2 arg3 harg3 arg4 harg4 arg5 harg5 arg6 harg6 arg7 harg7 arg8 harg8 arg9 harg9 arg10 harg10 arg11 harg11 arg12 (zi S8x128 32) (zf S8x128) (zf S8x128) (zi S8x128 32) (zi S8x128 32) (zi S8x128 32) (zi S8x128 32) (zi S8x128 32) (zi S8x128 32))
/-- Gather 1 of level 14. -/
def G14_1 : KProg F Unit :=
  Scf.Loop.for k0_t91_loop k0_t91_ok ⟨⟩ (k0_t91_body i arg1 harg1 arg2 harg2 arg3 harg3 arg4 harg4 arg5 harg5 arg6 harg6 arg7 harg7 arg8 harg8 arg9 harg9 arg10 harg10 arg11 harg11 arg12 (zi S128x8x128 32) (zf S8x128) (zi S8x128 32) (zf S8x128) (zf S8x128) (zf S8x128) (zf S8x128) (zi S8x128 32) (zi S8x128 32) (zi S8x128 1) (zi S8x128 1) (zi S8x128 32))
/-- Gather 2 of level 14. -/
def G14_2 : KProg F Unit :=
  Scf.Loop.for k0_t93_loop k0_t93_ok ⟨⟩ (k0_t93_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 32) (zi S8x128 1) (zf S8x128) (zi S8x128 1) (zi S8x128 32))
/-- Gather 3 of level 14. -/
def G14_3 : KProg F Unit :=
  Scf.Loop.for k0_t95_loop k0_t95_ok ⟨⟩ (k0_t95_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 1) 0#32)
/-- Gather 0 of level 15. -/
def G15_0 : KProg F Unit :=
  Scf.Loop.for k0_t97_loop k0_t97_ok ⟨⟩ (k0_t97_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zi S8x128 32) (zi S8x128 1) (zf S8x128) (zf S8x128) (zi S8x128 1) 0#32)
/-- Gather 1 of level 15. -/
def G15_1 : KProg F Unit :=
  Scf.Loop.for k0_t99_loop k0_t99_ok ⟨⟩ (k0_t99_body i arg1 harg1 arg2 harg2 arg3 harg3 arg4 harg4 arg5 harg5 arg6 harg6 arg7 harg7 arg8 harg8 arg9 harg9 arg10 harg10 arg11 harg11 arg12 (zi S128x8x128 32) (zi S128x8x128 32) (zf S8x128) (zi S8x128 32) (zf S8x128) (zf S8x128) (zf S8x128) (zf S8x128) (zi S8x128 32) (zi S8x128 1) (zf S8x128) (zi S8x128 1) 0#32)
/-- Gather 2 of level 15. -/
def G15_2 : KProg F Unit :=
  Scf.Loop.for k0_t101_loop k0_t101_ok ⟨⟩ (k0_t101_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zf S8x128) (zi S8x128 32) (zf S8x128) (zf S8x128) (zf S8x128) (zi S8x128 32) (zi S8x128 1) (zf S8x128) (zf S8x128) (zi S8x128 1) 0#32)
/-- Gather 3 of level 15. -/
def G15_3 : KProg F Unit :=
  Scf.Loop.for k0_t103_loop k0_t103_ok ⟨⟩ (k0_t103_body i arg1 harg1 arg2 harg2 arg3 harg3 arg4 harg4 arg5 harg5 arg6 harg6 arg7 harg7 arg8 harg8 arg9 harg9 arg10 harg10 arg11 harg11 arg12 (zi S8x128 32) (zi S128x8x128 32) (zi S128x8x128 32) (zi S128x8x128 1) (zi S8x128 32) (zf S8x128) (zf S8x128))
end Loops

/-! ## The body -/

/-- The kernel's body, level by level. -/
def body (i : grid0.Coords)
  (arg1 : Memref sig .tc .vmem S1x8x128 .f32)
  (harg1 : arg1.IsWhole)
  (arg2 : Memref sig .tc .vmem S1x8x128 .f32)
  (harg2 : arg2.IsWhole)
  (arg3 : Memref sig .tc .vmem S92840x1x128 .f32)
  (harg3 : arg3.IsWhole)
  (arg4 : Memref sig .tc .vmem S8x256x128 .bf16)
  (harg4 : arg4.IsWhole)
  (arg5 : Memref sig .tc .vmem S7x128x128 .bf16)
  (harg5 : arg5.IsWhole)
  (arg6 : Memref sig .tc .vmem S128x8 .bf16)
  (harg6 : arg6.IsWhole)
  (arg7 : Memref sig .tc .vmem S1x128x64 .f32)
  (harg7 : arg7.IsWhole)
  (arg8 : Memref sig .tc .vmem S2x4x8x128 .i32)
  (harg8 : arg8.IsWhole)
  (arg9 : Memref sig .tc .vmem S128x8x128 .f32)
  (harg9 : arg9.IsWhole)
  (arg10 : Memref sig .tc .vmem S128x8x128 .f32)
  (harg10 : arg10.IsWhole)
  (arg11 : Memref sig .tc .smem S2x4x8x128 .i32)
  (harg11 : arg11.IsWhole)
  (arg12 : DmaSems sig S2) : KProg F PUnit := do
  let x0 : Vec F S1x8x128 .f32 ← Prog.lift (.load arg1 (Rect.unit (s := S1x8x128) ![0, 0, 0] S1x8x128.size inb_S1x8x128_S1x8x128_0_0_0).toLoadRect (View.loadsAt_vmem h_S1x8x128))
  let y0 : Vec F S1x8x128 .f32 ← Prog.lift (.load arg2 (Rect.unit (s := S1x8x128) ![0, 0, 0] S1x8x128.size inb_S1x8x128_S1x8x128_0_0_0).toLoadRect (View.loadsAt_vmem h_S1x8x128))
  startD arg8 arg11 arg12 ![0, 0, 0, 0] inb_S2x4x8x128_S1x2x8x128_0_0_0_0 ![0] inb_S2_S1_0 (L0.drows (shapeCast S8x128 x0 shapeCasts_S1x8x128_S8x128) (shapeCast S8x128 y0 shapeCasts_S1x8x128_S8x128))
  startD arg8 arg11 arg12 ![1, 0, 0, 0] inb_S2x4x8x128_S1x2x8x128_1_0_0_0 ![1] inb_S2_S1_1 (L1.drows (shapeCast S8x128 x0 shapeCasts_S1x8x128_S8x128) (shapeCast S8x128 y0 shapeCasts_S1x8x128_S8x128))
  waitD arg8 arg11 arg12 ![0, 0, 0, 0] inb_S2x4x8x128_S1x2x8x128_0_0_0_0 ![0] inb_S2_S1_0
  let p0 ← gathD arg9 arg10 (G0_0 i arg1 harg1 arg2 harg2 arg3 harg3 arg4 harg4 arg5 harg5 arg6 harg6 arg7 harg7 arg8 harg8 arg9 harg9 arg10 harg10 arg11 harg11 arg12) (G0_1 i arg1 harg1 arg2 harg2 arg3 harg3 arg4 harg4 arg5 harg5 arg6 harg6 arg7 harg7 arg8 harg8 arg9 harg9 arg10 harg10 arg11 harg11 arg12)
  startD arg8 arg11 arg12 ![0, 0, 0, 0] inb_S2x4x8x128_S1x2x8x128_0_0_0_0 ![0] inb_S2_S1_0 (L2.drows (shapeCast S8x128 x0 shapeCasts_S1x8x128_S8x128) (shapeCast S8x128 y0 shapeCasts_S1x8x128_S8x128))
  waitD arg8 arg11 arg12 ![1, 0, 0, 0] inb_S2x4x8x128_S1x2x8x128_1_0_0_0 ![1] inb_S2_S1_1
  let p1 ← gathD arg9 arg10 (G1_0 i arg1 harg1 arg2 harg2 arg3 harg3 arg4 harg4 arg5 harg5 arg6 harg6 arg7 harg7 arg8 harg8 arg9 harg9 arg10 harg10 arg11 harg11 arg12) (G1_1 i arg1 harg1 arg2 harg2 arg3 harg3 arg4 harg4 arg5 harg5 arg6 harg6 arg7 harg7 arg8 harg8 arg9 harg9 arg10 harg10 arg11 harg11 arg12)
  startD arg8 arg11 arg12 ![1, 0, 0, 0] inb_S2x4x8x128_S1x2x8x128_1_0_0_0 ![1] inb_S2_S1_1 (L3.drows (shapeCast S8x128 x0 shapeCasts_S1x8x128_S8x128) (shapeCast S8x128 y0 shapeCasts_S1x8x128_S8x128))
  waitD arg8 arg11 arg12 ![0, 0, 0, 0] inb_S2x4x8x128_S1x2x8x128_0_0_0_0 ![0] inb_S2_S1_0
  let p2 ← gathD arg9 arg10 (G2_0 i arg1 harg1 arg2 harg2 arg3 harg3 arg4 harg4 arg5 harg5 arg6 harg6 arg7 harg7 arg8 harg8 arg9 harg9 arg10 harg10 arg11 harg11 arg12) (G2_1 i arg1 harg1 arg2 harg2 arg3 harg3 arg4 harg4 arg5 harg5 arg6 harg6 arg7 harg7 arg8 harg8 arg9 harg9 arg10 harg10 arg11 harg11 arg12)
  startD arg8 arg11 arg12 ![0, 0, 0, 0] inb_S2x4x8x128_S1x2x8x128_0_0_0_0 ![0] inb_S2_S1_0 (L4.drows (shapeCast S8x128 x0 shapeCasts_S1x8x128_S8x128) (shapeCast S8x128 y0 shapeCasts_S1x8x128_S8x128))
  waitD arg8 arg11 arg12 ![1, 0, 0, 0] inb_S2x4x8x128_S1x2x8x128_1_0_0_0 ![1] inb_S2_S1_1
  let p3 ← gathD arg9 arg10 (G3_0 i arg1 harg1 arg2 harg2 arg3 harg3 arg4 harg4 arg5 harg5 arg6 harg6 arg7 harg7 arg8 harg8 arg9 harg9 arg10 harg10 arg11 harg11 arg12) (G3_1 i arg1 harg1 arg2 harg2 arg3 harg3 arg4 harg4 arg5 harg5 arg6 harg6 arg7 harg7 arg8 harg8 arg9 harg9 arg10 harg10 arg11 harg11 arg12)
  startD arg8 arg11 arg12 ![1, 0, 0, 0] inb_S2x4x8x128_S1x2x8x128_1_0_0_0 ![1] inb_S2_S1_1 (L5.drows (shapeCast S8x128 x0 shapeCasts_S1x8x128_S8x128) (shapeCast S8x128 y0 shapeCasts_S1x8x128_S8x128))
  waitD arg8 arg11 arg12 ![0, 0, 0, 0] inb_S2x4x8x128_S1x2x8x128_0_0_0_0 ![0] inb_S2_S1_0
  let p4 ← gathD arg9 arg10 (G4_0 i arg1 harg1 arg2 harg2 arg3 harg3 arg4 harg4 arg5 harg5 arg6 harg6 arg7 harg7 arg8 harg8 arg9 harg9 arg10 harg10 arg11 harg11 arg12) (G4_1 i arg1 harg1 arg2 harg2 arg3 harg3 arg4 harg4 arg5 harg5 arg6 harg6 arg7 harg7 arg8 harg8 arg9 harg9 arg10 harg10 arg11 harg11 arg12)
  startH arg8 arg11 arg12 ![0, 0, 0, 0] inb_S2x4x8x128_S1x4x8x128_0_0_0_0 ![0] inb_S2_S1_0 (L6.hrows (shapeCast S8x128 x0 shapeCasts_S1x8x128_S8x128) (shapeCast S8x128 y0 shapeCasts_S1x8x128_S8x128))
  waitD arg8 arg11 arg12 ![1, 0, 0, 0] inb_S2x4x8x128_S1x2x8x128_1_0_0_0 ![1] inb_S2_S1_1
  let p5 ← gathD arg9 arg10 (G5_0 i arg1 harg1 arg2 harg2 arg3 harg3 arg4 harg4 arg5 harg5 arg6 harg6 arg7 harg7 arg8 harg8 arg9 harg9 arg10 harg10 arg11 harg11 arg12) (G5_1 i arg1 harg1 arg2 harg2 arg3 harg3 arg4 harg4 arg5 harg5 arg6 harg6 arg7 harg7 arg8 harg8 arg9 harg9 arg10 harg10 arg11 harg11 arg12)
  startH arg8 arg11 arg12 ![1, 0, 0, 0] inb_S2x4x8x128_S1x4x8x128_1_0_0_0 ![1] inb_S2_S1_1 (L7.hrows (shapeCast S8x128 x0 shapeCasts_S1x8x128_S8x128) (shapeCast S8x128 y0 shapeCasts_S1x8x128_S8x128))
  waitH arg8 arg11 arg12 ![0, 0, 0, 0] inb_S2x4x8x128_S1x4x8x128_0_0_0_0 ![0] inb_S2_S1_0
  let p6 ← gathH arg9 arg10 (G6_0 i arg1 harg1 arg2 harg2 arg3 harg3 arg4 harg4 arg5 harg5 arg6 harg6 arg7 harg7 arg8 harg8 arg9 harg9 arg10 harg10 arg11 harg11 arg12) (G6_1 i arg1 harg1 arg2 harg2 arg3 harg3 arg4 harg4 arg5 harg5 arg6 harg6 arg7 harg7 arg8 harg8 arg9 harg9 arg10 harg10 arg11 harg11 arg12) (G6_2 i arg1 harg1 arg2 harg2 arg3 harg3 arg4 harg4 arg5 harg5 arg6 harg6 arg7 harg7 arg8 harg8 arg9 harg9 arg10 harg10 arg11 harg11 arg12) (G6_3 i arg1 harg1 arg2 harg2 arg3 harg3 arg4 harg4 arg5 harg5 arg6 harg6 arg7 harg7 arg8 harg8 arg9 harg9 arg10 harg10 arg11 harg11 arg12)
  startH arg8 arg11 arg12 ![0, 0, 0, 0] inb_S2x4x8x128_S1x4x8x128_0_0_0_0 ![0] inb_S2_S1_0 (L8.hrows (shapeCast S8x128 x0 shapeCasts_S1x8x128_S8x128) (shapeCast S8x128 y0 shapeCasts_S1x8x128_S8x128))
  waitH arg8 arg11 arg12 ![1, 0, 0, 0] inb_S2x4x8x128_S1x4x8x128_1_0_0_0 ![1] inb_S2_S1_1
  let p7 ← gathH arg9 arg10 (G7_0 i arg1 harg1 arg2 harg2 arg3 harg3 arg4 harg4 arg5 harg5 arg6 harg6 arg7 harg7 arg8 harg8 arg9 harg9 arg10 harg10 arg11 harg11 arg12) (G7_1 i arg1 harg1 arg2 harg2 arg3 harg3 arg4 harg4 arg5 harg5 arg6 harg6 arg7 harg7 arg8 harg8 arg9 harg9 arg10 harg10 arg11 harg11 arg12) (G7_2 i arg1 harg1 arg2 harg2 arg3 harg3 arg4 harg4 arg5 harg5 arg6 harg6 arg7 harg7 arg8 harg8 arg9 harg9 arg10 harg10 arg11 harg11 arg12) (G7_3 i arg1 harg1 arg2 harg2 arg3 harg3 arg4 harg4 arg5 harg5 arg6 harg6 arg7 harg7 arg8 harg8 arg9 harg9 arg10 harg10 arg11 harg11 arg12)
  startH arg8 arg11 arg12 ![1, 0, 0, 0] inb_S2x4x8x128_S1x4x8x128_1_0_0_0 ![1] inb_S2_S1_1 (L9.hrows (shapeCast S8x128 x0 shapeCasts_S1x8x128_S8x128) (shapeCast S8x128 y0 shapeCasts_S1x8x128_S8x128))
  waitH arg8 arg11 arg12 ![0, 0, 0, 0] inb_S2x4x8x128_S1x4x8x128_0_0_0_0 ![0] inb_S2_S1_0
  let p8 ← gathH arg9 arg10 (G8_0 i arg1 harg1 arg2 harg2 arg3 harg3 arg4 harg4 arg5 harg5 arg6 harg6 arg7 harg7 arg8 harg8 arg9 harg9 arg10 harg10 arg11 harg11 arg12) (G8_1 i arg1 harg1 arg2 harg2 arg3 harg3 arg4 harg4 arg5 harg5 arg6 harg6 arg7 harg7 arg8 harg8 arg9 harg9 arg10 harg10 arg11 harg11 arg12) (G8_2 i arg1 harg1 arg2 harg2 arg3 harg3 arg4 harg4 arg5 harg5 arg6 harg6 arg7 harg7 arg8 harg8 arg9 harg9 arg10 harg10 arg11 harg11 arg12) (G8_3 i arg1 harg1 arg2 harg2 arg3 harg3 arg4 harg4 arg5 harg5 arg6 harg6 arg7 harg7 arg8 harg8 arg9 harg9 arg10 harg10 arg11 harg11 arg12)
  startH arg8 arg11 arg12 ![0, 0, 0, 0] inb_S2x4x8x128_S1x4x8x128_0_0_0_0 ![0] inb_S2_S1_0 (L10.hrows (shapeCast S8x128 x0 shapeCasts_S1x8x128_S8x128) (shapeCast S8x128 y0 shapeCasts_S1x8x128_S8x128))
  waitH arg8 arg11 arg12 ![1, 0, 0, 0] inb_S2x4x8x128_S1x4x8x128_1_0_0_0 ![1] inb_S2_S1_1
  let p9 ← gathH arg9 arg10 (G9_0 i arg1 harg1 arg2 harg2 arg3 harg3 arg4 harg4 arg5 harg5 arg6 harg6 arg7 harg7 arg8 harg8 arg9 harg9 arg10 harg10 arg11 harg11 arg12) (G9_1 i arg1 harg1 arg2 harg2 arg3 harg3 arg4 harg4 arg5 harg5 arg6 harg6 arg7 harg7 arg8 harg8 arg9 harg9 arg10 harg10 arg11 harg11 arg12) (G9_2 i arg1 harg1 arg2 harg2 arg3 harg3 arg4 harg4 arg5 harg5 arg6 harg6 arg7 harg7 arg8 harg8 arg9 harg9 arg10 harg10 arg11 harg11 arg12) (G9_3 i arg1 harg1 arg2 harg2 arg3 harg3 arg4 harg4 arg5 harg5 arg6 harg6 arg7 harg7 arg8 harg8 arg9 harg9 arg10 harg10 arg11 harg11 arg12)
  startH arg8 arg11 arg12 ![1, 0, 0, 0] inb_S2x4x8x128_S1x4x8x128_1_0_0_0 ![1] inb_S2_S1_1 (L11.hrows (shapeCast S8x128 x0 shapeCasts_S1x8x128_S8x128) (shapeCast S8x128 y0 shapeCasts_S1x8x128_S8x128))
  waitH arg8 arg11 arg12 ![0, 0, 0, 0] inb_S2x4x8x128_S1x4x8x128_0_0_0_0 ![0] inb_S2_S1_0
  let p10 ← gathH arg9 arg10 (G10_0 i arg1 harg1 arg2 harg2 arg3 harg3 arg4 harg4 arg5 harg5 arg6 harg6 arg7 harg7 arg8 harg8 arg9 harg9 arg10 harg10 arg11 harg11 arg12) (G10_1 i arg1 harg1 arg2 harg2 arg3 harg3 arg4 harg4 arg5 harg5 arg6 harg6 arg7 harg7 arg8 harg8 arg9 harg9 arg10 harg10 arg11 harg11 arg12) (G10_2 i arg1 harg1 arg2 harg2 arg3 harg3 arg4 harg4 arg5 harg5 arg6 harg6 arg7 harg7 arg8 harg8 arg9 harg9 arg10 harg10 arg11 harg11 arg12) (G10_3 i arg1 harg1 arg2 harg2 arg3 harg3 arg4 harg4 arg5 harg5 arg6 harg6 arg7 harg7 arg8 harg8 arg9 harg9 arg10 harg10 arg11 harg11 arg12)
  startH arg8 arg11 arg12 ![0, 0, 0, 0] inb_S2x4x8x128_S1x4x8x128_0_0_0_0 ![0] inb_S2_S1_0 (L12.hrows (shapeCast S8x128 x0 shapeCasts_S1x8x128_S8x128) (shapeCast S8x128 y0 shapeCasts_S1x8x128_S8x128))
  waitH arg8 arg11 arg12 ![1, 0, 0, 0] inb_S2x4x8x128_S1x4x8x128_1_0_0_0 ![1] inb_S2_S1_1
  let p11 ← gathH arg9 arg10 (G11_0 i arg1 harg1 arg2 harg2 arg3 harg3 arg4 harg4 arg5 harg5 arg6 harg6 arg7 harg7 arg8 harg8 arg9 harg9 arg10 harg10 arg11 harg11 arg12) (G11_1 i arg1 harg1 arg2 harg2 arg3 harg3 arg4 harg4 arg5 harg5 arg6 harg6 arg7 harg7 arg8 harg8 arg9 harg9 arg10 harg10 arg11 harg11 arg12) (G11_2 i arg1 harg1 arg2 harg2 arg3 harg3 arg4 harg4 arg5 harg5 arg6 harg6 arg7 harg7 arg8 harg8 arg9 harg9 arg10 harg10 arg11 harg11 arg12) (G11_3 i arg1 harg1 arg2 harg2 arg3 harg3 arg4 harg4 arg5 harg5 arg6 harg6 arg7 harg7 arg8 harg8 arg9 harg9 arg10 harg10 arg11 harg11 arg12)
  startH arg8 arg11 arg12 ![1, 0, 0, 0] inb_S2x4x8x128_S1x4x8x128_1_0_0_0 ![1] inb_S2_S1_1 (L13.hrows (shapeCast S8x128 x0 shapeCasts_S1x8x128_S8x128) (shapeCast S8x128 y0 shapeCasts_S1x8x128_S8x128))
  waitH arg8 arg11 arg12 ![0, 0, 0, 0] inb_S2x4x8x128_S1x4x8x128_0_0_0_0 ![0] inb_S2_S1_0
  let p12 ← gathH arg9 arg10 (G12_0 i arg1 harg1 arg2 harg2 arg3 harg3 arg4 harg4 arg5 harg5 arg6 harg6 arg7 harg7 arg8 harg8 arg9 harg9 arg10 harg10 arg11 harg11 arg12) (G12_1 i arg1 harg1 arg2 harg2 arg3 harg3 arg4 harg4 arg5 harg5 arg6 harg6 arg7 harg7 arg8 harg8 arg9 harg9 arg10 harg10 arg11 harg11 arg12) (G12_2 i arg1 harg1 arg2 harg2 arg3 harg3 arg4 harg4 arg5 harg5 arg6 harg6 arg7 harg7 arg8 harg8 arg9 harg9 arg10 harg10 arg11 harg11 arg12) (G12_3 i arg1 harg1 arg2 harg2 arg3 harg3 arg4 harg4 arg5 harg5 arg6 harg6 arg7 harg7 arg8 harg8 arg9 harg9 arg10 harg10 arg11 harg11 arg12)
  startH arg8 arg11 arg12 ![0, 0, 0, 0] inb_S2x4x8x128_S1x4x8x128_0_0_0_0 ![0] inb_S2_S1_0 (L14.hrows (shapeCast S8x128 x0 shapeCasts_S1x8x128_S8x128) (shapeCast S8x128 y0 shapeCasts_S1x8x128_S8x128))
  waitH arg8 arg11 arg12 ![1, 0, 0, 0] inb_S2x4x8x128_S1x4x8x128_1_0_0_0 ![1] inb_S2_S1_1
  let p13 ← gathH arg9 arg10 (G13_0 i arg1 harg1 arg2 harg2 arg3 harg3 arg4 harg4 arg5 harg5 arg6 harg6 arg7 harg7 arg8 harg8 arg9 harg9 arg10 harg10 arg11 harg11 arg12) (G13_1 i arg1 harg1 arg2 harg2 arg3 harg3 arg4 harg4 arg5 harg5 arg6 harg6 arg7 harg7 arg8 harg8 arg9 harg9 arg10 harg10 arg11 harg11 arg12) (G13_2 i arg1 harg1 arg2 harg2 arg3 harg3 arg4 harg4 arg5 harg5 arg6 harg6 arg7 harg7 arg8 harg8 arg9 harg9 arg10 harg10 arg11 harg11 arg12) (G13_3 i arg1 harg1 arg2 harg2 arg3 harg3 arg4 harg4 arg5 harg5 arg6 harg6 arg7 harg7 arg8 harg8 arg9 harg9 arg10 harg10 arg11 harg11 arg12)
  startH arg8 arg11 arg12 ![1, 0, 0, 0] inb_S2x4x8x128_S1x4x8x128_1_0_0_0 ![1] inb_S2_S1_1 (L15.hrows (shapeCast S8x128 x0 shapeCasts_S1x8x128_S8x128) (shapeCast S8x128 y0 shapeCasts_S1x8x128_S8x128))
  waitH arg8 arg11 arg12 ![0, 0, 0, 0] inb_S2x4x8x128_S1x4x8x128_0_0_0_0 ![0] inb_S2_S1_0
  let p14 ← gathH arg9 arg10 (G14_0 i arg1 harg1 arg2 harg2 arg3 harg3 arg4 harg4 arg5 harg5 arg6 harg6 arg7 harg7 arg8 harg8 arg9 harg9 arg10 harg10 arg11 harg11 arg12) (G14_1 i arg1 harg1 arg2 harg2 arg3 harg3 arg4 harg4 arg5 harg5 arg6 harg6 arg7 harg7 arg8 harg8 arg9 harg9 arg10 harg10 arg11 harg11 arg12) (G14_2 i arg1 harg1 arg2 harg2 arg3 harg3 arg4 harg4 arg5 harg5 arg6 harg6 arg7 harg7 arg8 harg8 arg9 harg9 arg10 harg10 arg11 harg11 arg12) (G14_3 i arg1 harg1 arg2 harg2 arg3 harg3 arg4 harg4 arg5 harg5 arg6 harg6 arg7 harg7 arg8 harg8 arg9 harg9 arg10 harg10 arg11 harg11 arg12)
  waitH arg8 arg11 arg12 ![1, 0, 0, 0] inb_S2x4x8x128_S1x4x8x128_1_0_0_0 ![1] inb_S2_S1_1
  let p15 ← gathH arg9 arg10 (G15_0 i arg1 harg1 arg2 harg2 arg3 harg3 arg4 harg4 arg5 harg5 arg6 harg6 arg7 harg7 arg8 harg8 arg9 harg9 arg10 harg10 arg11 harg11 arg12) (G15_1 i arg1 harg1 arg2 harg2 arg3 harg3 arg4 harg4 arg5 harg5 arg6 harg6 arg7 harg7 arg8 harg8 arg9 harg9 arg10 harg10 arg11 harg11 arg12) (G15_2 i arg1 harg1 arg2 harg2 arg3 harg3 arg4 harg4 arg5 harg5 arg6 harg6 arg7 harg7 arg8 harg8 arg9 harg9 arg10 harg10 arg11 harg11 arg12) (G15_3 i arg1 harg1 arg2 harg2 arg3 harg3 arg4 harg4 arg5 harg5 arg6 harg6 arg7 harg7 arg8 harg8 arg9 harg9 arg10 harg10 arg11 harg11 arg12)
  let f : Fin 32 → FVec F S8x128 .f32 := ![
    L0.dfeat evl (shapeCast S8x128 x0 shapeCasts_S1x8x128_S8x128) (shapeCast S8x128 y0 shapeCasts_S1x8x128_S8x128) p0.1 p0.2.1 p0.2.2.1 p0.2.2.2,
    L0.dfeat odl (shapeCast S8x128 x0 shapeCasts_S1x8x128_S8x128) (shapeCast S8x128 y0 shapeCasts_S1x8x128_S8x128) p0.1 p0.2.1 p0.2.2.1 p0.2.2.2,
    L1.dfeat evl (shapeCast S8x128 x0 shapeCasts_S1x8x128_S8x128) (shapeCast S8x128 y0 shapeCasts_S1x8x128_S8x128) p1.1 p1.2.1 p1.2.2.1 p1.2.2.2,
    L1.dfeat odl (shapeCast S8x128 x0 shapeCasts_S1x8x128_S8x128) (shapeCast S8x128 y0 shapeCasts_S1x8x128_S8x128) p1.1 p1.2.1 p1.2.2.1 p1.2.2.2,
    L2.dfeat evl (shapeCast S8x128 x0 shapeCasts_S1x8x128_S8x128) (shapeCast S8x128 y0 shapeCasts_S1x8x128_S8x128) p2.1 p2.2.1 p2.2.2.1 p2.2.2.2,
    L2.dfeat odl (shapeCast S8x128 x0 shapeCasts_S1x8x128_S8x128) (shapeCast S8x128 y0 shapeCasts_S1x8x128_S8x128) p2.1 p2.2.1 p2.2.2.1 p2.2.2.2,
    L3.dfeat evl (shapeCast S8x128 x0 shapeCasts_S1x8x128_S8x128) (shapeCast S8x128 y0 shapeCasts_S1x8x128_S8x128) p3.1 p3.2.1 p3.2.2.1 p3.2.2.2,
    L3.dfeat odl (shapeCast S8x128 x0 shapeCasts_S1x8x128_S8x128) (shapeCast S8x128 y0 shapeCasts_S1x8x128_S8x128) p3.1 p3.2.1 p3.2.2.1 p3.2.2.2,
    L4.dfeat evl (shapeCast S8x128 x0 shapeCasts_S1x8x128_S8x128) (shapeCast S8x128 y0 shapeCasts_S1x8x128_S8x128) p4.1 p4.2.1 p4.2.2.1 p4.2.2.2,
    L4.dfeat odl (shapeCast S8x128 x0 shapeCasts_S1x8x128_S8x128) (shapeCast S8x128 y0 shapeCasts_S1x8x128_S8x128) p4.1 p4.2.1 p4.2.2.1 p4.2.2.2,
    L5.dfeat evl (shapeCast S8x128 x0 shapeCasts_S1x8x128_S8x128) (shapeCast S8x128 y0 shapeCasts_S1x8x128_S8x128) p5.1 p5.2.1 p5.2.2.1 p5.2.2.2,
    L5.dfeat odl (shapeCast S8x128 x0 shapeCasts_S1x8x128_S8x128) (shapeCast S8x128 y0 shapeCasts_S1x8x128_S8x128) p5.1 p5.2.1 p5.2.2.1 p5.2.2.2,
    L6.hfeat evl (shapeCast S8x128 x0 shapeCasts_S1x8x128_S8x128) (shapeCast S8x128 y0 shapeCasts_S1x8x128_S8x128) p6.1 p6.2.1 p6.2.2.1 p6.2.2.2,
    L6.hfeat odl (shapeCast S8x128 x0 shapeCasts_S1x8x128_S8x128) (shapeCast S8x128 y0 shapeCasts_S1x8x128_S8x128) p6.1 p6.2.1 p6.2.2.1 p6.2.2.2,
    L7.hfeat evl (shapeCast S8x128 x0 shapeCasts_S1x8x128_S8x128) (shapeCast S8x128 y0 shapeCasts_S1x8x128_S8x128) p7.1 p7.2.1 p7.2.2.1 p7.2.2.2,
    L7.hfeat odl (shapeCast S8x128 x0 shapeCasts_S1x8x128_S8x128) (shapeCast S8x128 y0 shapeCasts_S1x8x128_S8x128) p7.1 p7.2.1 p7.2.2.1 p7.2.2.2,
    L8.hfeat evl (shapeCast S8x128 x0 shapeCasts_S1x8x128_S8x128) (shapeCast S8x128 y0 shapeCasts_S1x8x128_S8x128) p8.1 p8.2.1 p8.2.2.1 p8.2.2.2,
    L8.hfeat odl (shapeCast S8x128 x0 shapeCasts_S1x8x128_S8x128) (shapeCast S8x128 y0 shapeCasts_S1x8x128_S8x128) p8.1 p8.2.1 p8.2.2.1 p8.2.2.2,
    L9.hfeat evl (shapeCast S8x128 x0 shapeCasts_S1x8x128_S8x128) (shapeCast S8x128 y0 shapeCasts_S1x8x128_S8x128) p9.1 p9.2.1 p9.2.2.1 p9.2.2.2,
    L9.hfeat odl (shapeCast S8x128 x0 shapeCasts_S1x8x128_S8x128) (shapeCast S8x128 y0 shapeCasts_S1x8x128_S8x128) p9.1 p9.2.1 p9.2.2.1 p9.2.2.2,
    L10.hfeat evl (shapeCast S8x128 x0 shapeCasts_S1x8x128_S8x128) (shapeCast S8x128 y0 shapeCasts_S1x8x128_S8x128) p10.1 p10.2.1 p10.2.2.1 p10.2.2.2,
    L10.hfeat odl (shapeCast S8x128 x0 shapeCasts_S1x8x128_S8x128) (shapeCast S8x128 y0 shapeCasts_S1x8x128_S8x128) p10.1 p10.2.1 p10.2.2.1 p10.2.2.2,
    L11.hfeat evl (shapeCast S8x128 x0 shapeCasts_S1x8x128_S8x128) (shapeCast S8x128 y0 shapeCasts_S1x8x128_S8x128) p11.1 p11.2.1 p11.2.2.1 p11.2.2.2,
    L11.hfeat odl (shapeCast S8x128 x0 shapeCasts_S1x8x128_S8x128) (shapeCast S8x128 y0 shapeCasts_S1x8x128_S8x128) p11.1 p11.2.1 p11.2.2.1 p11.2.2.2,
    L12.hfeat evl (shapeCast S8x128 x0 shapeCasts_S1x8x128_S8x128) (shapeCast S8x128 y0 shapeCasts_S1x8x128_S8x128) p12.1 p12.2.1 p12.2.2.1 p12.2.2.2,
    L12.hfeat odl (shapeCast S8x128 x0 shapeCasts_S1x8x128_S8x128) (shapeCast S8x128 y0 shapeCasts_S1x8x128_S8x128) p12.1 p12.2.1 p12.2.2.1 p12.2.2.2,
    L13.hfeat evl (shapeCast S8x128 x0 shapeCasts_S1x8x128_S8x128) (shapeCast S8x128 y0 shapeCasts_S1x8x128_S8x128) p13.1 p13.2.1 p13.2.2.1 p13.2.2.2,
    L13.hfeat odl (shapeCast S8x128 x0 shapeCasts_S1x8x128_S8x128) (shapeCast S8x128 y0 shapeCasts_S1x8x128_S8x128) p13.1 p13.2.1 p13.2.2.1 p13.2.2.2,
    L14.hfeat evl (shapeCast S8x128 x0 shapeCasts_S1x8x128_S8x128) (shapeCast S8x128 y0 shapeCasts_S1x8x128_S8x128) p14.1 p14.2.1 p14.2.2.1 p14.2.2.2,
    L14.hfeat odl (shapeCast S8x128 x0 shapeCasts_S1x8x128_S8x128) (shapeCast S8x128 y0 shapeCasts_S1x8x128_S8x128) p14.1 p14.2.1 p14.2.2.1 p14.2.2.2,
    L15.hfeat evl (shapeCast S8x128 x0 shapeCasts_S1x8x128_S8x128) (shapeCast S8x128 y0 shapeCasts_S1x8x128_S8x128) p15.1 p15.2.1 p15.2.2.1 p15.2.2.2,
    L15.hfeat odl (shapeCast S8x128 x0 shapeCasts_S1x8x128_S8x128) (shapeCast S8x128 y0 shapeCasts_S1x8x128_S8x128) p15.1 p15.2.1 p15.2.2.1 p15.2.2.2]
  netAt arg4 arg5 arg6 arg7 (enc f) ![0, 0, 0] inb_S8x256x128_S1x256x128_0_0_0 ![0, 0, 0] inb_S1x128x64_S1x128x8_0_0_0
  netAt arg4 arg5 arg6 arg7 (enc f) ![1, 0, 0] inb_S8x256x128_S1x256x128_1_0_0 ![0, 0, 8] inb_S1x128x64_S1x128x8_0_0_8
  netAt arg4 arg5 arg6 arg7 (enc f) ![2, 0, 0] inb_S8x256x128_S1x256x128_2_0_0 ![0, 0, 16] inb_S1x128x64_S1x128x8_0_0_16
  netAt arg4 arg5 arg6 arg7 (enc f) ![3, 0, 0] inb_S8x256x128_S1x256x128_3_0_0 ![0, 0, 24] inb_S1x128x64_S1x128x8_0_0_24
  netAt arg4 arg5 arg6 arg7 (enc f) ![4, 0, 0] inb_S8x256x128_S1x256x128_4_0_0 ![0, 0, 32] inb_S1x128x64_S1x128x8_0_0_32
  netAt arg4 arg5 arg6 arg7 (enc f) ![5, 0, 0] inb_S8x256x128_S1x256x128_5_0_0 ![0, 0, 40] inb_S1x128x64_S1x128x8_0_0_40
  netAt arg4 arg5 arg6 arg7 (enc f) ![6, 0, 0] inb_S8x256x128_S1x256x128_6_0_0 ![0, 0, 48] inb_S1x128x64_S1x128x8_0_0_48
  netAt arg4 arg5 arg6 arg7 (enc f) ![7, 0, 0] inb_S8x256x128_S1x256x128_7_0_0 ![0, 0, 56] inb_S1x128x64_S1x128x8_0_0_56
  pure ⟨⟩

end Cert.KernelIdeal.Own

end
-- ==== Proof.KernelIdealGather.lean ====
/- The gather of one row vector: for each of the 1024 points a row number is read from the scalar memory, that row of the
   packed table is loaded, and stored at the point's place of a stage. Run, the two nested loops leave the stage at
   `stageOf`, whatever it held. -/
module

public import proofs.«01_k».proof.Proof.KernelIdealBody
public import Idealize.ShloMosaic.Lib.Pipeline.FrameBody
public import Idealize.ShloMosaic.Lib.Pipeline.Value
public import Idealize.ShloMosaic.Lib.WritesUnit
public import Idealize.ShloMosaic.Lib.ValueIdxCore
public import Idealize.ShloMosaic.Lib.ReshapeSlab

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The weakest precondition of a program of the kernel on core `c`. -/
abbrev wpk {α : Type} (c : Dev nD) (p : KProg F α) (Q : α → sProp 𝕄) : sProp 𝕄 :=
  wp frame (wpE (defs₀ (F := F)) Variants.none (c : Thread nD τ) none) Set.univ p Q

/-- The elements of a view's buffer under it are held, at contents `f`. -/
abbrev held (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-! ## The program -/

/-- Where trip `(t, s)` reads its row number: slot `q`, row vector `g`. -/
def goff (q g : ℕ) (t : Fin k0_t1_loop.trips) (s : Fin k0_t2_loop.trips) : Fin 4 → ℕ :=
  ![q, g, (Scalar.indexCast (Scf.iv 0#32 1#32 s)).toNat, (Scalar.indexCast (Scf.iv 0#32 1#32 t)).toNat]

theorem trips1 : k0_t1_loop.trips = 128 := by decide
theorem trips2 : k0_t2_loop.trips = 8 := by decide

theorem iv_lt (n : ℕ) (h : n < 128) : (Scalar.indexCast (Scf.iv 0#32 1#32 n)).toNat = n := by
  have : ∀ k : Fin 128, (Scalar.indexCast (Scf.iv 0#32 1#32 k.val)).toNat = k.val := by decide
  exact this ⟨n, h⟩

theorem goff_eq (q g : ℕ) (t : Fin k0_t1_loop.trips) (s : Fin k0_t2_loop.trips) : goff q g t s = ![q, g, s.val, t.val] := by
  have ht : t.val < 128 := trips1 ▸ t.isLt
  have hs : s.val < 8 := trips2 ▸ s.isLt
  unfold goff
  rw [iv_lt _ ht, iv_lt _ (by omega)]

theorem goff_inb {q g : ℕ} (hq : q < 2) (hg : g < 4) (t : Fin k0_t1_loop.trips) (s : Fin k0_t2_loop.trips) :
    ∀ a, goff q g t s a + S1x1x1x1.size a ≤ S2x4x8x128.size a := by
  have ht : t.val < 128 := trips1 ▸ t.isLt
  have hs : s.val < 8 := trips2 ▸ s.isLt
  rw [goff_eq]
  intro a
  match a with
  | ⟨0, _⟩ => show q + 1 ≤ 2; omega
  | ⟨1, _⟩ => show g + 1 ≤ 4; omega
  | ⟨2, _⟩ => show s.val + 1 ≤ 8; omega
  | ⟨3, _⟩ => show t.val + 1 ≤ 128; omega

/-- One row's copy. -/
def gin (arg3 : Memref sig .tc .vmem S92840x1x128 .f32) (stg : Memref sig .tc .vmem S128x8x128 .f32)
    (arg11 : Memref sig .tc .smem S2x4x8x128 .i32) (q g : ℕ) (hq : q < 2) (hg : g < 4) (t : Fin k0_t1_loop.trips) :
    Fin k0_t2_loop.trips → Unit → KProg F Unit := fun s _ => do
  let v : Elt F .i32 ← smemLoad arg11 (Rect.unit (s := S2x4x8x128) (goff q g t s) S1x1x1x1.size (goff_inb hq hg t s)) numel1_S1x1x1x1 rfl
  have hw : k0_chk1 v := (← Prog.lift (TpuEff.assume (k0_chk1 v) (k0_chk1.dec v))).down
  let r : Vec F S1x1x128 .f32 ← Prog.lift (.load arg3 (Rect.unit (s := S92840x1x128) (k0_off2 v) S1x1x128.size (k0_off2_inb v hw)).toLoadRect (View.loadsAt_vmem h_S1x1x128))
  let _ : Vec F S1x1x128 .f32 ← Prog.lift (.load stg (Rect.unit (s := S128x8x128) (k0_off3 t s) S1x1x128.size (k0_off3_inb t s)).toLoadRect (View.loadsAt_vmem h_S1x1x128))
  Prog.lift (.store stg (Rect.unit (s := S128x8x128) (k0_off3 t s) S1x1x128.size (k0_off3_inb t s))
    (shapeCast S1x1x128 (shapeCast S128 r shapeCasts_S1x1x128_S128) shapeCasts_S128_S1x1x128) Finset.univ (View.stores_vmem_bits_univ h_S1x1x128 rfl) (.inl rfl))
  pure ⟨⟩

/-- A point's eight rows. -/
def gout (arg3 : Memref sig .tc .vmem S92840x1x128 .f32) (stg : Memref sig .tc .vmem S128x8x128 .f32)
    (arg11 : Memref sig .tc .smem S2x4x8x128 .i32) (q g : ℕ) (hq : q < 2) (hg : g < 4) :
    Fin k0_t1_loop.trips → Unit → KProg F Unit := fun t _ => do
  Scf.Loop.for k0_t2_loop k0_t2_ok ⟨⟩ (gin arg3 stg arg11 q g hq hg t)
  pure ⟨⟩

/-- The gather. -/
def gath (arg3 : Memref sig .tc .vmem S92840x1x128 .f32) (stg : Memref sig .tc .vmem S128x8x128 .f32)
    (arg11 : Memref sig .tc .smem S2x4x8x128 .i32) (q g : ℕ) (hq : q < 2) (hg : g < 4) : KProg F Unit :=
  Scf.Loop.for k0_t1_loop k0_t1_ok ⟨⟩ (gout arg3 stg arg11 q g hq hg)

/-! ## What it leaves -/

/-- The stage after a gather: at point `(t, s)` the table's row of number `R (s, t)`. -/
def stageOf (tab : Vec F S92840x1x128 .f32) (R : IVec S8x128 32) : Vec F S128x8x128 .f32 := fun j =>
  tab (ix3 ⟨(R (ix2 ⟨(j 1).val, (j 1).isLt⟩ ⟨(j 0).val, (j 0).isLt⟩)).toNat % 92840, Nat.mod_lt _ (by decide)⟩ ⟨0, by decide⟩ ⟨(j 2).val, (j 2).isLt⟩)

/-- The four-coordinate index of a row number. -/
abbrev at4 (q g s t : ℕ) (hq : q < 2) (hg : g < 4) (hs : s < 8) (ht : t < 128) : S2x4x8x128.Idx :=
  fun d => match d with | ⟨0, _⟩ => ⟨q, hq⟩ | ⟨1, _⟩ => ⟨g, hg⟩ | ⟨2, _⟩ => ⟨s, hs⟩ | ⟨3, _⟩ => ⟨t, ht⟩

/-- A row number of the table passes the check that the program makes of it. -/
theorem chk_of (v : BitVec 32) (h : v.toNat < 92840) : k0_chk1 v := by
  unfold k0_chk1 k0_off2
  intro a
  match a with
  | ⟨0, _⟩ => show (Scalar.indexCast v).toNat + 1 ≤ 92840; exact h
  | ⟨1, _⟩ => show 0 + 1 ≤ 1; omega
  | ⟨2, _⟩ => show 0 + 128 ≤ 128; omega

theorem off3_eq (t : Fin k0_t1_loop.trips) (s : Fin k0_t2_loop.trips) : k0_off3 t s = ![t.val, s.val, 0] := by
  have ht : t.val < 128 := trips1 ▸ t.isLt
  have hs : s.val < 8 := trips2 ▸ s.isLt
  show ![(Scalar.indexCast (Scf.iv 0#32 1#32 t)).toNat, (Scalar.indexCast (Scf.iv 0#32 1#32 s)).toNat, 0] = _
  rw [iv_lt _ ht, iv_lt _ (by omega)]

/-- The payload of a row's store is the row itself. -/
theorem row_cast (r : Vec F S1x1x128 .f32) :
    shapeCast S1x1x128 (shapeCast S128 r shapeCasts_S1x1x128_S128) shapeCasts_S128_S1x1x128 = r :=
  shapeCast_shapeCast r shapeCasts_S1x1x128_S128 shapeCasts_S128_S1x1x128

/-- The buffer's words read by the gather at slot `q`, row vector `g` are `R`'s. -/
def Reads (m : Memref sig .tc .smem S2x4x8x128 .i32) (q g : ℕ) (hq : q < 2) (hg : g < 4) (f : m.view.ty.Contents (Elt F)) (R : IVec S8x128 32) : Prop :=
  ∀ (s : Fin 8) (t : Fin 128), m.view.read (Elt F) f (at4 q g s t hq hg s.isLt t.isLt) = R (ix2 s t)

/-- The elements of a view under slot `q`. -/
def slotSet {sp : Space} (m : Memref sig .tc sp S2x4x8x128 .i32) (q : ℕ) : Finset m.view.ty.Idx :=
  m.view.setOn (Finset.univ.filter fun j => (j 0).val = q)

section Run
variable (c : Dev nD) (arg3 : Memref sig .tc .vmem S92840x1x128 .f32) (stg : Memref sig .tc .vmem S128x8x128 .f32)
  (arg11 : Memref sig .tc .smem S2x4x8x128 .i32) (q g : ℕ) (hq : q < 2) (hg : g < 4)
  (f3 : Buf (Elt F) (arg3.view.loc (c : Thread nD τ))) (f11 : Buf (Elt F) (arg11.view.loc (c : Thread nD τ))) (R : IVec S8x128 32)

/-- What the loops hold: the table, the row numbers, and the stage, which is done on the rows before `n`. -/
def ginv (n : ℕ) : sProp 𝕄 :=
  iprop(held c arg3 f3 ∗ (arg11.view.loc (c : Thread nD τ) ↦[slotSet arg11 q]{fullShare} f11)
    ∗ ∃ f, ⌜∀ j : S128x8x128.Idx, (j 0).val * 8 + (j 1).val < n → stg.view.read (Elt F) f j = stageOf (arg3.view.read (Elt F) f3) R j⌝ ∗ held c stg f)

theorem gin_run (hR : Reads arg11 q g hq hg f11 R) (hlt : ∀ j, (R j).toNat < 92840) (t : Fin k0_t1_loop.trips) (s : Fin k0_t2_loop.trips) (u : Unit) :
    ginv c arg3 stg arg11 q f3 f11 R (t.val * 8 + s.val)
      ⊢ wpk c (gin arg3 stg arg11 q g hq hg t s u) (fun _ => ginv c arg3 stg arg11 q f3 f11 R (t.val * 8 + (s.val + 1))) := by
  have ht : t.val < 128 := trips1 ▸ t.isLt
  have hs : s.val < 8 := trips2 ▸ s.isLt
  unfold ginv gin held wpk
  simp only [smemLoad, smemLoadElt, Prog.lift, Prog.bind_op, Prog.bind_ret, Prog.pure_eq_ret]
  iintro ⟨H3, H11, %f, %hf, Hs⟩
  iapply (wp_load Variants.none (c : Thread nD τ) none Set.univ ?sub) $$ H11
  case sub =>
    refine Finset.map_subset_map.mpr fun j hj => ?_
    have hj' := (Rect.mem_set_unit).mp hj 0
    rw [goff_eq] at hj'
    simp only [Finset.mem_filter, Finset.mem_univ, true_and]
    have h0 : q ≤ (j 0).val ∧ (j 0).val < q + 1 := hj'
    omega
  iintro H11
  have hwR : arg11.view.readAt (Elt F) (Rect.unit (s := S2x4x8x128) (goff q g t s) S1x1x1x1.size (goff_inb hq hg t s)).toLoadRect f11
      (Shape.Idx.first (numel1_S1x1x1x1.symm ▸ Nat.one_pos)) = R (ix2 ⟨s.val, hs⟩ ⟨t.val, ht⟩) := by
    rw [← hR ⟨s.val, hs⟩ ⟨t.val, ht⟩]
    refine congrArg (arg11.view.read (Elt F) f11) (funext fun a => Fin.ext ?_)
    have hz : ∀ (j : S1x1x1x1.Idx) a, (j a).val = 0 := fun j a => by
      have := (j a).isLt
      match a with
      | ⟨0, _⟩ => exact Nat.lt_one_iff.mp this
      | ⟨1, _⟩ => exact Nat.lt_one_iff.mp this
      | ⟨2, _⟩ => exact Nat.lt_one_iff.mp this
      | ⟨3, _⟩ => exact Nat.lt_one_iff.mp this
    show goff q g t s a + 1 * _ = _
    rw [hz, goff_eq]
    match a with
    | ⟨0, _⟩ => rfl
    | ⟨1, _⟩ => rfl
    | ⟨2, _⟩ => rfl
    | ⟨3, _⟩ => rfl
  rw [hwR]
  generalize hw : R (ix2 ⟨s.val, hs⟩ ⟨t.val, ht⟩) = w
  have hwlt : w.toNat < 92840 := hw ▸ hlt _
  iapply (wp_assume Variants.none (c : Thread nD τ) none Set.univ (chk_of w hwlt))
  iapply (wp_load Variants.none (c : Thread nD τ) none Set.univ (View.setOn_subset_set _ _)) $$ H3
  iintro H3
  iapply (wp_load Variants.none (c : Thread nD τ) none Set.univ (View.setOn_subset_set _ _)) $$ Hs
  iintro Hs
  iapply (wp_store Variants.none (c : Thread nD τ) none Set.univ (m := stg) (r := Rect.unit (s := S128x8x128) (k0_off3 t s) S1x1x128.size (k0_off3_inb t s)) ((View.setOn_subset_set _ _).trans (View.set_slice_subset _ _))) $$ Hs
  iintro Hs
  sl_step
  isplitl [H3]; · iexact H3
  isplitl [H11]; · iexact H11
  iexists _
  isplitr; rotate_left
  · iexact Hs
  · ipureintro
    intro j hj
    rw [row_cast]
    refine (View.read_writes_cons_unit stg.view f (off' := ![t.val, s.val, 0]) (k0_off3_inb t s) _ [] j (off3_eq t s)).trans ?_
    split_ifs with h
    · have h0 : t.val ≤ (j 0).val ∧ (j 0).val < t.val + 1 := h 0
      have h1 : s.val ≤ (j 1).val ∧ (j 1).val < s.val + 1 := h 1
      unfold stageOf
      refine congrArg (arg3.view.read (Elt F) f3) (funext fun a => Fin.ext ?_)
      have e0 : (⟨(j 0).val, (j 0).isLt⟩ : Fin 128) = ⟨t.val, ht⟩ := Fin.ext (by show (j 0).val = t.val; omega)
      have e1 : (⟨(j 1).val, (j 1).isLt⟩ : Fin 8) = ⟨s.val, hs⟩ := Fin.ext (by show (j 1).val = s.val; omega)
      match a with
      | ⟨0, _⟩ =>
        show w.toNat + 1 * ((j 0).val - t.val) = (R (ix2 ⟨(j 1).val, (j 1).isLt⟩ ⟨(j 0).val, (j 0).isLt⟩)).toNat % 92840
        rw [e0, e1, hw, Nat.mod_eq_of_lt hwlt]
        omega
      | ⟨1, _⟩ => show 0 + 1 * ((j 1).val - s.val) = 0; omega
      | ⟨2, _⟩ => show 0 + 1 * ((j 2).val - 0) = (j 2).val; omega
    · refine hf j ?_
      by_contra hge
      apply h
      have hj1 : (j 1).val < 8 := (j 1).isLt
      have hj2 : (j 2).val < 128 := (j 2).isLt
      intro a
      match a with
      | ⟨0, _⟩ => show t.val ≤ (j 0).val ∧ (j 0).val < t.val + 1; omega
      | ⟨1, _⟩ => show s.val ≤ (j 1).val ∧ (j 1).val < s.val + 1; omega
      | ⟨2, _⟩ => show 0 ≤ (j 2).val ∧ (j 2).val < 0 + 128; omega

/-- The gather, run: the stage is `stageOf` of the table and the row numbers. -/
theorem gath_run (hR : Reads arg11 q g hq hg f11 R) (hlt : ∀ j, (R j).toNat < 92840) :
    iprop(held c arg3 f3 ∗ (arg11.view.loc (c : Thread nD τ) ↦[slotSet arg11 q]{fullShare} f11) ∗ (∃ f, held c stg f))
      ⊢ wpk c (gath arg3 stg arg11 q g hq hg) (fun _ => iprop(held c arg3 f3 ∗ (arg11.view.loc (c : Thread nD τ) ↦[slotSet arg11 q]{fullShare} f11)
          ∗ owns (c : Thread nD τ) stg fullShare (stageOf (arg3.view.read (Elt F) f3) R))) := by
  unfold gath wpk Scf.Loop.for
  iintro ⟨H3, H11, %f, Hs⟩
  iapply (Scf.wp_for frame (wpE (defs₀ (F := F)) Variants.none (c : Thread nD τ) none) Set.univ k0_t1_loop.lb k0_t1_loop.ub k0_t1_loop.st k0_t1_ok _ _
    (fun n _ => ginv c arg3 stg arg11 q f3 f11 R (n * 8)) ?outer)
  case outer =>
    intro t u
    unfold gout Scf.Loop.for
    rw [wp_bind]
    iintro H
    iapply (Scf.wp_for frame (wpE (defs₀ (F := F)) Variants.none (c : Thread nD τ) none) Set.univ k0_t2_loop.lb k0_t2_loop.ub k0_t2_loop.st k0_t2_ok _ _
      (fun n _ => ginv c arg3 stg arg11 q f3 f11 R (t.val * 8 + n)) ?inner)
    case inner => exact fun s u => gin_run c arg3 stg arg11 q g hq hg f3 f11 R hR hlt t s u
    isplitl [H]; · iexact H
    iintro %u' H
    simp only [Prog.pure_eq_ret]
    sl_step
    have e : t.val * 8 + Scf.trips k0_t2_loop.lb k0_t2_loop.ub k0_t2_loop.st = (t.val + 1) * 8 := by
      have : Scf.trips k0_t2_loop.lb k0_t2_loop.ub k0_t2_loop.st = 8 := trips2
      omega
    rw [← e]
    iexact H
  isplitl [H3 H11 Hs]
  · unfold ginv
    isplitl [H3]; · iexact H3
    isplitl [H11]; · iexact H11
    iexists f
    isplitr; · ipureintro; intro j hj; omega
    iexact Hs
  iintro %u H
  unfold ginv owns
  icases H with ⟨H3, H11, %f', %hf', Hs⟩
  isplitl [H3]; · iexact H3
  isplitl [H11]; · iexact H11
  iexists f'
  isplitr
  · ipureintro
    funext j
    refine hf' j ?_
    have : Scf.trips k0_t1_loop.lb k0_t1_loop.ub k0_t1_loop.st = 128 := trips1
    have h0 : (j 0).val < 128 := (j 0).isLt
    have h1 : (j 1).val < 8 := (j 1).isLt
    omega
  iexact Hs
end Run

end Cert.KernelIdeal.Own
-- ==== Proof.KernelIdealSlots.lean ====
/- The two slots of row numbers. A level's rows are stored in its slot of the vector memory and copied to the same slot of
   the scalar memory; the copy is waited for before the level is gathered. Between the two the slot is `Busy`, else `Idle`;
   after the wait it is `Ready`, the scalar memory reading the level's rows. -/
module

public import proofs.«01_k».proof.Proof.KernelIdealGather
public import Idealize.ShloMosaic.Lib.Transfers

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The counters of the transfers, in the proof's algebra. -/
abbrev ecs : UEmb Counters 𝕄 := countersEmb (U := Pipeline.UD sig nD τ)

section Slots
variable (c : Dev nD) (arg8 : Memref sig .tc .vmem S2x4x8x128 .i32) (arg11 : Memref sig .tc .smem S2x4x8x128 .i32)

/-- A window of the row numbers, without its leading axis. -/
abbrev sq {sp : Space} (m : Memref sig .tc sp S2x4x8x128 .i32) (r : Rect S2x4x8x128) (hr : ∀ a, r.stride a = 1) {s' : Shape}
    (h : r.shape.Squeezes s') : Memref sig .tc sp s' .i32 := (m.slice r hr).squeeze s' h

/-- A slot at rest: both memories held at anything, the semaphore at zero. -/
def Idle (q : ℕ) (sem : DmaSem sig) : sProp 𝕄 :=
  iprop(∃ f8 f11, (arg8.view.loc (c : Thread nD τ) ↦[slotSet arg8 q]{fullShare} f8) ∗ (arg11.view.loc (c : Thread nD τ) ↦[slotSet arg11 q]{fullShare} f11)
    ∗ semVal ((c : Thread nD τ), SemLoc.dma sem) 0)

/-- A slot whose rows have arrived: the scalar memory reads them in the window `r`. -/
def Ready (q : ℕ) (sem : DmaSem sig) (r : Rect S2x4x8x128) (rows : r.shape.Idx → BitVec 32) : sProp 𝕄 :=
  iprop(∃ f8 f11, ⌜∀ j, arg11.view.read (Elt F) f11 (r.emb j) = rows j⌝
    ∗ (arg8.view.loc (c : Thread nD τ) ↦[slotSet arg8 q]{fullShare} f8) ∗ (arg11.view.loc (c : Thread nD τ) ↦[slotSet arg11 q]{fullShare} f11)
    ∗ semVal ((c : Thread nD τ), SemLoc.dma sem) 0)

/-- A slot with its copy under way: the copy will deliver the scalar memory's slot, reading the rows, and the window of
    the vector memory it reads. -/
def Busy (q : ℕ) (sem : DmaSem sig) (r : Rect S2x4x8x128) (hr : ∀ a, r.stride a = 1) {s' : Shape} (h : r.shape.Squeezes s')
    (rows : r.shape.Idx → BitVec 32) : sProp 𝕄 :=
  iprop(∃ (f8 : Buf (Elt F) ((sq arg8 r hr h).view.loc (c : Thread nD τ))) (f11 : Buf (Elt F) (arg11.view.loc (c : Thread nD τ))),
    ⌜∀ j, arg11.view.read (Elt F) f11 (r.emb j) = rows j⌝
    ∗ Transfers.Flight ecs (c : Thread nD τ) (.dma sem) () (sq arg11 r hr h).view.dmaCredit
        iprop((arg11.view.loc (c : Thread nD τ) ↦[slotSet arg11 q]{fullShare} f11)
          ∗ (arg8.view.loc (c : Thread nD τ) ↦[(sq arg8 r hr h).view.set]{fullShare} f8))
    ∗ (arg8.view.loc (c : Thread nD τ) ↦[slotSet arg8 q \ (sq arg8 r hr h).view.set]{fullShare} f8))

theorem sq_set {sp : Space} (m : Memref sig .tc sp S2x4x8x128 .i32) (r : Rect S2x4x8x128) (hr : ∀ a, r.stride a = 1) {s' : Shape}
    (h : r.shape.Squeezes s') {q : ℕ} (hq : ∀ j ∈ r.set, (j 0).val = q) : (sq m r hr h).view.set ⊆ slotSet m q := by
  show ((m.view.slice r).reshape s' h.numel_eq).set ⊆ _
  rw [View.set_reshape, View.set_slice]
  refine Finset.map_subset_map.mpr fun j hj => ?_
  simp only [Finset.mem_filter, Finset.mem_univ, true_and]
  exact hq j hj

/-- What the copy delivers reads the rows stored. -/
theorem arrived (r : Rect S2x4x8x128) (hr : ∀ a, r.stride a = 1) {s' : Shape} (h : r.shape.Squeezes s')
    (rows : r.shape.Idx → BitVec 32) (f8 : arg8.view.ty.Idx → Elt F arg8.view.ty.elt) (f11 : arg11.view.ty.Idx → Elt F arg11.view.ty.elt) (j : r.shape.Idx) :
    arg11.view.read (Elt F) ((sq arg11 r hr h).view.write (Elt F) f11
      ((sq arg8 r hr h).view.read (Elt F) ((arg8.access r).write (Elt F) f8 rows Finset.univ)) Finset.univ) (r.emb j) = rows j := by
  obtain ⟨x, rfl⟩ := (Shape.reshapeEquiv h.numel_eq).surjective j
  have h1 := congrFun (View.read_write_univ (v := (sq arg11 r hr h).view) f11
    ((sq arg8 r hr h).view.read (Elt F) ((arg8.access r).write (Elt F) f8 rows Finset.univ))) x
  have h2 := congrFun (View.read_write_univ (v := arg8.access r) f8 rows) (Shape.reshapeEquiv h.numel_eq x)
  exact h1.trans h2

/-- A level's start: its rows stored, their copy begun. -/
theorem start_run {q : ℕ} {sem : DmaSem sig} (r : Rect S2x4x8x128) (hr : ∀ a, r.stride a = 1) {s' : Shape} (h : r.shape.Squeezes s')
    (hq : ∀ j ∈ r.set, (j 0).val = q) (hpos : 0 < s'.numel) (rows : r.shape.Idx → BitVec 32)
    {h1 : arg8.view.LoadsAt r.toLoadRect} {h2 : (arg8.access r).Stores Finset.univ} {h3 : Finset.univ = Finset.univ ∨ ∀ a, r.stride a = 1}
    {h4 : (sq arg8 r hr h).view.WordExact} {h5 : (sq arg11 r hr h).view.WordExact} :
    Idle c arg8 arg11 q sem ⊢ wpk (F := F) c (.op (.load arg8 r.toLoadRect h1) fun _ => .op (.store arg8 r rows Finset.univ h2 h3) fun _ =>
      .op (.enqueueDma (sq arg8 r hr h) (.here (sq arg11 r hr h)) (.dma sem) h4 h5 ⟨Or.inl rfl, trivial⟩) .ret) (fun _ => Busy c arg8 arg11 q sem r hr h rows) := by
  unfold Idle wpk
  iintro ⟨%f8, %f11, H8, H11, Hs⟩
  have hsub8 := sq_set arg8 r hr h hq
  have hacc : (arg8.access r).set ⊆ slotSet arg8 q := by
    have h0 : ((arg8.view.slice r).reshape s' h.numel_eq).set ⊆ slotSet arg8 q := hsub8
    rwa [View.set_reshape] at h0
  have hl : arg8.view.setOn r.toLoadRect.set ⊆ slotSet arg8 q := Memref.setOn_subset_of_access_subset (c := (c : Thread nD τ)) hacc
  iapply (wp_load Variants.none (c : Thread nD τ) none Set.univ hl) $$ H8
  iintro H8
  iapply (wp_store Variants.none (c : Thread nD τ) none Set.univ (m := arg8) (r := r) ((View.setOn_subset_set _ _).trans hacc)) $$ H8
  iintro H8
  ihave H8' := (pointsTo_split_subset hsub8).1 $$ H8
  icases H8' with ⟨H8, H8r⟩
  iapply (Transfers.wp_dmaLocal (src := sq arg8 r hr h) (dst := sq arg11 r hr h) (via := ReadAs.same) (sm := SemLoc.dma sem) (q := fullShare) (Sd := slotSet arg11 q) ecs Variants.none (c : Thread nD τ) none () (sq arg11 r hr h).view.dmaCredit rfl
    (View.dmaCredit_pos _ hpos) (sq_set arg11 r hr h hq)) $$ [H8 H11 Hs]
  · isplitl [H8]; · iexact H8
    isplitl [H11]; · iexact H11
    iexact Hs
  iintro Hf
  sl_step
  unfold Busy
  iexists ((arg8.access r).write (Elt F) f8 rows Finset.univ),
    ((sq arg11 r hr h).view.write (Elt F) f11
      ((sq arg8 r hr h).view.read (Elt F) ((arg8.access r).write (Elt F) f8 rows Finset.univ)) Finset.univ)
  isplitr
  · ipureintro
    exact arrived arg8 arg11 r hr h rows f8 f11
  isplitl [Hf]
  · iexact Hf
  iexact H8r

/-- The wait for a level's copy. -/
theorem wait_run {q : ℕ} {sem : DmaSem sig} (r : Rect S2x4x8x128) (hr : ∀ a, r.stride a = 1) {s' : Shape} (h : r.shape.Squeezes s')
    (hq : ∀ j ∈ r.set, (j 0).val = q) (rows : r.shape.Idx → BitVec 32)
    {h4 : (sq arg8 r hr h).view.WordExact} {h5 : (sq arg11 r hr h).view.WordExact} :
    iprop(Busy c arg8 arg11 q sem r hr h rows ∗ ∃ W, owes (c : Thread nD τ) 0 W)
      ⊢ wpk (F := F) c (.op (.waitDma2 sem (sq arg8 r hr h) (sq arg11 r hr h) h4 h5) .ret)
          (fun _ => iprop(Ready c arg8 arg11 q sem r rows ∗ ∃ W, owes (c : Thread nD τ) 0 W)) := by
  unfold Busy Ready wpk
  iintro ⟨⟨%f8, %f11, %hrd, Hf, H8r⟩, %W, HO⟩
  iapply (Transfers.wp_waitLocal ecs Variants.none (c : Thread nD τ) none () rfl) $$ [Hf HO]
  · isplitl [Hf]; · iexact Hf
    iexact HO
  iintro ⟨⟨H11, H8⟩, Hs, HO⟩
  sl_step
  isplitr [HO]
  · iexists f8, f11
    isplitr; · ipureintro; exact hrd
    isplitl [H8 H8r]
    · iapply (pointsTo_split_subset (sq_set arg8 r hr h hq)).2
      isplitl [H8]; · iexact H8
      iexact H8r
    isplitl [H11]; · iexact H11
    iexact Hs
  iexists _; iexact HO
end Slots

end Cert.KernelIdeal.Own
-- ==== Proof.KernelIdealSteps.lean ====
/- What each part of a block's program does with what it holds: a level started, waited for and gathered into four stages,
   and the network at one sublane. -/
module

public import proofs.«01_k».proof.Proof.KernelIdealSlots
public import proofs.«01_k».proof.Proof.KernelIdealBody
public import Idealize.ShloMosaic.Lib.VecWindow

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- Four stages. -/
abbrev Four (F : FTy → Type) : Type := Vec F S128x8x128 .f32 × Vec F S128x8x128 .f32 × Vec F S128x8x128 .f32 × Vec F S128x8x128 .f32

section Parts
variable (c : Dev nD) (arg3 : Memref sig .tc .vmem S92840x1x128 .f32) (arg8 : Memref sig .tc .vmem S2x4x8x128 .i32)
  (arg9 arg10 : Memref sig .tc .vmem S128x8x128 .f32) (arg11 : Memref sig .tc .smem S2x4x8x128 .i32) (arg12 : DmaSems sig S2)

/-- A dense level's window of slot `q`. -/
abbrev rD (o : Fin 4 → Nat) (h : ∀ a, o a + S1x2x8x128.size a ≤ S2x4x8x128.size a) : Rect S2x4x8x128 := Rect.unit o S1x2x8x128.size h
/-- A hashed level's. -/
abbrev rH (o : Fin 4 → Nat) (h : ∀ a, o a + S1x4x8x128.size a ≤ S2x4x8x128.size a) : Rect S2x4x8x128 := Rect.unit o S1x4x8x128.size h

theorem rD_slot (o : Fin 4 → Nat) (h : ∀ a, o a + S1x2x8x128.size a ≤ S2x4x8x128.size a) {q : ℕ} (ho : o 0 = q) :
    ∀ j ∈ (rD o h).set, (j 0).val = q := by
  intro j hj
  have h0 := (Rect.mem_set_unit.mp hj 0)
  have e : S1x2x8x128.size 0 = 1 := rfl
  omega

theorem rH_slot (o : Fin 4 → Nat) (h : ∀ a, o a + S1x4x8x128.size a ≤ S2x4x8x128.size a) {q : ℕ} (ho : o 0 = q) :
    ∀ j ∈ (rH o h).set, (j 0).val = q := by
  intro j hj
  have h0 := (Rect.mem_set_unit.mp hj 0)
  have e : S1x4x8x128.size 0 = 1 := rfl
  omega

section Ops
variable (o : Fin 4 → Nat) {q : ℕ} (ho : o 0 = q) (s : Fin 1 → Nat) (hs : ∀ a, s a + S1.size a ≤ S2.size a)

include ho in
theorem startD_run (h : ∀ a, o a + S1x2x8x128.size a ≤ S2x4x8x128.size a) (rows : IVec S1x2x8x128 32) :
    Idle c arg8 arg11 q (slotSem arg12 s hs) ⊢ wpk (F := F) c (startD arg8 arg11 arg12 o h s hs rows)
      (fun _ => Busy c arg8 arg11 q (slotSem arg12 s hs) (rD o h) (fun _ => rfl) squeezes_S1x2x8x128_S2x8x128 rows) := by
  unfold startD
  simp only [Prog.lift, Prog.bind_op, Prog.bind_ret, Prog.pure_eq_ret]
  exact start_run c arg8 arg11 (rD o h) (fun _ => rfl) squeezes_S1x2x8x128_S2x8x128 (rD_slot o h ho) (by decide) rows

include ho in
theorem startH_run (h : ∀ a, o a + S1x4x8x128.size a ≤ S2x4x8x128.size a) (rows : IVec S1x4x8x128 32) :
    Idle c arg8 arg11 q (slotSem arg12 s hs) ⊢ wpk (F := F) c (startH arg8 arg11 arg12 o h s hs rows)
      (fun _ => Busy c arg8 arg11 q (slotSem arg12 s hs) (rH o h) (fun _ => rfl) squeezes_S1x4x8x128_S4x8x128 rows) := by
  unfold startH
  simp only [Prog.lift, Prog.bind_op, Prog.bind_ret, Prog.pure_eq_ret]
  exact start_run c arg8 arg11 (rH o h) (fun _ => rfl) squeezes_S1x4x8x128_S4x8x128 (rH_slot o h ho) (by decide) rows

include ho in
theorem waitD_run (h : ∀ a, o a + S1x2x8x128.size a ≤ S2x4x8x128.size a) (rows : IVec S1x2x8x128 32) :
    iprop(Busy c arg8 arg11 q (slotSem arg12 s hs) (rD o h) (fun _ => rfl) squeezes_S1x2x8x128_S2x8x128 rows ∗ ∃ W, owes (c : Thread nD τ) 0 W)
      ⊢ wpk (F := F) c (waitD arg8 arg11 arg12 o h s hs)
        (fun _ => iprop(Ready c arg8 arg11 q (slotSem arg12 s hs) (rD o h) rows ∗ ∃ W, owes (c : Thread nD τ) 0 W)) := by
  unfold waitD
  simp only [Prog.lift, Prog.bind_op, Prog.bind_ret, Prog.pure_eq_ret]
  exact wait_run c arg8 arg11 (rD o h) (fun _ => rfl) squeezes_S1x2x8x128_S2x8x128 (rD_slot o h ho) rows

include ho in
theorem waitH_run (h : ∀ a, o a + S1x4x8x128.size a ≤ S2x4x8x128.size a) (rows : IVec S1x4x8x128 32) :
    iprop(Busy c arg8 arg11 q (slotSem arg12 s hs) (rH o h) (fun _ => rfl) squeezes_S1x4x8x128_S4x8x128 rows ∗ ∃ W, owes (c : Thread nD τ) 0 W)
      ⊢ wpk (F := F) c (waitH arg8 arg11 arg12 o h s hs)
        (fun _ => iprop(Ready c arg8 arg11 q (slotSem arg12 s hs) (rH o h) rows ∗ ∃ W, owes (c : Thread nD τ) 0 W)) := by
  unfold waitH
  simp only [Prog.lift, Prog.bind_op, Prog.bind_ret, Prog.pure_eq_ret]
  exact wait_run c arg8 arg11 (rH o h) (fun _ => rfl) squeezes_S1x4x8x128_S4x8x128 (rH_slot o h ho) rows
end Ops

/-- Row vector `g` of a dense level's rows. -/
def rowD (rows : IVec S1x2x8x128 32) (g : Fin 2) : IVec S8x128 32 := fun j =>
  rows (fun d => match d with | ⟨0, _⟩ => ⟨0, Nat.one_pos⟩ | ⟨1, _⟩ => g | ⟨2, _⟩ => j 0 | ⟨3, _⟩ => j 1)
/-- Row vector `g` of a hashed level's rows. -/
def rowH (rows : IVec S1x4x8x128 32) (g : Fin 4) : IVec S8x128 32 := fun j =>
  rows (fun d => match d with | ⟨0, _⟩ => ⟨0, Nat.one_pos⟩ | ⟨1, _⟩ => g | ⟨2, _⟩ => j 0 | ⟨3, _⟩ => j 1)

theorem readsD {q : ℕ} (hq : q < 2) (h : ∀ a, (![q, 0, 0, 0] : Fin 4 → ℕ) a + S1x2x8x128.size a ≤ S2x4x8x128.size a) (f : arg11.view.ty.Contents (Elt F))
    (rows : IVec S1x2x8x128 32) (hr : ∀ j, arg11.view.read (Elt F) f ((rD ![q, 0, 0, 0] h).emb j) = rows j) (g : Fin 2) :
    Reads arg11 q g.val hq (by omega) f (rowD rows g) := by
  intro s t
  unfold rowD
  rw [← hr]
  refine congrArg (arg11.view.read (Elt F) f) (funext fun a => Fin.ext ?_)
  match a with
  | ⟨0, _⟩ => rfl
  | ⟨1, _⟩ => show g.val = 0 + 1 * g.val; omega
  | ⟨2, _⟩ => show s.val = 0 + 1 * s.val; omega
  | ⟨3, _⟩ => show t.val = 0 + 1 * t.val; omega

theorem readsH {q : ℕ} (hq : q < 2) (h : ∀ a, (![q, 0, 0, 0] : Fin 4 → ℕ) a + S1x4x8x128.size a ≤ S2x4x8x128.size a) (f : arg11.view.ty.Contents (Elt F))
    (rows : IVec S1x4x8x128 32) (hr : ∀ j, arg11.view.read (Elt F) f ((rH ![q, 0, 0, 0] h).emb j) = rows j) (g : Fin 4) :
    Reads arg11 q g.val hq g.isLt f (rowH rows g) := by
  intro s t
  unfold rowH
  rw [← hr]
  refine congrArg (arg11.view.read (Elt F) f) (funext fun a => Fin.ext ?_)
  match a with
  | ⟨0, _⟩ => rfl
  | ⟨1, _⟩ => show g.val = 0 + 1 * g.val; omega
  | ⟨2, _⟩ => show s.val = 0 + 1 * s.val; omega
  | ⟨3, _⟩ => show t.val = 0 + 1 * t.val; omega

/-- A stage read whole. -/
theorem ldStage_run (stg : Memref sig .tc .vmem S128x8x128 .f32) (v : Vec F S128x8x128 .f32) {k : Vec F S128x8x128 .f32 → KProg F (Four F)} {Q : Four F → sProp 𝕄} :
    iprop(owns (c : Thread nD τ) stg fullShare v ∗ (owns (c : Thread nD τ) stg fullShare v -∗ wpk (F := F) c (k v) Q)) ⊢ wpk c (ldStage stg >>= k) Q := by
  unfold ldStage owns
  simp only [Prog.lift, Prog.bind_op, Prog.bind_ret, Prog.pure_eq_ret]
  iintro ⟨⟨%f, %hf, H⟩, Hk⟩
  iapply (wp_load Variants.none (c : Thread nD τ) none Set.univ (m := stg) (View.setOn_subset_set _ _)) $$ H
  iintro H
  have hv : stg.view.readAt (Elt F) (Rect.unit (s := S128x8x128) ![0, 0, 0] S128x8x128.size inb_S128x8x128_S128x8x128_0_0_0).toLoadRect f = v := by
    rw [← hf]
    exact View.readAt_full stg.view f inb_S128x8x128_S128x8x128_0_0_0
  rw [hv]
  iapply Hk
  iexists f
  isplitr; · ipureintro; exact hf
  iexact H

/-- The two stages held at anything. -/
abbrev stages : sProp 𝕄 := iprop((∃ f, held (F := F) c arg9 f) ∗ (∃ f, held (F := F) c arg10 f))

/-- A stage gathered, the rest going on with it. -/
theorem gathK (stg : Memref sig .tc .vmem S128x8x128 .f32) (q g : ℕ) (hq : q < 2) (hg : g < 4)
    (f3 : Buf (Elt F) (arg3.view.loc (c : Thread nD τ))) (f11 : Buf (Elt F) (arg11.view.loc (c : Thread nD τ))) (R : IVec S8x128 32)
    (hR : Reads arg11 q g hq hg f11 R) (hlt : ∀ j, (R j).toNat < 92840) {k : Unit → KProg F (Four F)} {Q : Four F → sProp 𝕄} :
    iprop((held c arg3 f3 ∗ (arg11.view.loc (c : Thread nD τ) ↦[slotSet arg11 q]{fullShare} f11) ∗ (∃ f, held (F := F) c stg f))
      ∗ ((held c arg3 f3 ∗ (arg11.view.loc (c : Thread nD τ) ↦[slotSet arg11 q]{fullShare} f11)
          ∗ owns (c : Thread nD τ) stg fullShare (stageOf (arg3.view.read (Elt F) f3) R)) -∗ wpk (F := F) c (k ()) Q))
      ⊢ wpk c (gath arg3 stg arg11 q g hq hg >>= k) Q := by
  iintro ⟨H, Hk⟩
  unfold wpk
  rw [wp_bind]
  iapply wp_wand_r
  isplitl [H]
  · iapply (gath_run c arg3 stg arg11 q g hq hg f3 f11 R hR hlt) $$ H
  iintro %u H
  iapply Hk $$ H

theorem owns_held (stg : Memref sig .tc .vmem S128x8x128 .f32) (v : Vec F S128x8x128 .f32) :
    owns (c : Thread nD τ) stg fullShare v ⊢ (iprop(∃ f, held (F := F) c stg f) : sProp 𝕄) := by
  unfold owns
  iintro ⟨%f, -, H⟩
  iexists f; iexact H

/-- A dense level's four stages, from its arrived rows. -/
def fourD (tab : Vec F S92840x1x128 .f32) (rows : IVec S1x2x8x128 32) : Four F :=
  (stageOf tab (rowD rows 0), stageOf tab (rowD rows 0), stageOf tab (rowD rows 1), stageOf tab (rowD rows 1))
/-- A hashed level's. -/
def fourH (tab : Vec F S92840x1x128 .f32) (rows : IVec S1x4x8x128 32) : Four F :=
  (stageOf tab (rowH rows 0), stageOf tab (rowH rows 1), stageOf tab (rowH rows 2), stageOf tab (rowH rows 3))

theorem gathD_run {q : ℕ} (hq : q < 2) (h : ∀ a, (![q, 0, 0, 0] : Fin 4 → ℕ) a + S1x2x8x128.size a ≤ S2x4x8x128.size a) (sem : DmaSem sig)
    (f3 : Buf (Elt F) (arg3.view.loc (c : Thread nD τ))) (rows : IVec S1x2x8x128 32) (hlt : ∀ j, (rows j).toNat < 92840) :
    iprop(Ready c arg8 arg11 q sem (rD ![q, 0, 0, 0] h) rows ∗ held c arg3 f3 ∗ stages (F := F) c arg9 arg10)
      ⊢ wpk c (gathD arg9 arg10 (gath arg3 arg10 arg11 q 0 hq (by decide)) (gath arg3 arg9 arg11 q 1 hq (by decide)))
          (fun p => iprop(⌜p = fourD (arg3.view.read (Elt F) f3) rows⌝ ∗ Idle (F := F) c arg8 arg11 q sem ∗ held c arg3 f3 ∗ stages (F := F) c arg9 arg10)) := by
  unfold Ready gathD
  iintro ⟨⟨%f8, %f11, %hr, H8, H11, Hs⟩, H3, H9, H10⟩
  iapply (gathK c arg3 arg11 arg10 q 0 hq _ f3 f11 (rowD rows 0) (readsD arg11 hq h f11 rows hr 0) (fun _ => hlt _))
  isplitl [H3 H11 H10]
  · isplitl [H3]; · iexact H3
    isplitl [H11]; · iexact H11
    iexact H10
  iintro ⟨H3, H11, H10⟩
  iapply (ldStage_run c arg10 (stageOf (arg3.view.read (Elt F) f3) (rowD rows 0)))
  isplitl [H10]; · iexact H10
  iintro H10
  iapply (ldStage_run c arg10 (stageOf (arg3.view.read (Elt F) f3) (rowD rows 0)))
  isplitl [H10]; · iexact H10
  iintro H10
  iapply (gathK c arg3 arg11 arg9 q 1 hq _ f3 f11 (rowD rows 1) (readsD arg11 hq h f11 rows hr 1) (fun _ => hlt _))
  isplitl [H3 H11 H9]
  · isplitl [H3]; · iexact H3
    isplitl [H11]; · iexact H11
    iexact H9
  iintro ⟨H3, H11, H9⟩
  iapply (ldStage_run c arg9 (stageOf (arg3.view.read (Elt F) f3) (rowD rows 1)))
  isplitl [H9]; · iexact H9
  iintro H9
  iapply (ldStage_run c arg9 (stageOf (arg3.view.read (Elt F) f3) (rowD rows 1)))
  isplitl [H9]; · iexact H9
  iintro H9
  unfold wpk
  simp only [Prog.pure_eq_ret]
  sl_step
  isplitr
  · ipureintro; rfl
  isplitl [H8 H11 Hs]
  · unfold Idle
    iexists f8, f11
    isplitl [H8]; · iexact H8
    isplitl [H11]; · iexact H11
    iexact Hs
  isplitl [H3]; · iexact H3
  isplitl [H9]
  · iapply (owns_held c arg9 _) $$ H9
  iapply (owns_held c arg10 _) $$ H10

theorem gathH_run {q : ℕ} (hq : q < 2) (h : ∀ a, (![q, 0, 0, 0] : Fin 4 → ℕ) a + S1x4x8x128.size a ≤ S2x4x8x128.size a) (sem : DmaSem sig)
    (f3 : Buf (Elt F) (arg3.view.loc (c : Thread nD τ))) (rows : IVec S1x4x8x128 32) (hlt : ∀ j, (rows j).toNat < 92840) :
    iprop(Ready c arg8 arg11 q sem (rH ![q, 0, 0, 0] h) rows ∗ held c arg3 f3 ∗ stages (F := F) c arg9 arg10)
      ⊢ wpk c (gathH arg9 arg10 (gath arg3 arg10 arg11 q 0 hq (by decide)) (gath arg3 arg9 arg11 q 1 hq (by decide))
            (gath arg3 arg10 arg11 q 2 hq (by decide)) (gath arg3 arg9 arg11 q 3 hq (by decide)))
          (fun p => iprop(⌜p = fourH (arg3.view.read (Elt F) f3) rows⌝ ∗ Idle (F := F) c arg8 arg11 q sem ∗ held c arg3 f3 ∗ stages (F := F) c arg9 arg10)) := by
  unfold Ready gathH
  iintro ⟨⟨%f8, %f11, %hr, H8, H11, Hs⟩, H3, H9, H10⟩
  iapply (gathK c arg3 arg11 arg10 q 0 hq _ f3 f11 (rowH rows 0) (readsH arg11 hq h f11 rows hr 0) (fun _ => hlt _))
  isplitl [H3 H11 H10]
  · isplitl [H3]; · iexact H3
    isplitl [H11]; · iexact H11
    iexact H10
  iintro ⟨H3, H11, H10⟩
  iapply (ldStage_run c arg10 (stageOf (arg3.view.read (Elt F) f3) (rowH rows 0)))
  isplitl [H10]; · iexact H10
  iintro H10
  ihave H10 := (owns_held c arg10 _) $$ H10
  iapply (gathK c arg3 arg11 arg9 q 1 hq _ f3 f11 (rowH rows 1) (readsH arg11 hq h f11 rows hr 1) (fun _ => hlt _))
  isplitl [H3 H11 H9]
  · isplitl [H3]; · iexact H3
    isplitl [H11]; · iexact H11
    iexact H9
  iintro ⟨H3, H11, H9⟩
  iapply (ldStage_run c arg9 (stageOf (arg3.view.read (Elt F) f3) (rowH rows 1)))
  isplitl [H9]; · iexact H9
  iintro H9
  ihave H9 := (owns_held c arg9 _) $$ H9
  iapply (gathK c arg3 arg11 arg10 q 2 hq _ f3 f11 (rowH rows 2) (readsH arg11 hq h f11 rows hr 2) (fun _ => hlt _))
  isplitl [H3 H11 H10]
  · isplitl [H3]; · iexact H3
    isplitl [H11]; · iexact H11
    iexact H10
  iintro ⟨H3, H11, H10⟩
  iapply (ldStage_run c arg10 (stageOf (arg3.view.read (Elt F) f3) (rowH rows 2)))
  isplitl [H10]; · iexact H10
  iintro H10
  iapply (gathK c arg3 arg11 arg9 q 3 hq _ f3 f11 (rowH rows 3) (readsH arg11 hq h f11 rows hr 3) (fun _ => hlt _))
  isplitl [H3 H11 H9]
  · isplitl [H3]; · iexact H3
    isplitl [H11]; · iexact H11
    iexact H9
  iintro ⟨H3, H11, H9⟩
  iapply (ldStage_run c arg9 (stageOf (arg3.view.read (Elt F) f3) (rowH rows 3)))
  isplitl [H9]; · iexact H9
  iintro H9
  unfold wpk
  simp only [Prog.pure_eq_ret]
  sl_step
  isplitr
  · ipureintro; rfl
  isplitl [H8 H11 Hs]
  · unfold Idle
    iexists f8, f11
    isplitl [H8]; · iexact H8
    isplitl [H11]; · iexact H11
    iexact Hs
  isplitl [H3]; · iexact H3
  isplitl [H9]
  · iapply (owns_held c arg9 _) $$ H9
  iapply (owns_held c arg10 _) $$ H10
end Parts

/-- One step of the levels: the next one started in its idle slot, the present one waited for and gathered. -/
theorem step {c : Dev nD} {start wait : KProg F PUnit} {gp : KProg F (Four F)} {B I B' I' R R' O : sProp 𝕄} {v : Four F}
    (h1 : I' ⊢ wpk c start (fun _ => B')) (h2 : iprop(B ∗ O) ⊢ wpk c wait (fun _ => iprop(R ∗ O)))
    (h3 : iprop(R ∗ R') ⊢ wpk c gp (fun p => iprop(⌜p = v⌝ ∗ I ∗ R'))) {k : Four F → KProg F PUnit} {Q : PUnit → sProp 𝕄} :
    iprop((B ∗ I' ∗ R' ∗ O) ∗ ((B' ∗ I ∗ R' ∗ O) -∗ wpk c (k v) Q))
      ⊢ wpk c (start >>= fun _ => wait >>= fun _ => gp >>= k) Q := by
  unfold wpk at *
  iintro ⟨⟨HB, HI, HR, HO⟩, Hk⟩
  rw [wp_bind]
  iapply wp_wand_r
  isplitl [HI]; · iapply h1 $$ HI
  iintro %_ HB'
  rw [wp_bind]
  iapply wp_wand_r
  isplitl [HB HO]
  · iapply h2
    isplitl [HB]; · iexact HB
    iexact HO
  iintro %_ ⟨HRd, HO⟩
  rw [wp_bind]
  iapply wp_wand_r
  isplitl [HRd HR]
  · iapply h3
    isplitl [HRd]; · iexact HRd
    iexact HR
  iintro %p ⟨%hp, HI, HR⟩
  subst hp
  iapply Hk
  isplitl [HB']; · iexact HB'
  isplitl [HI]; · iexact HI
  isplitl [HR]; · iexact HR
  iexact HO

/-- The last step, which starts nothing. -/
theorem stepLast {c : Dev nD} {wait : KProg F PUnit} {gp : KProg F (Four F)} {B I R R' O : sProp 𝕄} {v : Four F}
    (h2 : iprop(B ∗ O) ⊢ wpk c wait (fun _ => iprop(R ∗ O)))
    (h3 : iprop(R ∗ R') ⊢ wpk c gp (fun p => iprop(⌜p = v⌝ ∗ I ∗ R'))) {k : Four F → KProg F PUnit} {Q : PUnit → sProp 𝕄} :
    iprop((B ∗ R' ∗ O) ∗ ((I ∗ R' ∗ O) -∗ wpk c (k v) Q)) ⊢ wpk c (wait >>= fun _ => gp >>= k) Q := by
  unfold wpk at *
  iintro ⟨⟨HB, HR, HO⟩, Hk⟩
  rw [wp_bind]
  iapply wp_wand_r
  isplitl [HB HO]
  · iapply h2
    isplitl [HB]; · iexact HB
    iexact HO
  iintro %_ ⟨HRd, HO⟩
  rw [wp_bind]
  iapply wp_wand_r
  isplitl [HRd HR]
  · iapply h3
    isplitl [HRd]; · iexact HRd
    iexact HR
  iintro %p ⟨%hp, HI, HR⟩
  subst hp
  iapply Hk
  isplitl [HI]; · iexact HI
  isplitl [HR]; · iexact HR
  iexact HO

end Cert.KernelIdeal.Own
-- ==== Proof.KernelIdealBlock.lean ====
/- The network at one sublane: what it stores, and how the result's block fills up. -/
module

public import proofs.«01_k».proof.Proof.KernelIdealSteps

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- Sublane `s` of the spread first layer. -/
def w8At (A4 : Vec F S8x256x128 .bf16) (s : Fin 8) : Vec F S1x256x128 .bf16 := fun j => A4 (ix3 s ⟨(j 1).val, (j 1).isLt⟩ ⟨(j 2).val, (j 2).isLt⟩)
/-- Hidden layer `s`. -/
def hidAt (A5 : Vec F S7x128x128 .bf16) (s : Fin 7) : Vec F S1x128x128 .bf16 := fun j => A5 (ix3 s ⟨(j 1).val, (j 1).isLt⟩ ⟨(j 2).val, (j 2).isLt⟩)

/-- What the network gives at sublane `s`. -/
def outAt (pv : FVec F S256x128 .bf16) (A4 : Vec F S8x256x128 .bf16) (A5 : Vec F S7x128x128 .bf16) (A6 : Vec F S128x8 .bf16) (s : Fin 8) :
    Vec F S1x128x8 .f32 :=
  net pv (w8At A4 s) (hidAt A5 0) (hidAt A5 1) (hidAt A5 2) (hidAt A5 3) (hidAt A5 4) (hidAt A5 5) (hidAt A5 6) A6
/-- The result's block: eight lanes to a sublane. -/
def outB (pv : FVec F S256x128 .bf16) (A4 : Vec F S8x256x128 .bf16) (A5 : Vec F S7x128x128 .bf16) (A6 : Vec F S128x8 .bf16) :
    Vec F S1x128x64 .f32 := fun j =>
  outAt pv A4 A5 A6 ⟨(j 2).val / 8, by have h : (j 2).val < 64 := (j 2).isLt; omega⟩
    (ix3 ⟨0, Nat.one_pos⟩ ⟨(j 1).val, (j 1).isLt⟩ ⟨(j 2).val % 8, Nat.mod_lt _ (by decide)⟩)

section Net
variable (c : Dev nD) (arg4 : Memref sig .tc .vmem S8x256x128 .bf16) (arg5 : Memref sig .tc .vmem S7x128x128 .bf16)
  (arg6 : Memref sig .tc .vmem S128x8 .bf16) (arg7 : Memref sig .tc .vmem S1x128x64 .f32)
  (f4 : Buf (Elt F) (arg4.view.loc (c : Thread nD τ))) (f5 : Buf (Elt F) (arg5.view.loc (c : Thread nD τ)))
  (f6 : Buf (Elt F) (arg6.view.loc (c : Thread nD τ)))

theorem ld_w8 (s : Fin 8) (h : ∀ a, (![s.val, 0, 0] : Fin 3 → ℕ) a + S1x256x128.size a ≤ S8x256x128.size a) :
    arg4.view.readAt (Elt F) (Rect.unit (s := S8x256x128) ![s.val, 0, 0] S1x256x128.size h).toLoadRect f4 = w8At (arg4.view.read (Elt F) f4) s := by
  funext j
  have h0 : (j 0).val < 1 := (j 0).isLt
  refine congrArg (arg4.view.read (Elt F) f4) (funext fun a => Fin.ext ?_)
  match a with
  | ⟨0, _⟩ => show s.val + 1 * (j 0).val = s.val; omega
  | ⟨1, _⟩ => show 0 + 1 * (j 1).val = (j 1).val; omega
  | ⟨2, _⟩ => show 0 + 1 * (j 2).val = (j 2).val; omega

theorem ld_hid (s : Fin 7) (h : ∀ a, (![s.val, 0, 0] : Fin 3 → ℕ) a + S1x128x128.size a ≤ S7x128x128.size a) :
    arg5.view.readAt (Elt F) (Rect.unit (s := S7x128x128) ![s.val, 0, 0] S1x128x128.size h).toLoadRect f5 = hidAt (arg5.view.read (Elt F) f5) s := by
  funext j
  have h0 : (j 0).val < 1 := (j 0).isLt
  refine congrArg (arg5.view.read (Elt F) f5) (funext fun a => Fin.ext ?_)
  match a with
  | ⟨0, _⟩ => show s.val + 1 * (j 0).val = s.val; omega
  | ⟨1, _⟩ => show 0 + 1 * (j 1).val = (j 1).val; omega
  | ⟨2, _⟩ => show 0 + 1 * (j 2).val = (j 2).val; omega

/-- A hidden layer's weights read, the rest going on with them. -/
theorem ldHid_run (s : Fin 7) (h : ∀ a, (![s.val, 0, 0] : Fin 3 → ℕ) a + S1x128x128.size a ≤ S7x128x128.size a)
    {k : Vec F S1x128x128 .bf16 → KProg F PUnit} {Q : PUnit → sProp 𝕄} :
    iprop(held c arg5 f5 ∗ (held c arg5 f5 -∗ wpk (F := F) c (k (hidAt (arg5.view.read (Elt F) f5) s)) Q)) ⊢ wpk c (ldHid arg5 ![s.val, 0, 0] h >>= k) Q := by
  unfold ldHid
  simp only [Prog.lift, Prog.bind_op, Prog.bind_ret, Prog.pure_eq_ret]
  iintro ⟨H, Hk⟩
  iapply (wp_load Variants.none (c : Thread nD τ) none Set.univ (m := arg5) (View.setOn_subset_set _ _)) $$ H
  iintro H
  rw [ld_hid]
  iapply Hk $$ H

/-- The result's block holds the network's values for the first `n` sublanes. -/
def wrote (pv : FVec F S256x128 .bf16) (n : ℕ) (f : arg7.view.ty.Contents (Elt F)) : Prop :=
  ∀ j : S1x128x64.Idx, (j 2).val < 8 * n → arg7.view.read (Elt F) f j
    = outB pv (arg4.view.read (Elt F) f4) (arg5.view.read (Elt F) f5) (arg6.view.read (Elt F) f6) j

theorem netAt_run (pv : FVec F S256x128 .bf16) (s : Fin 8) (h : ∀ a, (![s.val, 0, 0] : Fin 3 → ℕ) a + S1x256x128.size a ≤ S8x256x128.size a)
    (hp : ∀ a, (![0, 0, 8 * s.val] : Fin 3 → ℕ) a + S1x128x8.size a ≤ S1x128x64.size a) {k : PUnit → KProg F PUnit} {Q : PUnit → sProp 𝕄} :
    iprop((held c arg4 f4 ∗ held c arg5 f5 ∗ held c arg6 f6 ∗ ∃ f, ⌜wrote c arg4 arg5 arg6 arg7 f4 f5 f6 pv s.val f⌝ ∗ held c arg7 f)
      ∗ ((held c arg4 f4 ∗ held c arg5 f5 ∗ held c arg6 f6 ∗ ∃ f, ⌜wrote c arg4 arg5 arg6 arg7 f4 f5 f6 pv (s.val + 1) f⌝ ∗ held c arg7 f)
          -∗ wpk (F := F) c (k ⟨⟩) Q))
      ⊢ wpk c (netAt arg4 arg5 arg6 arg7 pv ![s.val, 0, 0] h ![0, 0, 8 * s.val] hp >>= k) Q := by
  unfold netAt
  simp only [Prog.lift, Prog.bind_op, Prog.bind_ret, Prog.pure_eq_ret, Prog.bind_assoc, bind_assoc]
  iintro ⟨⟨H4, H5, H6, %f, %hw, H7⟩, Hk⟩
  iapply (wp_load Variants.none (c : Thread nD τ) none Set.univ (m := arg4) (View.setOn_subset_set _ _)) $$ H4
  iintro H4
  rw [ld_w8]
  iapply (ldHid_run c arg5 f5 0); isplitl [H5]; · iexact H5
  iintro H5
  iapply (ldHid_run c arg5 f5 1); isplitl [H5]; · iexact H5
  iintro H5
  iapply (ldHid_run c arg5 f5 2); isplitl [H5]; · iexact H5
  iintro H5
  iapply (ldHid_run c arg5 f5 3); isplitl [H5]; · iexact H5
  iintro H5
  iapply (ldHid_run c arg5 f5 4); isplitl [H5]; · iexact H5
  iintro H5
  iapply (ldHid_run c arg5 f5 5); isplitl [H5]; · iexact H5
  iintro H5
  iapply (ldHid_run c arg5 f5 6); isplitl [H5]; · iexact H5
  iintro H5
  iapply (wp_load Variants.none (c : Thread nD τ) none Set.univ (m := arg6) (View.setOn_subset_set _ _)) $$ H6
  iintro H6
  rw [View.readAt_full]
  iapply (wp_load Variants.none (c : Thread nD τ) none Set.univ (m := arg7) (View.setOn_subset_set _ _)) $$ H7
  iintro H7
  iapply (wp_store Variants.none (c : Thread nD τ) none Set.univ (m := arg7) (r := Rect.unit (s := S1x128x64) ![0, 0, 8 * s.val] S1x128x8.size hp)
    ((View.setOn_subset_set _ _).trans (View.set_slice_subset _ _))) $$ H7
  iintro H7
  iapply Hk
  isplitl [H4]; · iexact H4
  isplitl [H5]; · iexact H5
  isplitl [H6]; · iexact H6
  iexists _
  isplitr
  swap
  · iexact H7
  ipureintro
  intro j hj
  refine (View.read_writes_cons_unit arg7.view f hp _ [] j rfl).trans ?_
  split_ifs with hin
  · have h2 : 8 * s.val ≤ (j 2).val ∧ (j 2).val < 8 * s.val + 8 := hin 2
    unfold outB
    have es : (⟨(j 2).val / 8, by have h : (j 2).val < 64 := (j 2).isLt; omega⟩ : Fin 8) = s := Fin.ext (by show (j 2).val / 8 = s.val; omega)
    rw [es]
    refine congrArg (outAt pv (arg4.view.read (Elt F) f4) (arg5.view.read (Elt F) f5) (arg6.view.read (Elt F) f6) s) (funext fun a => Fin.ext ?_)
    match a with
    | ⟨0, _⟩ =>
      have h0 : (j 0).val < 1 := (j 0).isLt
      show (j 0).val - 0 = 0; omega
    | ⟨1, _⟩ => show (j 1).val - 0 = (j 1).val; omega
    | ⟨2, _⟩ => show (j 2).val - 8 * s.val = (j 2).val % 8; omega
  · refine hw j ?_
    by_contra hge
    apply hin
    intro a
    match a with
    | ⟨0, _⟩ => exact ⟨Nat.zero_le _, by have h0 : (j 0).val < 1 := (j 0).isLt; show (j 0).val < 0 + 1; omega⟩
    | ⟨1, _⟩ => exact ⟨Nat.zero_le _, by have h0 : (j 1).val < 128 := (j 1).isLt; show (j 1).val < 0 + 128; omega⟩
    | ⟨2, _⟩ => constructor
                · show 8 * s.val ≤ (j 2).val; omega
                · show (j 2).val < 8 * s.val + 8; omega
end Net

end Cert.KernelIdeal.Own
-- ==== Proof.KernelIdealRun.lean ====
/- A block's program, whole: the levels one after the other, then the network. -/
module

public import proofs.«01_k».proof.Proof.KernelIdealBlock

@[expose] public section

set_option maxRecDepth 8000

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

local notation "𝕄" => MT nD τ sig Unit (Elt F) ℕ (Pipeline.UD sig nD τ) ℕ

/-- The two features of a dense level. -/
def dF (L : Lvl) (tab : Vec F S92840x1x128 .f32) (x y : FVec F S8x128 .f32) (ln : IVec S8x128 32) : FVec F S8x128 .f32 :=
  let p := fourD tab (L.drows x y)
  L.dfeat ln x y p.1 p.2.1 p.2.2.1 p.2.2.2
/-- The two features of a hashed level. -/
def hF (L : Lvl) (tab : Vec F S92840x1x128 .f32) (x y : FVec F S8x128 .f32) (ln : IVec S8x128 32) : FVec F S8x128 .f32 :=
  let p := fourH tab (L.hrows x y)
  L.hfeat ln x y p.1 p.2.1 p.2.2.1 p.2.2.2

/-- The thirty-two features of a block's points. -/
def feats (tab : Vec F S92840x1x128 .f32) (x y : FVec F S8x128 .f32) : Fin 32 → FVec F S8x128 .f32 :=
  ![dF L0 tab x y evl, dF L0 tab x y odl,
    dF L1 tab x y evl, dF L1 tab x y odl,
    dF L2 tab x y evl, dF L2 tab x y odl,
    dF L3 tab x y evl, dF L3 tab x y odl,
    dF L4 tab x y evl, dF L4 tab x y odl,
    dF L5 tab x y evl, dF L5 tab x y odl,
    hF L6 tab x y evl, hF L6 tab x y odl,
    hF L7 tab x y evl, hF L7 tab x y odl,
    hF L8 tab x y evl, hF L8 tab x y odl,
    hF L9 tab x y evl, hF L9 tab x y odl,
    hF L10 tab x y evl, hF L10 tab x y odl,
    hF L11 tab x y evl, hF L11 tab x y odl,
    hF L12 tab x y evl, hF L12 tab x y odl,
    hF L13 tab x y evl, hF L13 tab x y odl,
    hF L14 tab x y evl, hF L14 tab x y odl,
    hF L15 tab x y evl, hF L15 tab x y odl]

/-- What a block leaves: of its coordinates, the table and the three weights. -/
def block (x y : Vec F S1x8x128 .f32) (tab : Vec F S92840x1x128 .f32) (A4 : Vec F S8x256x128 .bf16) (A5 : Vec F S7x128x128 .bf16)
    (A6 : Vec F S128x8 .bf16) : Vec F S1x128x64 .f32 :=
  outB (enc (feats tab (shapeCast S8x128 x shapeCasts_S1x8x128_S8x128) (shapeCast S8x128 y shapeCasts_S1x8x128_S8x128))) A4 A5 A6

/-- Every level's rows lie in the table. -/
def InTab (x y : FVec F S8x128 .f32) : Prop :=
  ((∀ j, (L0.drows x y j).toNat < 92840) ∧ (∀ j, (L1.drows x y j).toNat < 92840) ∧ (∀ j, (L2.drows x y j).toNat < 92840) ∧ (∀ j, (L3.drows x y j).toNat < 92840) ∧ (∀ j, (L4.drows x y j).toNat < 92840) ∧ (∀ j, (L5.drows x y j).toNat < 92840))
    ∧ (∀ j, (L6.hrows x y j).toNat < 92840) ∧ (∀ j, (L7.hrows x y j).toNat < 92840) ∧ (∀ j, (L8.hrows x y j).toNat < 92840) ∧ (∀ j, (L9.hrows x y j).toNat < 92840) ∧ (∀ j, (L10.hrows x y j).toNat < 92840) ∧ (∀ j, (L11.hrows x y j).toNat < 92840) ∧ (∀ j, (L12.hrows x y j).toNat < 92840) ∧ (∀ j, (L13.hrows x y j).toNat < 92840) ∧ (∀ j, (L14.hrows x y j).toNat < 92840) ∧ (∀ j, (L15.hrows x y j).toNat < 92840)

theorem body_run (c : Dev nD) (i : grid0.Coords)
    (arg1 : Memref sig .tc .vmem S1x8x128 .f32) (harg1 : arg1.IsWhole)
    (arg2 : Memref sig .tc .vmem S1x8x128 .f32) (harg2 : arg2.IsWhole)
    (arg3 : Memref sig .tc .vmem S92840x1x128 .f32) (harg3 : arg3.IsWhole)
    (arg4 : Memref sig .tc .vmem S8x256x128 .bf16) (harg4 : arg4.IsWhole)
    (arg5 : Memref sig .tc .vmem S7x128x128 .bf16) (harg5 : arg5.IsWhole)
    (arg6 : Memref sig .tc .vmem S128x8 .bf16) (harg6 : arg6.IsWhole)
    (arg7 : Memref sig .tc .vmem S1x128x64 .f32) (harg7 : arg7.IsWhole)
    (arg8 : Memref sig .tc .vmem S2x4x8x128 .i32) (harg8 : arg8.IsWhole)
    (arg9 : Memref sig .tc .vmem S128x8x128 .f32) (harg9 : arg9.IsWhole)
    (arg10 : Memref sig .tc .vmem S128x8x128 .f32) (harg10 : arg10.IsWhole)
    (arg11 : Memref sig .tc .smem S2x4x8x128 .i32) (harg11 : arg11.IsWhole)
    (arg12 : DmaSems sig S2)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (hin : InTab (shapeCast S8x128 (arg1.view.read (Elt F) f1) shapeCasts_S1x8x128_S8x128) (shapeCast S8x128 (arg2.view.read (Elt F) f2) shapeCasts_S1x8x128_S8x128)) :
    iprop(held c arg1 f1 ∗ held c arg2 f2 ∗ held c arg3 f3 ∗ held c arg4 f4 ∗ held c arg5 f5 ∗ held c arg6 f6 ∗ (∃ f, held (F := F) c arg7 f)
      ∗ Idle (F := F) c arg8 arg11 0 (slotSem arg12 ![0] inb_S2_S1_0) ∗ Idle (F := F) c arg8 arg11 1 (slotSem arg12 ![1] inb_S2_S1_1)
      ∗ stages (F := F) c arg9 arg10 ∗ ∃ W, owes (c : Thread nD τ) 0 W)
    ⊢ wpk c (body i arg1 harg1 arg2 harg2 arg3 harg3 arg4 harg4 arg5 harg5 arg6 harg6 arg7 harg7 arg8 harg8 arg9 harg9 arg10 harg10 arg11 harg11 arg12)
      (fun _ => iprop(held c arg1 f1 ∗ held c arg2 f2 ∗ held c arg3 f3 ∗ held c arg4 f4 ∗ held c arg5 f5 ∗ held c arg6 f6
        ∗ owns (c : Thread nD τ) arg7 fullShare (block (arg1.view.read (Elt F) f1) (arg2.view.read (Elt F) f2) (arg3.view.read (Elt F) f3)
            (arg4.view.read (Elt F) f4) (arg5.view.read (Elt F) f5) (arg6.view.read (Elt F) f6))
        ∗ Idle (F := F) c arg8 arg11 0 (slotSem arg12 ![0] inb_S2_S1_0) ∗ Idle (F := F) c arg8 arg11 1 (slotSem arg12 ![1] inb_S2_S1_1)
        ∗ stages (F := F) c arg9 arg10 ∗ ∃ W, owes (c : Thread nD τ) 0 W)) := by
  obtain ⟨⟨d0, d1, d2, d3, d4, d5⟩, h6, h7, h8, h9, h10, h11, h12, h13, h14, h15⟩ := hin
  unfold body
  iintro ⟨H1, H2, H3, H4, H5, H6, H7, I0, I1, HS, HO⟩
  simp only [Prog.lift, Prog.bind_op, Prog.bind_ret]
  iapply (wp_load Variants.none (c : Thread nD τ) none Set.univ (m := arg1) (View.setOn_subset_set _ _)) $$ H1
  iintro H1
  rw [View.readAt_full]
  iapply (wp_load Variants.none (c : Thread nD τ) none Set.univ (m := arg2) (View.setOn_subset_set _ _)) $$ H2
  iintro H2
  rw [View.readAt_full]
  rw [wp_bind]
  iapply wp_wand_r
  isplitl [I0]
  · iapply (startD_run c arg8 arg11 arg12 (q := 0) ![0, 0, 0, 0] rfl ![0] inb_S2_S1_0 inb_S2x4x8x128_S1x2x8x128_0_0_0_0 _) $$ I0
  iintro %_ B0
  iapply (step (startD_run c arg8 arg11 arg12 (q := 1) ![1, 0, 0, 0] rfl ![1] inb_S2_S1_1 inb_S2x4x8x128_S1x2x8x128_1_0_0_0 _)
    (waitD_run c arg8 arg11 arg12 (q := 0) ![0, 0, 0, 0] rfl ![0] inb_S2_S1_0 inb_S2x4x8x128_S1x2x8x128_0_0_0_0 _)
    (gathD_run c arg3 arg8 arg9 arg10 arg11 (q := 0) (by decide) inb_S2x4x8x128_S1x2x8x128_0_0_0_0 _ f3 _ d0))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startD_run c arg8 arg11 arg12 (q := 0) ![0, 0, 0, 0] rfl ![0] inb_S2_S1_0 inb_S2x4x8x128_S1x2x8x128_0_0_0_0 _)
    (waitD_run c arg8 arg11 arg12 (q := 1) ![1, 0, 0, 0] rfl ![1] inb_S2_S1_1 inb_S2x4x8x128_S1x2x8x128_1_0_0_0 _)
    (gathD_run c arg3 arg8 arg9 arg10 arg11 (q := 1) (by decide) inb_S2x4x8x128_S1x2x8x128_1_0_0_0 _ f3 _ d1))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startD_run c arg8 arg11 arg12 (q := 1) ![1, 0, 0, 0] rfl ![1] inb_S2_S1_1 inb_S2x4x8x128_S1x2x8x128_1_0_0_0 _)
    (waitD_run c arg8 arg11 arg12 (q := 0) ![0, 0, 0, 0] rfl ![0] inb_S2_S1_0 inb_S2x4x8x128_S1x2x8x128_0_0_0_0 _)
    (gathD_run c arg3 arg8 arg9 arg10 arg11 (q := 0) (by decide) inb_S2x4x8x128_S1x2x8x128_0_0_0_0 _ f3 _ d2))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startD_run c arg8 arg11 arg12 (q := 0) ![0, 0, 0, 0] rfl ![0] inb_S2_S1_0 inb_S2x4x8x128_S1x2x8x128_0_0_0_0 _)
    (waitD_run c arg8 arg11 arg12 (q := 1) ![1, 0, 0, 0] rfl ![1] inb_S2_S1_1 inb_S2x4x8x128_S1x2x8x128_1_0_0_0 _)
    (gathD_run c arg3 arg8 arg9 arg10 arg11 (q := 1) (by decide) inb_S2x4x8x128_S1x2x8x128_1_0_0_0 _ f3 _ d3))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startD_run c arg8 arg11 arg12 (q := 1) ![1, 0, 0, 0] rfl ![1] inb_S2_S1_1 inb_S2x4x8x128_S1x2x8x128_1_0_0_0 _)
    (waitD_run c arg8 arg11 arg12 (q := 0) ![0, 0, 0, 0] rfl ![0] inb_S2_S1_0 inb_S2x4x8x128_S1x2x8x128_0_0_0_0 _)
    (gathD_run c arg3 arg8 arg9 arg10 arg11 (q := 0) (by decide) inb_S2x4x8x128_S1x2x8x128_0_0_0_0 _ f3 _ d4))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startH_run c arg8 arg11 arg12 (q := 0) ![0, 0, 0, 0] rfl ![0] inb_S2_S1_0 inb_S2x4x8x128_S1x4x8x128_0_0_0_0 _)
    (waitD_run c arg8 arg11 arg12 (q := 1) ![1, 0, 0, 0] rfl ![1] inb_S2_S1_1 inb_S2x4x8x128_S1x2x8x128_1_0_0_0 _)
    (gathD_run c arg3 arg8 arg9 arg10 arg11 (q := 1) (by decide) inb_S2x4x8x128_S1x2x8x128_1_0_0_0 _ f3 _ d5))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startH_run c arg8 arg11 arg12 (q := 1) ![1, 0, 0, 0] rfl ![1] inb_S2_S1_1 inb_S2x4x8x128_S1x4x8x128_1_0_0_0 _)
    (waitH_run c arg8 arg11 arg12 (q := 0) ![0, 0, 0, 0] rfl ![0] inb_S2_S1_0 inb_S2x4x8x128_S1x4x8x128_0_0_0_0 _)
    (gathH_run c arg3 arg8 arg9 arg10 arg11 (q := 0) (by decide) inb_S2x4x8x128_S1x4x8x128_0_0_0_0 _ f3 _ h6))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startH_run c arg8 arg11 arg12 (q := 0) ![0, 0, 0, 0] rfl ![0] inb_S2_S1_0 inb_S2x4x8x128_S1x4x8x128_0_0_0_0 _)
    (waitH_run c arg8 arg11 arg12 (q := 1) ![1, 0, 0, 0] rfl ![1] inb_S2_S1_1 inb_S2x4x8x128_S1x4x8x128_1_0_0_0 _)
    (gathH_run c arg3 arg8 arg9 arg10 arg11 (q := 1) (by decide) inb_S2x4x8x128_S1x4x8x128_1_0_0_0 _ f3 _ h7))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startH_run c arg8 arg11 arg12 (q := 1) ![1, 0, 0, 0] rfl ![1] inb_S2_S1_1 inb_S2x4x8x128_S1x4x8x128_1_0_0_0 _)
    (waitH_run c arg8 arg11 arg12 (q := 0) ![0, 0, 0, 0] rfl ![0] inb_S2_S1_0 inb_S2x4x8x128_S1x4x8x128_0_0_0_0 _)
    (gathH_run c arg3 arg8 arg9 arg10 arg11 (q := 0) (by decide) inb_S2x4x8x128_S1x4x8x128_0_0_0_0 _ f3 _ h8))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startH_run c arg8 arg11 arg12 (q := 0) ![0, 0, 0, 0] rfl ![0] inb_S2_S1_0 inb_S2x4x8x128_S1x4x8x128_0_0_0_0 _)
    (waitH_run c arg8 arg11 arg12 (q := 1) ![1, 0, 0, 0] rfl ![1] inb_S2_S1_1 inb_S2x4x8x128_S1x4x8x128_1_0_0_0 _)
    (gathH_run c arg3 arg8 arg9 arg10 arg11 (q := 1) (by decide) inb_S2x4x8x128_S1x4x8x128_1_0_0_0 _ f3 _ h9))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startH_run c arg8 arg11 arg12 (q := 1) ![1, 0, 0, 0] rfl ![1] inb_S2_S1_1 inb_S2x4x8x128_S1x4x8x128_1_0_0_0 _)
    (waitH_run c arg8 arg11 arg12 (q := 0) ![0, 0, 0, 0] rfl ![0] inb_S2_S1_0 inb_S2x4x8x128_S1x4x8x128_0_0_0_0 _)
    (gathH_run c arg3 arg8 arg9 arg10 arg11 (q := 0) (by decide) inb_S2x4x8x128_S1x4x8x128_0_0_0_0 _ f3 _ h10))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startH_run c arg8 arg11 arg12 (q := 0) ![0, 0, 0, 0] rfl ![0] inb_S2_S1_0 inb_S2x4x8x128_S1x4x8x128_0_0_0_0 _)
    (waitH_run c arg8 arg11 arg12 (q := 1) ![1, 0, 0, 0] rfl ![1] inb_S2_S1_1 inb_S2x4x8x128_S1x4x8x128_1_0_0_0 _)
    (gathH_run c arg3 arg8 arg9 arg10 arg11 (q := 1) (by decide) inb_S2x4x8x128_S1x4x8x128_1_0_0_0 _ f3 _ h11))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startH_run c arg8 arg11 arg12 (q := 1) ![1, 0, 0, 0] rfl ![1] inb_S2_S1_1 inb_S2x4x8x128_S1x4x8x128_1_0_0_0 _)
    (waitH_run c arg8 arg11 arg12 (q := 0) ![0, 0, 0, 0] rfl ![0] inb_S2_S1_0 inb_S2x4x8x128_S1x4x8x128_0_0_0_0 _)
    (gathH_run c arg3 arg8 arg9 arg10 arg11 (q := 0) (by decide) inb_S2x4x8x128_S1x4x8x128_0_0_0_0 _ f3 _ h12))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (step (startH_run c arg8 arg11 arg12 (q := 0) ![0, 0, 0, 0] rfl ![0] inb_S2_S1_0 inb_S2x4x8x128_S1x4x8x128_0_0_0_0 _)
    (waitH_run c arg8 arg11 arg12 (q := 1) ![1, 0, 0, 0] rfl ![1] inb_S2_S1_1 inb_S2x4x8x128_S1x4x8x128_1_0_0_0 _)
    (gathH_run c arg3 arg8 arg9 arg10 arg11 (q := 1) (by decide) inb_S2x4x8x128_S1x4x8x128_1_0_0_0 _ f3 _ h13))
  isplitl [B1 I0 H3 HS HO]
  · isplitl [B1]; · iexact B1
    isplitl [I0]; · iexact I0
    isplitl [H3 HS]
    · isplitl [H3]; · iexact H3
      iexact HS
    iexact HO
  iintro ⟨B0, I1, ⟨H3, HS⟩, HO⟩
  iapply (step (startH_run c arg8 arg11 arg12 (q := 1) ![1, 0, 0, 0] rfl ![1] inb_S2_S1_1 inb_S2x4x8x128_S1x4x8x128_1_0_0_0 _)
    (waitH_run c arg8 arg11 arg12 (q := 0) ![0, 0, 0, 0] rfl ![0] inb_S2_S1_0 inb_S2x4x8x128_S1x4x8x128_0_0_0_0 _)
    (gathH_run c arg3 arg8 arg9 arg10 arg11 (q := 0) (by decide) inb_S2x4x8x128_S1x4x8x128_0_0_0_0 _ f3 _ h14))
  isplitl [B0 I1 H3 HS HO]
  · isplitl [B0]; · iexact B0
    isplitl [I1]; · iexact I1
    isplitl [H3 HS]
    · isplitl [H3]; · iexact H3
      iexact HS
    iexact HO
  iintro ⟨B1, I0, ⟨H3, HS⟩, HO⟩
  iapply (stepLast (waitH_run c arg8 arg11 arg12 (q := 1) ![1, 0, 0, 0] rfl ![1] inb_S2_S1_1 inb_S2x4x8x128_S1x4x8x128_1_0_0_0 _)
    (gathH_run c arg3 arg8 arg9 arg10 arg11 (q := 1) (by decide) inb_S2x4x8x128_S1x4x8x128_1_0_0_0 _ f3 _ h15))
  isplitl [B1 H3 HS HO]
  · isplitl [B1]; · iexact B1
    isplitl [H3 HS]
    · isplitl [H3]; · iexact H3
      iexact HS
    iexact HO
  iintro ⟨I1, ⟨H3, HS⟩, HO⟩
  icases H7 with ⟨%f7, H7⟩
  ihave HN : (iprop(∃ f, ⌜wrote c arg4 arg5 arg6 arg7 f4 f5 f6 (enc (feats (arg3.view.read (Elt F) f3)
      (shapeCast S8x128 (arg1.view.read (Elt F) f1) shapeCasts_S1x8x128_S8x128) (shapeCast S8x128 (arg2.view.read (Elt F) f2) shapeCasts_S1x8x128_S8x128))) 0 f⌝
      ∗ held c arg7 f) : sProp 𝕄) $$ [H7]
  · iexists f7
    isplitr; · ipureintro; intro j hj; omega
    iexact H7
  iapply (netAt_run c arg4 arg5 arg6 arg7 f4 f5 f6 _ 0 inb_S8x256x128_S1x256x128_0_0_0 inb_S1x128x64_S1x128x8_0_0_0)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 1 inb_S8x256x128_S1x256x128_1_0_0 inb_S1x128x64_S1x128x8_0_0_8)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 2 inb_S8x256x128_S1x256x128_2_0_0 inb_S1x128x64_S1x128x8_0_0_16)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 3 inb_S8x256x128_S1x256x128_3_0_0 inb_S1x128x64_S1x128x8_0_0_24)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 4 inb_S8x256x128_S1x256x128_4_0_0 inb_S1x128x64_S1x128x8_0_0_32)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 5 inb_S8x256x128_S1x256x128_5_0_0 inb_S1x128x64_S1x128x8_0_0_40)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 6 inb_S8x256x128_S1x256x128_6_0_0 inb_S1x128x64_S1x128x8_0_0_48)
  isplitl [H4 H5 H6 HN]
  · isplitl [H4]; · iexact H4
    isplitl [H5]; · iexact H5
    isplitl [H6]; · iexact H6
    iexact HN
  iintro ⟨H4, H5, H6, HN⟩
  iapply (netAt_run c arg4 arg5 arg6 arg7 f4 f5 f6 _ 7 inb_S8x256x128_S1x256x128_7_0_0 inb_S1x128x64_S1x128x8_0_0_56)
  isplitl [H4 H5 H6 HN]
  · isplitl [H4]; · iexact H4
    isplitl [H5]; · iexact H5
    isplitl [H6]; · iexact H6
    iexact HN
  iintro ⟨H4, H5, H6, HN⟩
  icases HN with ⟨%g7, %hg, H7⟩
  unfold wpk
  simp only [Prog.pure_eq_ret]
  sl_step
  isplitl [H1]; · iexact H1
  isplitl [H2]; · iexact H2
  isplitl [H3]; · iexact H3
  isplitl [H4]; · iexact H4
  isplitl [H5]; · iexact H5
  isplitl [H6]; · iexact H6
  isplitl [H7]
  · unfold owns
    iexists g7
    isplitr
    · ipureintro
      funext j
      exact hg j (j 2).isLt
    iexact H7
  isplitl [I0]; · iexact I0
  isplitl [I1]; · iexact I1
  isplitl [HS]; · iexact HS
  iexact HO

end Cert.KernelIdeal.Own
-- ==== Proof.KernelIdealLaunch.lean ====
/- The launch: what the pipeline hands a block's program and takes back, and the run of the whole program. -/
module

public import proofs.«01_k».proof.Proof.KernelIdealRun
public import proofs.«01_k».proof.Proof.Gen.KernelIdeal.Frame

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx (ix2 ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program around its pipeline. -/
theorem hmainU (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The buffers and cells of the program's own -/

/-- The two slots' semaphores. -/
abbrev osem0 : Fin 2 → SemLoc sig := ![SemLoc.dma (slotSem cc0_scratch4 ![0] inb_S2_S1_0), SemLoc.dma (slotSem cc0_scratch4 ![1] inb_S2_S1_1)]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (slotSem cc0_scratch4 ![0] inb_S2_S1_0)) 0
          ∗ semVal ((c : Thread nD τ), SemLoc.dma (slotSem cc0_scratch4 ![1] inb_S2_S1_1)) 0) := by
  rw [Pipeline.ownSems0_eq_of_list c osem0 [0, 1] (by decide) (by decide)]; rfl

/-- What is kept between blocks. -/
abbrev Keep (c : Dev nD) : sProp 𝕄 := Pipeline.ΦD osem0 spec0 ∅ (V m) c

theorem keep_eq (c : Dev nD) :
    Keep m c = iprop(iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r)
      ∗ iprop(semVal ((c : Thread nD τ), SemLoc.dma (slotSem cc0_scratch4 ![0] inb_S2_S1_0)) 0
          ∗ semVal ((c : Thread nD τ), SemLoc.dma (slotSem cc0_scratch4 ![1] inb_S2_S1_1)) 0)
      ∗ emp) := by
  unfold Keep
  rw [Pipeline.ΦD_eq, scopedRest0_eq, ownSems00_eq, BI.bigSep_empty]; rfl

/-! ## The proof data -/

/-- What block `t` leaves. -/
def blockAt (c : Dev nD) (t : Fin cfg0.N) : Vec F S1x128x64 .f32 :=
  block (iblk m c 0 t) (iblk m c 1 t) (iblk m c 2 t) (iblk m c 3 t) (iblk m c 4 t) (iblk m c 5 t)

/-- The pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t
  Φ _ := Keep m c
  q _ := fullShare
  owed _ := 0

theorem A_eq (c : Dev nD) (w : Fin cfg0.W) : (dats m 0 c).A w = V m c (Pipeline.arrRef spec0 w) := by
  dsimp only [dats]

/-! An input's staging buffer holds its block at every point. -/

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_0 (c : Dev nD) (t : Fin cfg0.N) (d) : (dats m 0 c).before 0 t d = iblk m c 0 t :=
  before_0_of m (dats m 0 c) (A_eq m c 0) (fun t => by dsimp only [dats]) t d
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_1 (c : Dev nD) (t : Fin cfg0.N) (d) : (dats m 0 c).before 1 t d = iblk m c 1 t :=
  before_1_of m (dats m 0 c) (A_eq m c 1) (fun t => by dsimp only [dats]) t d
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_2 (c : Dev nD) (t : Fin cfg0.N) (d) : (dats m 0 c).before 2 t d = iblk m c 2 t :=
  before_2_of m (dats m 0 c) (A_eq m c 2) (fun t => by dsimp only [dats]) t d
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_3 (c : Dev nD) (t : Fin cfg0.N) (d) : (dats m 0 c).before 3 t d = iblk m c 3 t :=
  before_3_of m (dats m 0 c) (A_eq m c 3) (fun t => by dsimp only [dats]) t d
theorem before_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_4 (c : Dev nD) (t : Fin cfg0.N) (d) : (dats m 0 c).before 4 t d = iblk m c 4 t :=
  before_4_of m (dats m 0 c) (A_eq m c 4) (fun t => by dsimp only [dats]) t d
theorem before_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_5 (c : Dev nD) (t : Fin cfg0.N) (d) : (dats m 0 c).before 5 t d = iblk m c 5 t :=
  before_5_of m (dats m 0 c) (A_eq m c 5) (fun t => by dsimp only [dats]) t d

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blockAt m c t := by dsimp only [dats]

/-- Every point's rows lie in the table. -/
def Good : Prop := ∀ (c : Dev nD) (t : Fin cfg0.N),
  InTab (F := F) (shapeCast S8x128 (iblk m c 0 t) shapeCasts_S1x8x128_S8x128) (shapeCast S8x128 (iblk m c 1 t) shapeCasts_S1x8x128_S8x128)

/-! ## The slots' buffers, whole and in halves -/

theorem slot_sdiff {sp : Space} (a : Memref sig .tc sp S2x4x8x128 .i32) : a.view.set \ slotSet a 0 = slotSet a 1 := by
  unfold slotSet
  rw [← View.setOn_univ]
  unfold View.setOn
  rw [← Finset.map_sdiff]
  refine congrArg _ ?_
  ext j
  have hj : (j 0).val < 2 := (j 0).isLt
  simp only [Finset.mem_sdiff, Finset.mem_univ, true_and, Finset.mem_filter]
  omega

theorem slots_split (c : Dev nD) {sp : Space} (a : Memref sig .tc sp S2x4x8x128 .i32) (f : Buf (Elt F) (a.view.loc (c : Thread nD τ))) :
    held c a f ⊢ (iprop((a.view.loc (c : Thread nD τ) ↦[slotSet a 0]{fullShare} f) ∗ (a.view.loc (c : Thread nD τ) ↦[slotSet a 1]{fullShare} f)) : sProp 𝕄) := by
  rw [← slot_sdiff]
  exact (pointsTo_split_subset (View.setOn_subset_set _ _)).1

theorem slots_join (c : Dev nD) {sp : Space} (a : Memref sig .tc sp S2x4x8x128 .i32) (f g : Buf (Elt F) (a.view.loc (c : Thread nD τ))) :
    (iprop((a.view.loc (c : Thread nD τ) ↦[slotSet a 0]{fullShare} f) ∗ (a.view.loc (c : Thread nD τ) ↦[slotSet a 1]{fullShare} g)) : sProp 𝕄)
      ⊢ (∃ h, held c a h) := by
  rw [← slot_sdiff]
  exact (pointsTo_join_subset (View.setOn_subset_set _ _)).trans (exists_intro (Φ := fun h => held (F := F) c a h) _)

theorem held_whole (c : Dev nD) (b : Ref sig .tc) (f : Buf (Elt F) ((c : Thread nD τ).loc b)) :
    (held (F := F) c (Memref.whole b) f : sProp 𝕄) = (((c : Thread nD τ).loc b) ↦{fullShare} f) := by
  show (_ ↦[(View.whole b).set]{fullShare} f) = _
  rw [View.set_whole]

theorem of_whole (c : Dev nD) (b : Ref sig .tc) (f : Buf (Elt F) ((c : Thread nD τ).loc b)) :
    (((c : Thread nD τ).loc b) ↦{fullShare} f : sProp 𝕄) ⊢ held (F := F) c (Memref.whole b) f := by rw [held_whole]
theorem to_whole (c : Dev nD) (b : Ref sig .tc) (f : Buf (Elt F) ((c : Thread nD τ).loc b)) :
    (held (F := F) c (Memref.whole b) f : sProp 𝕄) ⊢ (((c : Thread nD τ).loc b) ↦{fullShare} f) := by rw [held_whole]

/-! ## A block's program -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem sound_body (hsk : cc0_tiny_inr_fused_skel (F := F) = body) (hg : Good m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5, after_6]
  rw [show (dats m 0 c).Φ t.succ = (dats m 0 c).Φ t.castSucc from rfl]
  rw [show (dats m 0 c).Φ t.castSucc = Keep m c from rfl, keep_eq]
  unfold Dat.owesAt Pipeline.owesWithin
  rw [show (dats m 0 c).owed t.castSucc = 0 from rfl, show (dats m 0 c).owed t.succ = 0 from rfl]
  unfold blockAt
  have hgt := hg c t
  generalize iblk m c 0 t = b0 at hgt ⊢
  generalize iblk m c 1 t = b1 at hgt ⊢
  generalize iblk m c 2 t = b2
  generalize iblk m c 3 t = b3
  generalize iblk m c 4 t = b4
  generalize iblk m c 5 t = b5
  generalize (dats m 0 c).before 6 t = b6
  rw [cc0_tiny_inr_fused_eq_skeleton, hsk]
  unfold owns
  iintro ⟨⟨⟨⟨%g8, S8⟩, ⟨%g9, S9⟩, ⟨%g10, S10⟩, ⟨%g11, S11⟩⟩, Hg, ⟨Q0, Q1⟩, He⟩, ⟨%W, -, HW⟩, ⟨%d0, ⟨%f1, %e1, H1⟩⟩, ⟨%d1, ⟨%f2, %e2, H2⟩⟩, ⟨%d2, ⟨%f3, %e3, H3⟩⟩, ⟨%d3, ⟨%f4, %e4, H4⟩⟩, ⟨%d4, ⟨%f5, %e5, H5⟩⟩, ⟨%d5, ⟨%f6, %e6, H6⟩⟩, ⟨%d6, ⟨%f7, -, H7⟩⟩⟩
  subst e1 e2 e3 e4 e5 e6
  ihave ⟨A0, A1⟩ := (slots_split c (Memref.whole cc0_scratch0) g8) $$ [S8]
  · rw [held_whole]; iexact S8
  ihave ⟨B0, B1⟩ := (slots_split c (Memref.whole cc0_scratch3) g11) $$ [S11]
  · rw [held_whole]; iexact S11
  iapply (wp_wand_r (M := 𝕄))
  isplitr [Hg He]
  · iapply (body_run c (grid0.coords t) _ _ _ _ _ _ _ _ _ _ _ _ _ _ (Memref.whole cc0_scratch0) _ (Memref.whole cc0_scratch1) _ (Memref.whole cc0_scratch2) _ (Memref.whole cc0_scratch3) _ cc0_scratch4 f1 f2 f3 f4 f5 f6 hgt)
    isplitl [H1]; · iexact H1
    isplitl [H2]; · iexact H2
    isplitl [H3]; · iexact H3
    isplitl [H4]; · iexact H4
    isplitl [H5]; · iexact H5
    isplitl [H6]; · iexact H6
    isplitl [H7]; · iexists f7; iexact H7
    isplitl [A0 B0 Q0]
    · unfold Idle; iexists g8, g11
      isplitl [A0]; · iexact A0
      isplitl [B0]; · iexact B0
      iexact Q0
    isplitl [A1 B1 Q1]
    · unfold Idle; iexists g8, g11
      isplitl [A1]; · iexact A1
      isplitl [B1]; · iexact B1
      iexact Q1
    isplitl [S9 S10]
    · unfold stages
      isplitl [S9]
      · iexists g9; rw [held_whole]; iexact S9
      iexists g10; rw [held_whole]; iexact S10
    iexists W; iexact HW
  unfold Idle stages owns
  iintro %v ⟨H1, H2, H3, H4, H5, H6, ⟨%f7', %e7, H7⟩, ⟨%a0, %b0, A0, B0, Q0⟩, ⟨%a1, %b1, A1, B1, Q1⟩, ⟨⟨%g9', S9⟩, ⟨%g10', S10⟩⟩, ⟨%W', HW⟩⟩
  ihave ⟨%h8, S8⟩ := (slots_join c (Memref.whole cc0_scratch0) a0 a1) $$ [A0 A1]
  · isplitl [A0]; · iexact A0
    iexact A1
  ihave ⟨%h11, S11⟩ := (slots_join c (Memref.whole cc0_scratch3) b0 b1) $$ [B0 B1]
  · isplitl [B0]; · iexact B0
    iexact B1
  isplitl [S8 S9 S10 S11 Hg Q0 Q1 He]
  · isplitl [S8 S9 S10 S11]
    · isplitl [S8]; · iexists h8; iapply (to_whole c cc0_scratch0 h8) $$ S8
      isplitl [S9]; · iexists g9'; iapply (to_whole c cc0_scratch1 g9') $$ S9
      isplitl [S10]; · iexists g10'; iapply (to_whole c cc0_scratch2 g10') $$ S10
      iexists h11; iapply (to_whole c cc0_scratch3 h11) $$ S11
    isplitl [Hg]; · iexact Hg
    isplitl [Q0 Q1]
    · isplitl [Q0]; · iexact Q0
      iexact Q1
    iexact He
  isplitl [HW]
  · iexists W'; isplitr; · ipureintro; exact fun _ _ => Or.inl trivial
    iexact HW
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists f7'; isplitr; · ipureintro; exact e7
  iexact H7

theorem defs₀_row (t : Fin cfg0.N) : defs₀ (F := F) .tc cfg0.body (cfg0.bodyArgs t (cfg0.slots t)) = bodyAt0 t := by
  unfold defs₀; rw [Defs.onTc_tc]

theorem body_obligation (hsk : cc0_tiny_inr_fused_skel (F := F) = body) (hg : Good m) (c : Dev nD) : BodyObligation (dats m 0 c) (defs₀ (F := F)) Variants.none () Set.univ := fun t => by
  rw [bigSep_W0, bigSep_W0, defs₀_row]
  exact triple_restated (sound_body m hsk hg c t) rfl .rfl fun _ => .rfl

/-! ## The run -/

theorem sub_tail : ∀ ops ∈ ([hostOps1] : List (List (HloOp τ sig (Elt F)))), ∀ op ∈ ops, op.bufs ⊆ Pipeline.tailRefsBut sig Pipeline.Prefetch.none spec0 ∅ := by
  rw [Pipeline.tailRefsBut_empty]; exact sfx_sub

set_option backward.isDefEq.respectTransparency.types false in
theorem run_main (hsk : cc0_tiny_inr_fused_skel (F := F) = body) (hg : Good m) : θ_run defs (onTc (τ := τ) (main (F := F))) ⟨m, fun _ => 0, ρ⟩ (fun r =>
    Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 ∅ (Finset.empty_subset _) m ρ main
    (hbody := fun c => (body_obligation m hsk hg c).loose) (hshare := fun c => (dats m 0 c).share_full fun _ => rfl)
    (howed := fun _ _ => rfl) (V₀ := V0 m) (opss := [hostOps1]) sub_tail sfx_fresh sfx_keeps (hmainU m Variants.none) (hA := A_eq m)
    (hin := fun _ => .rfl) (hout := fun _ => .rfl)

/-! ## The arguments stay -/

/-- An array neither the pipeline nor the operations after it write holds what the operations before it left. -/
theorem kept (c : Dev nD) (b : Ref sig .tc) (h0 : b ≠ main_v100) (h1 : b ≠ main_v101) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, StableHlo.reshape_writes, Finset.mem_singleton]
      exact ⟨StableHlo.devRef_ne_of_ne h0, StableHlo.devRef_ne_of_ne h1⟩)),
    Pipeline.withArrays_of_ne _ c (V0 m c) _ b hw]

theorem W_arg0 (c : Dev nD) : Pipeline.afterTail₀ cfgs (dats m) 0 (V0 m) [hostOps1] c main_arg0 = m ((c : Thread nD τ).loc main_arg0) :=
  (kept m c main_arg0 (by decide) (by decide) (by decide)).trans (V_main_arg0 m c)
theorem W_arg1 (c : Dev nD) : Pipeline.afterTail₀ cfgs (dats m) 0 (V0 m) [hostOps1] c main_arg1 = m ((c : Thread nD τ).loc main_arg1) :=
  (kept m c main_arg1 (by decide) (by decide) (by decide)).trans (V_main_arg1 m c)
theorem W_arg2 (c : Dev nD) : Pipeline.afterTail₀ cfgs (dats m) 0 (V0 m) [hostOps1] c main_arg2 = m ((c : Thread nD τ).loc main_arg2) :=
  (kept m c main_arg2 (by decide) (by decide) (by decide)).trans (V_main_arg2 m c)
theorem W_arg3 (c : Dev nD) : Pipeline.afterTail₀ cfgs (dats m) 0 (V0 m) [hostOps1] c main_arg3 = m ((c : Thread nD τ).loc main_arg3) :=
  (kept m c main_arg3 (by decide) (by decide) (by decide)).trans (V_main_arg3 m c)
theorem W_arg4 (c : Dev nD) : Pipeline.afterTail₀ cfgs (dats m) 0 (V0 m) [hostOps1] c main_arg4 = m ((c : Thread nD τ).loc main_arg4) :=
  (kept m c main_arg4 (by decide) (by decide) (by decide)).trans (V_main_arg4 m c)

/-- The program runs and leaves its arguments. -/
theorem frame_run (hsk : cc0_tiny_inr_fused_skel (F := F) = body) (hg : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (W_arg0 m c),
     ((h.1 c).2 main_arg1 (Pipeline.mem_restRefs_of main_arg1 (by decide) (by decide))).trans (W_arg1 m c),
     ((h.1 c).2 main_arg2 (Pipeline.mem_restRefs_of main_arg2 (by decide) (by decide))).trans (W_arg2 m c),
     ((h.1 c).2 main_arg3 (Pipeline.mem_restRefs_of main_arg3 (by decide) (by decide))).trans (W_arg3 m c),
     ((h.1 c).2 main_arg4 (Pipeline.mem_restRefs_of main_arg4 (by decide) (by decide))).trans (W_arg4 m c)⟩, h.2⟩) (run_main m ρ hsk hg)

end Cert.KernelIdeal.Own
-- ==== Proof.KernelIdealEntry.lean ====
/- What the launch's arrays hold where the blocks read them: the coordinates, spread over blocks, sublanes and lanes. -/
module

public import proofs.«01_k».proof.Proof.KernelIdealLaunch
public import Idealize.ShloMosaic.Lib.StableHlo.RunRead
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]
variable (m : (ℓ : Loc nD τ sig) → Buf (Elt F) ℓ)

/-- The point that block `i` holds at sublane `s` and lane `t`. -/
def pt (i : Fin 2048) (s : Fin 8) (t : Fin 128) : Fin 2097152 := ⟨i.val * 1024 + t.val * 8 + s.val, by omega⟩

/-- The first coordinates, as the launch finds them. -/
theorem V_xb (c : Dev nD) (i : Fin 2048) (s : Fin 8) (t : Fin 128) :
    V m c main_v84 (ix3 i s t) = m ((c : Thread nD τ).loc main_arg0) (ix2 (pt i s t) 0) := by
  show StableHlo.after _ _ _ _ = _
  after_reads_simp
  pointwise [pt]
/-- The second coordinates. -/
theorem V_yb (c : Dev nD) (i : Fin 2048) (s : Fin 8) (t : Fin 128) :
    V m c main_v88 (ix3 i s t) = m ((c : Thread nD τ).loc main_arg0) (ix2 (pt i s t) 1) := by
  show StableHlo.after _ _ _ _ = _
  after_reads_simp
  pointwise [pt]

/-- Point `t`'s block of the coordinates is the array's block `t`. -/
theorem index_xb : ∀ t : Fin cfg0.N, win0_0.index t = ![t.val, 0, 0] := by decide +kernel
theorem index_yb : ∀ t : Fin cfg0.N, win0_1.index t = ![t.val, 0, 0] := by decide +kernel

theorem iblk_xb (c : Dev nD) (t : Fin 2048) (s : Fin 8) (l : Fin 128) :
    iblk m c 0 t (ix3 0 s l) = m ((c : Thread nD τ).loc main_arg0) (ix2 (pt t s l) 0) := by
  refine Eq.trans ?_ (V_xb m c t s l)
  have e0 : win0_0.index t 0 = t.val := congrFun (index_xb t) 0
  have e1 : win0_0.index t 1 = 0 := congrFun (index_xb t) 1
  have e2 : win0_0.index t 2 = 0 := congrFun (index_xb t) 2
  blk_ext [iblk, V]
  all_goals omega
theorem iblk_yb (c : Dev nD) (t : Fin 2048) (s : Fin 8) (l : Fin 128) :
    iblk m c 1 t (ix3 0 s l) = m ((c : Thread nD τ).loc main_arg0) (ix2 (pt t s l) 1) := by
  refine Eq.trans ?_ (V_yb m c t s l)
  have e0 : win0_1.index t 0 = t.val := congrFun (index_yb t) 0
  have e1 : win0_1.index t 1 = 0 := congrFun (index_yb t) 1
  have e2 : win0_1.index t 2 = 0 := congrFun (index_yb t) 2
  blk_ext [iblk, V]
  all_goals omega

end Cert.KernelIdeal.Own

end
-- ==== Proof.KernelIdealRows.lean ====
/- Under the precondition every packed row that a block asks for is a row of the packed table. -/
module

public import proofs.«01_k».proof.Proof.Words
public import proofs.«01_k».proof.Proof.KernelIdealEntry
public import proofs.«01_k».proof.Defs
public import proofs.«01_k».proof.Proof.Gen.Pre_in_grid

@[expose] public section

set_option maxRecDepth 16384

noncomputable section

namespace Cert.KernelIdeal.Own

open Cert.KernelIdeal Cert.KernelIdeal.Gen
open Idealize.ShloMosaic Idealize.ShloMosaic.TcCoe

variable {F : FTy → Type} [FloatOps F]
variable (m : (ℓ : Loc nD τ sig) → Buf (Elt F) ℓ)

/-- The cell of one coordinate at a level of the given scale. -/
def cellAt (a : F .f32) (sc : BitVec 32) : BitVec 32 :=
  FloatOps.fptosi 32 (FloatOps.addf (FloatOps.mulf a (FloatOps.ofBits .f32 sc)) (FloatOps.ofBits .f32 0x3F000000#32))

theorem icell_apply (x : FVec F S8x128 .f32) (sc : BitVec 32) (j : S8x128.Idx) : icell (fpos x sc) j = cellAt (x j) sc := rfl

/-- One coordinate's cell at a level is one of the level's cells. -/
def InLvl (a : F .f32) (L : Lvl) : Prop := (cellAt a L.sc).toNat ≤ L.r1.toNat

/-- What the precondition says of one coordinate: it lies in `[0, 1)` and each dense level's cell is one of the level's. -/
structure InGrid (a : F .f32) : Prop where
  ge : FloatOps.cmpf .oge a (FloatOps.ofBits .f32 0x00000000#32) = 1#1
  lt : FloatOps.cmpf .olt a (FloatOps.ofBits .f32 0x3F800000#32) = 1#1
  l0 : InLvl a L0
  l1 : InLvl a L1
  l2 : InLvl a L2
  l3 : InLvl a L3
  l4 : InLvl a L4
  l5 : InLvl a L5

theorem and1 {X Y : IVec Cert.Pre_in_grid.S2097152x2 1} {j : Cert.Pre_in_grid.S2097152x2.Idx} (h : andi X Y j = 1#1) :
    X j = 1#1 ∧ Y j = 1#1 := Words.and_one h

open Cert.Pre_in_grid in
/-- The precondition, read at one coordinate. -/
theorem inGrid_of_pre [Cert.Pre_in_grid.Facts] {x : FVec F S2097152x2 .f32} {a1 a2 a3 a4}
    (h : Cert.Pre_in_grid.fn (F := F) x a1 a2 a3 a4 = fun _ => 1#1) (j : S2097152x2.Idx) : InGrid (x j) := by
  have h := congrFun h j
  dsimp only [Cert.Pre_in_grid.fn, Cert.Pre_in_grid.fn_part1, Cert.Pre_in_grid.fn_part2, Cert.Pre_in_grid.fn_part3, Cert.Pre_in_grid.fn_part4] at h
  obtain ⟨h, b5⟩ := and1 h
  obtain ⟨h, a5⟩ := and1 h
  obtain ⟨h, b4⟩ := and1 h
  obtain ⟨h, a4⟩ := and1 h
  obtain ⟨h, b3⟩ := and1 h
  obtain ⟨h, a3⟩ := and1 h
  obtain ⟨h, b2⟩ := and1 h
  obtain ⟨h, a2⟩ := and1 h
  obtain ⟨h, b1⟩ := and1 h
  obtain ⟨h, a1⟩ := and1 h
  obtain ⟨h, b0⟩ := and1 h
  obtain ⟨h, a0⟩ := and1 h
  obtain ⟨hg, hl⟩ := and1 h
  exact ⟨hg, hl, Words.toNat_le_of_sle a0 b0 (by decide), Words.toNat_le_of_sle a1 b1 (by decide), Words.toNat_le_of_sle a2 b2 (by decide),
    Words.toNat_le_of_sle a3 b3 (by decide), Words.toNat_le_of_sle a4 b4 (by decide), Words.toNat_le_of_sle a5 b5 (by decide)⟩

/-! ## One level's rows -/

/-- A dense level's entry, as a number. -/
theorem de_toNat (L : Lvl) {x y : FVec F S8x128 .f32} {j : S8x128.Idx} (hx : InLvl (x j) L) (hy : InLvl (y j) L) {d : BitVec 32}
    (hd : d.toNat ≤ 1) (h1 : L.r1.toNat ≤ 511) (h2 : L.r.toNat ≤ 512) :
    (L.de x y d j).toNat = (cellAt (x j) L.sc).toNat + min ((cellAt (y j) L.sc).toNat + d.toNat) L.r1.toNat * L.r.toNat := by
  have hx : (cellAt (x j) L.sc).toNat ≤ L.r1.toNat := hx
  have hy : (cellAt (y j) L.sc).toNat ≤ L.r1.toNat := hy
  exact Words.dense_toNat (a := cellAt (x j) L.sc) (b := cellAt (y j) L.sc) (hx.trans h1) (hy.trans h1) hd h1 h2

/-- It is one of the level's entries. -/
theorem de_lt (L : Lvl) {x y : FVec F S8x128 .f32} {j : S8x128.Idx} (hx : InLvl (x j) L) (hy : InLvl (y j) L) {d : BitVec 32}
    (hd : d.toNat ≤ 1) (h1 : L.r1.toNat ≤ 511) (h2 : L.r.toNat ≤ 512) (hr : L.r.toNat = L.r1.toNat + 1) :
    (L.de x y d j).toNat < L.r.toNat * L.r.toNat := by
  rw [de_toNat L hx hy hd h1 h2]
  exact Words.dense_lt (by omega) (by have : _ ≤ _ := hx; omega) (by omega)

/-- A dense level's packed row, as a number. -/
theorem drow_toNat {e : IVec S8x128 32} {off : BitVec 32} {j : S8x128.Idx} (he : (e j).toNat < 2 ^ 20) (ho : off.toNat < 2 ^ 20) :
    (drow e off j).toNat = (e j).toNat / 32 + off.toNat := Words.row_toNat .vector (k := 5#32) he (by decide) ho

/-- A hashed level's entry is below the table's size. -/
theorem he_lt (L : Lvl) (x y : FVec F S8x128 .f32) (dx dy : BitVec 32) (j : S8x128.Idx) : (L.he x y dx dy j).toNat < 524288 := by
  have h := Words.hash_toNat (IntOp.xori (IntOp.addi (cellAt (x j) L.sc) dx) (IntOp.muli (IntOp.addi (cellAt (y j) L.sc) dy) 2654435761#32))
  exact lt_of_eq_of_lt h (Nat.mod_lt _ (by decide))

/-- A hashed level's packed row, as a number. -/
theorem hrow_toNat {e : IVec S8x128 32} {off : BitVec 32} {j : S8x128.Idx} (he : (e j).toNat < 2 ^ 20) (ho : off.toNat < 2 ^ 20) :
    (hrow e off j).toNat = (e j).toNat / 64 + off.toNat := Words.row_toNat .vector (k := 6#32) he (by decide) ho

/-- The packed rows of a dense level, row by row. -/
theorem drows_apply (L : Lvl) (x y : FVec F S8x128 .f32) (d : Fin 2) (s : Fin 8) (l : Fin 128) :
    L.drows x y (ix4 0 d s l) = drow (L.de x y (BitVec.ofNat 32 d.val)) L.off (ix2 s l) := by
  unfold Lvl.drows
  pointwise
  fin_vals d with hk <;> simp [hk] <;> pointwise <;> rfl

/-- The packed rows of a hashed level, row by row. -/
theorem hrows_apply (L : Lvl) (x y : FVec F S8x128 .f32) (k : Fin 4) (s : Fin 8) (l : Fin 128) :
    L.hrows x y (ix4 0 k s l) = hrow (L.he x y (BitVec.ofNat 32 (k.val / 2)) (BitVec.ofNat 32 (k.val % 2))) L.off (ix2 s l) := by
  unfold Lvl.hrows
  pointwise
  fin_vals k with hk <;> simp [hk] <;> pointwise <;> rfl

theorem drows_lt (L : Lvl) {x y : FVec F S8x128 .f32} (hx : ∀ j, InLvl (x j) L) (hy : ∀ j, InLvl (y j) L)
    (h1 : L.r1.toNat ≤ 511) (h2 : L.r.toNat ≤ 512) (hr : L.r.toNat = L.r1.toNat + 1)
    (ho : L.off.toNat + L.r.toNat * L.r.toNat / 32 < 92840) (j) : (L.drows x y j).toNat < 92840 := by
  idx_vars j
  obtain rfl : j0 = 0 := Subsingleton.elim _ _
  have hd :  (BitVec.ofNat 32 j1.val).toNat ≤ 1 := by rw [BitVec.toNat_ofNat]; omega
  have he := de_lt L (hx (ix2 j2 j3)) (hy (ix2 j2 j3)) hd h1 h2 hr
  have hrr := Nat.mul_le_mul h2 h2
  rw [drows_apply, drow_toNat (by omega) (by omega)]
  omega

theorem hrows_lt (L : Lvl) (x y : FVec F S8x128 .f32) (ho : L.off.toNat ≤ 84648) (j) : (L.hrows x y j).toNat < 92840 := by
  idx_vars j
  obtain rfl : j0 = 0 := Subsingleton.elim _ _
  have he := he_lt L x y (BitVec.ofNat 32 (j1.val / 2)) (BitVec.ofNat 32 (j1.val % 2)) (ix2 j2 j3)
  rw [hrows_apply, hrow_toNat (by omega) (by omega)]
  omega

/-! ## Every level's -/

theorem inTab {x y : FVec F S8x128 .f32} (hx : ∀ j, InGrid (x j)) (hy : ∀ j, InGrid (y j)) : InTab x y :=
  ⟨⟨drows_lt L0 (fun j => (hx j).l0) (fun j => (hy j).l0) (by decide) (by decide) (by decide) (by decide),
    drows_lt L1 (fun j => (hx j).l1) (fun j => (hy j).l1) (by decide) (by decide) (by decide) (by decide),
    drows_lt L2 (fun j => (hx j).l2) (fun j => (hy j).l2) (by decide) (by decide) (by decide) (by decide),
    drows_lt L3 (fun j => (hx j).l3) (fun j => (hy j).l3) (by decide) (by decide) (by decide) (by decide),
    drows_lt L4 (fun j => (hx j).l4) (fun j => (hy j).l4) (by decide) (by decide) (by decide) (by decide),
    drows_lt L5 (fun j => (hx j).l5) (fun j => (hy j).l5) (by decide) (by decide) (by decide) (by decide)⟩,
   hrows_lt L6 x y (by decide), hrows_lt L7 x y (by decide), hrows_lt L8 x y (by decide), hrows_lt L9 x y (by decide),
   hrows_lt L10 x y (by decide), hrows_lt L11 x y (by decide), hrows_lt L12 x y (by decide), hrows_lt L13 x y (by decide),
   hrows_lt L14 x y (by decide), hrows_lt L15 x y (by decide)⟩

/-- A block without its leading axis. -/
theorem dropUnit (v : FVec F S1x8x128 .f32) (s : Fin 8) (l : Fin 128) :
    (shapeCast S8x128 v shapeCasts_S1x8x128_S8x128 : FVec F S8x128 .f32) (ix2 s l) = v (ix3 0 s l) := by
  pointwise

/-- A block's coordinates, without the leading axis. -/
def xs (c : Dev nD) (t : Fin 2048) : FVec F S8x128 .f32 := shapeCast S8x128 (iblk m c 0 t) shapeCasts_S1x8x128_S8x128
def ys (c : Dev nD) (t : Fin 2048) : FVec F S8x128 .f32 := shapeCast S8x128 (iblk m c 1 t) shapeCasts_S1x8x128_S8x128

theorem xs_apply (c : Dev nD) (t : Fin 2048) (s : Fin 8) (l : Fin 128) :
    xs m c t (ix2 s l) = m ((c : Thread nD τ).loc main_arg0) (ix2 (pt t s l) 0) :=
  (dropUnit _ s l).trans (iblk_xb m c t s l)
theorem ys_apply (c : Dev nD) (t : Fin 2048) (s : Fin 8) (l : Fin 128) :
    ys m c t (ix2 s l) = m ((c : Thread nD τ).loc main_arg0) (ix2 (pt t s l) 1) :=
  (dropUnit _ s l).trans (iblk_yb m c t s l)

/-- Every block's coordinates are in the grid. -/
theorem xs_in (h : ∀ (c : Dev nD) (j : S2097152x2.Idx), InGrid (F := F) (m ((c : Thread nD τ).loc main_arg0) j)) (c : Dev nD) (t : Fin 2048)
    (j : S8x128.Idx) : InGrid (xs m c t j) := by
  idx_vars j; rw [xs_apply]; exact h c _
theorem ys_in (h : ∀ (c : Dev nD) (j : S2097152x2.Idx), InGrid (F := F) (m ((c : Thread nD τ).loc main_arg0) j)) (c : Dev nD) (t : Fin 2048)
    (j : S8x128.Idx) : InGrid (ys m c t j) := by
  idx_vars j; rw [ys_apply]; exact h c _

/-- Every block's rows are rows of the packed table. -/
theorem good (h : ∀ (c : Dev nD) (j : S2097152x2.Idx), InGrid (F := F) (m ((c : Thread nD τ).loc main_arg0) j)) : Good m := fun c t =>
  inTab (x := xs m c t) (y := ys m c t) (xs_in m h c t) (ys_in m h c t)

end Cert.KernelIdeal.Own

end
-- ==== Proof.KernelIdealBodyEq.lean ====
/- The printed body is the body written level by level. -/
module

public import proofs.«01_k».proof.Proof.KernelIdealBody
public import Idealize.ShloMosaic.PureOps.Ideal

@[expose] public section

noncomputable section

namespace Cert.KernelIdeal.Own

open Idealize.ShloMosaic Idealize.SL.Sem
open scoped Idealize.ShloMosaic.ProgEq
open Cert.KernelIdeal Cert.KernelIdeal.Gen

set_option maxHeartbeats 0 in
set_option maxRecDepth 20000 in
prog_eq Cert.KernelIdeal.Own.skel_eq : Cert.KernelIdeal.Gen.cc0_tiny_inr_fused_skel Cert.KernelIdeal.Own.body from Cert.KernelIdeal to Cert.KernelIdeal at Ideal inferInstance by intros; rfl

end Cert.KernelIdeal.Own

end
-- ==== Proof.Frames.lean ====
/- The three frames: each program ends, leaves its arguments as they were and every semaphore counter at zero. -/
module

public import proofs.«01_k».proof.Defs
public import proofs.«01_k».proof.Proof.KernelRows
public import proofs.«01_k».proof.Proof.KernelBodyEq
public import proofs.«01_k».proof.Proof.KernelIdealRows
public import proofs.«01_k».proof.Proof.KernelIdealBodyEq
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_grid.Facts := Cert.Pre_in_grid.Gen.facts

/-- Under the precondition every coordinate of the kernel's argument is in the grid. -/
theorem inGrid_kernel {m} (h : Pre_Kernel m) (c : Dev Cert.Kernel.nD) (j) :
    Cert.Kernel.Own.InGrid (F := Bits) (m ((c : Thread Cert.Kernel.nD Cert.Kernel.τ).loc Cert.Kernel.main_arg0) j) :=
  Cert.Kernel.Own.inGrid_of_pre (h c) j

/-- The same of the ideal program's. -/
theorem inGrid_kernelIdeal {m} (h : Pre_KernelIdeal m) (c : Dev Cert.KernelIdeal.nD) (j) :
    Cert.KernelIdeal.Own.InGrid (F := Ideal) (m ((c : Thread Cert.KernelIdeal.nD Cert.KernelIdeal.τ).loc Cert.KernelIdeal.main_arg0) j) :=
  Cert.KernelIdeal.Own.inGrid_of_pre (h c) j

/-- The printed body is the body written level by level, as one program. -/
theorem kernel_body : Cert.Kernel.Gen.cc0_tiny_inr_fused_skel (F := Bits) = Cert.Kernel.Own.body := by
  funext i a1 h1 a2 h2 a3 h3 a4 h4 a5 h5 a6 h6 a7 h7 a8 h8 a9 h9 a10 h10 a11 h11 a12
  exact Cert.Kernel.Own.skel_eq ..
theorem kernelIdeal_body : Cert.KernelIdeal.Gen.cc0_tiny_inr_fused_skel (F := Ideal) = Cert.KernelIdeal.Own.body := by
  funext i a1 h1 a2 h2 a3 h3 a4 h4 a5 h5 a6 h6 a7 h7 a8 h8 a9 h9 a10 h10 a11 h11 a12
  exact Cert.KernelIdeal.Own.skel_eq ..

/-- The kernel's frame. -/
theorem kernel : quiescent_Kernel := fun m g h =>
  Cert.Kernel.Own.frame_run m g kernel_body (Cert.Kernel.Own.good m (inGrid_kernel h))

/-- The ideal program's frame. -/
theorem kernelIdeal : quiescent_KernelIdeal := fun m g h =>
  Cert.KernelIdeal.Own.frame_run m g kernelIdeal_body (Cert.KernelIdeal.Own.good m (inGrid_kernelIdeal h))

/-- The reference's frame: it runs host operations only and has no semaphore. -/
theorem reference : quiescent_ReferenceIdeal := fun m g _ =>
  (θ_run Cert.ReferenceIdeal.defs _ _).mono (fun r h => ⟨fun c => (h c).2, sem_eq_zero_of_no_sems rfl _⟩)
    (Cert.ReferenceIdeal.Value.run m g)

/-- The same where the precondition holds. -/
theorem reference_in_grid : quiescent_ReferenceIdeal_pre_in_grid := fun m g _ => reference m g trivial

end Cert.Frames

end
-- ==== Proof.Cell.lean ====
/- A coordinate's cell at the extended reals: for a coordinate in `[0, 1)` the conversion to an integer is the floor, and
   the place inside the cell is the position minus its floor. -/
module

public import proofs.«01_k».proof.Proof.KernelIdealRows

@[expose] public section

noncomputable section

namespace Cert.Cell

open Idealize.ShloMosaic Cert.KernelIdeal.Own

/-- A coordinate's position at a level. -/
def posAt (a : EReal) (sc : BitVec 32) : EReal := a * Ideal.ofBits .f32 sc + Ideal.ofBits .f32 0x3F000000#32

theorem half_val : Ideal.ofBits .f32 0x3F000000#32 = ((1 / 2 : ℝ) : EReal) := by
  simp [Ideal.ofBits, Ideal.ieee]
  rw [← EReal.coe_mul]
  norm_num

/-- A position that is a real number of the signed words' range. -/
def Real31 (p : EReal) : Prop := ∃ q : ℝ, p = (q : EReal) ∧ 0 ≤ q ∧ q < 2 ^ 31 - 1

theorem floor_word {p : EReal} (h : Real31 p) : Ideal.fptosi 32 (Ideal.liftRound Int.floor p) = Ideal.fptosi 32 p := by
  obtain ⟨q, rfl, h0, h1⟩ := h
  have hf : (0 : ℝ) ≤ (⌊q⌋ : ℝ) := by exact_mod_cast Int.floor_nonneg.mpr h0
  show BitVec.ofInt 32 (max _ (min _ (if (0 : ℝ) ≤ ((⌊q⌋ : ℤ) : ℝ) then ⌊((⌊q⌋ : ℤ) : ℝ)⌋ else _))) = BitVec.ofInt 32 (max _ (min _ (if (0 : ℝ) ≤ q then ⌊q⌋ else _)))
  rw [if_pos hf, if_pos h0, Int.floor_intCast]

theorem floor_val {p : EReal} (h : Real31 p) : Ideal.liftRound Int.floor p = (((Ideal.fptosi 32 p).toInt : ℝ) : EReal) := by
  obtain ⟨q, rfl, h0, h1⟩ := h
  have hf : (0 : ℤ) ≤ ⌊q⌋ := Int.floor_nonneg.mpr h0
  have hu : ⌊q⌋ < 2 ^ 31 - 1 := Int.floor_lt.mpr (by push_cast; norm_num at h1 ⊢; exact h1)
  have e : Ideal.fptosi 32 (q : EReal) = BitVec.ofInt 32 ⌊q⌋ := by
    show BitVec.ofInt 32 (max _ (min _ (if (0 : ℝ) ≤ q then ⌊q⌋ else _))) = _
    rw [if_pos h0]
    congr 1
    omega
  rw [e, BitVec.toInt_ofInt]
  show ((⌊q⌋ : ℝ) : EReal) = _
  congr 2
  rw [Int.bmod_eq_of_le] <;> omega

/-- A level's scale is a whole number below `2 ^ 20`. -/
def Scale (sc : BitVec 32) : Prop := ∃ n : ℕ, Ideal.ofBits .f32 sc = ((n : ℝ) : EReal) ∧ n ≤ 2 ^ 20

theorem pos_real {a : EReal} {sc : BitVec 32} (h : Scale sc) (h0 : 0 ≤ a) (h1 : a < 1) : Real31 (posAt a sc) := by
  obtain ⟨n, hn, n1⟩ := h
  induction a with
  | bot => exact absurd h0 (by simp)
  | top => exact absurd h1 (by simp)
  | coe r =>
    have r0 : 0 ≤ r := by exact_mod_cast h0
    have r1 : r < 1 := by exact_mod_cast h1
    have n0 : (0 : ℝ) ≤ (n : ℝ) := Nat.cast_nonneg n
    have n2 : (n : ℝ) ≤ 2 ^ 20 := by exact_mod_cast n1
    refine ⟨r * n + 1 / 2, ?_, by positivity, by nlinarith⟩
    rw [posAt, hn, half_val]
    push_cast
    rfl

/-- The sixteen levels. -/
def lvls : Fin 16 → Lvl := ![L0, L1, L2, L3, L4, L5, L6, L7, L8, L9, L10, L11, L12, L13, L14, L15]

theorem scale_small : ∀ l, (lvls l).r1.toNat ≤ 2 ^ 20 := by decide

theorem scale_val : ∀ l, Ideal.ofBits .f32 (lvls l).sc = (((lvls l).r1.toNat : ℝ) : EReal) := by
  simp only [Fin.forall_fin_succ, Fin.forall_fin_zero_pi]
  refine ⟨?_, ?_, ?_, ?_, ?_, ?_, ?_, ?_, ?_, ?_, ?_, ?_, ?_, ?_, ?_, ?_, fun l => l.elim0⟩ <;>
    (simp [lvls, L0, L1, L2, L3, L4, L5, L6, L7, L8, L9, L10, L11, L12, L13, L14, L15, Ideal.ofBits, Ideal.ieee]; rw [← EReal.coe_mul]; congr 1; norm_num)

theorem scales (l : Fin 16) : Scale (lvls l).sc := ⟨_, scale_val l, scale_small l⟩

end Cert.Cell

end
-- ==== Proof.KernelIdealArrays.lean ====
/- What the packed table and the weights hold when the launch begins, in terms of the arguments. -/
module

public import proofs.«01_k».proof.Proof.KernelIdealEntry
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

variable (m : (ℓ : Loc nD τ sig) → Buf (Elt Ideal) ℓ)

/-! ## The weights -/

/-- The weights' arguments. -/
abbrev wIn (c : Dev nD) : S32x128.Idx → EReal := m ((c : Thread nD τ).loc main_arg2)
abbrev wHid (c : Dev nD) : S7x128x128.Idx → EReal := m ((c : Thread nD τ).loc main_arg3)
abbrev wOut (c : Dev nD) : S128x3.Idx → EReal := m ((c : Thread nD τ).loc main_arg4)

/-- The identity's entries. -/
def eye (s s' : Fin 8) : EReal := Ideal.ofBits .f32 (lit0 (S8x8.rowMajor (ix2 s s')))

theorem one_val : Ideal.ofBits .f32 0x3F800000#32 = 1 := by
  simp [Ideal.ofBits, Ideal.ieee]
  rw [← EReal.coe_mul]
  norm_num
theorem zero_val : Ideal.ofBits .f32 0#32 = 0 := by simp [Ideal.ofBits, Ideal.ieee]

theorem eye_apply : ∀ s s' : Fin 8, eye s s' = if s = s' then 1 else 0 := by
  have h : ∀ s s' : Fin 8, lit0 (S8x8.rowMajor (ix2 s s')) = if s = s' then 0x3F800000#32 else 0#32 := by decide +kernel
  intro s s'
  rw [eye, h]
  split
  · exact one_val
  · exact zero_val

/-- The spread first layer: the layer's row `k / 8` times the identity's entry. -/
theorem V_w8 (c : Dev nD) (s : Fin 8) (k : Fin 256) (j : Fin 128) :
    V m c main_v95 (ix3 s k j) = wIn m c (ix2 ⟨k.val / 8, by omega⟩ j) * eye s ⟨k.val % 8, by omega⟩ := by
  show StableHlo.after _ _ _ _ = _
  after_reads_at
  rfl
theorem V_wh (c : Dev nD) (s : Fin 7) (k j : Fin 128) :
    V m c main_v96 (ix3 s k j) = wHid m c (ix3 s k j) := by
  show StableHlo.after _ _ _ _ = _
  after_reads_at
theorem V_wo (c : Dev nD) (k : Fin 128) (j : Fin 3) :
    V m c main_v98 (ix2 k ⟨j.val, by omega⟩) = wOut m c (ix2 k j) := by
  show StableHlo.after _ _ _ _ = _
  after_reads_at

/-! ## The packed table -/

/-- A buffer's contents before the pieces are laid end to end. -/
abbrev U (c : Dev nD) (b : Ref sig .tc) :=
  StableHlo.upto (List.flatten [hostOps0, hostOps0_1, hostOps0_2, hostOps0_3, hostOps0_4]) (fun b => m (c, b)) 79 (Proc.devRef .tc b)

/-- The sixteen levels' pieces. -/
abbrev pieces (c : Dev nD) : List ((s : Shape) × (s.Idx → EReal)) :=
  [⟨S8x128, U m c main_v7⟩, ⟨S32x128, U m c main_v15⟩, ⟨S128x128, U m c main_v23⟩, ⟨S512x128, U m c main_v31⟩,
   ⟨S2048x128, U m c main_v39⟩, ⟨S8192x128, U m c main_v47⟩, ⟨S8192x128, U m c main_v50⟩, ⟨S8192x128, U m c main_v53⟩,
   ⟨S8192x128, U m c main_v56⟩, ⟨S8192x128, U m c main_v59⟩, ⟨S8192x128, U m c main_v62⟩, ⟨S8192x128, U m c main_v65⟩,
   ⟨S8192x128, U m c main_v68⟩, ⟨S8192x128, U m c main_v71⟩, ⟨S8192x128, U m c main_v74⟩, ⟨S8192x128, U m c main_v77⟩]

/-- The packed table. -/
def cat (c : Dev nD) : FVec Ideal S92840x128 .f32 := concatenate S92840x128 0 (pieces m c)
  concatenates_S8x128_S32x128_S128x128_S512x128_S2048x128_S8192x128_S8192x128_S8192x128_S8192x128_S8192x128_S8192x128_S8192x128_S8192x128_S8192x128_S8192x128_S8192x128_S92840x128_d0

theorem V_cat (c : Dev nD) : V m c main_v80 = shapeCast S92840x1x128 (pad S92840x128 ![0, 0] ![0, 0] ![0, 0] (cat m c)
   (sitofp .f32 (constantI S_ 32 0#32) : FVec Ideal S_ .f32) pads_S92840x128_S92840x128_000_000 h_S_) shapeCasts_S92840x128_S92840x1x128 := by
  show StableHlo.after _ _ _ = _
  after_reads_simp
  rfl
theorem V_tab (c : Dev nD) (r : Fin 92840) (k : Fin 128) : V m c main_v80 (ix3 r 0 k) = cat m c (ix2 r k) := by
  rw [V_cat]
  pointwise

/-- The pieces' shapes. -/
abbrev shapes : List Shape :=
  [S8x128, S32x128, S128x128, S512x128, S2048x128, S8192x128, S8192x128, S8192x128, S8192x128, S8192x128, S8192x128, S8192x128, S8192x128,
   S8192x128, S8192x128, S8192x128]
/-- A shape's number of rows. -/
abbrev rowsOf (s : Shape) : ℕ := if h : s.rank = S92840x128.rank then s.size ((0 : Fin S92840x128.rank).cast h.symm) else 0
theorem map_pieces (c : Dev nD) : (pieces m c).map (·.1) = shapes := rfl

/-- A row of the packed table is a row of the piece that holds it. -/
theorem cat_piece (c : Dev nD) (i n pre : ℕ) (hi : i < (pieces m c).length) (x : (⟨2, ![n, 128]⟩ : Shape).Idx → EReal)
    (hx : (pieces m c)[i] = ⟨⟨2, ![n, 128]⟩, x⟩)
    (hpre : ((shapes.take i).map rowsOf).sum = pre)
    (r : Fin n) (k : Fin 128) (h : pre + r.val < 92840) : cat m c (ix2 ⟨pre + r.val, h⟩ k) = x (ix2 r k) :=
  concatenate_apply_piece (0 : Fin S92840x128.rank) (pieces m c) _ (ix2 ⟨pre + r.val, h⟩ k) i hi ⟨2, ![n, 128]⟩ x hx rfl pre
    (by rw [List.map_take, map_pieces]; exact hpre) (ix2 r k)
    (fun b hb => by match b with
      | ⟨0, _⟩ => exact absurd rfl hb
      | ⟨1, _⟩ => rfl) rfl

/-- A table's entry by numbers. -/
def ent (T : S16x524288x2.Idx → EReal) (l : Fin 16) (e : ℕ) (p : Fin 2) : EReal := T (ix3 l ⟨e % 524288, Nat.mod_lt _ (by decide)⟩ p)
/-- An element of the packed table by numbers. -/
def catN (c : Dev nD) (r k : ℕ) : EReal := cat m c (ix2 ⟨r % 92840, Nat.mod_lt _ (by decide)⟩ ⟨k % 128, Nat.mod_lt _ (by decide)⟩)

/-- A table's entry to the right, the last of a row its own. -/
def right (R e : ℕ) : ℕ := if e % R + 1 < R then e + 1 else e

/-- The table argument. -/
abbrev tabA (c : Dev nD) : S16x524288x2.Idx → EReal := m ((c : Thread nD τ).loc main_arg1)

/-- A dense level's piece: four lanes to an entry, the entry's two values and its right neighbour's two. -/
def DenseP (T : S16x524288x2.Idx → EReal) (l : Fin 16) (R n : ℕ) (x : (⟨2, ![n, 128]⟩ : Shape).Idx → EReal) : Prop :=
  ∀ (r : Fin n) (k : Fin 128), x (ix2 r k) = if k.val % 4 < 2 then ent T l ((r.val * 128 + k.val) / 4) ⟨k.val % 2, Nat.mod_lt _ (by decide)⟩
    else ent T l (right R ((r.val * 128 + k.val) / 4)) ⟨k.val % 2, Nat.mod_lt _ (by decide)⟩
/-- A hashed level's piece: two lanes to an entry. -/
def HashP (T : S16x524288x2.Idx → EReal) (l : Fin 16) (n : ℕ) (x : (⟨2, ![n, 128]⟩ : Shape).Idx → EReal) : Prop :=
  ∀ (r : Fin n) (k : Fin 128), x (ix2 r k) = ent T l ((r.val * 128 + k.val) / 2) ⟨k.val % 2, Nat.mod_lt _ (by decide)⟩

theorem hash_pieces (c : Dev nD) : HashP (tabA m c) 6 8192 (U m c main_v50) ∧ HashP (tabA m c) 7 8192 (U m c main_v53)
    ∧ HashP (tabA m c) 8 8192 (U m c main_v56) ∧ HashP (tabA m c) 9 8192 (U m c main_v59) ∧ HashP (tabA m c) 10 8192 (U m c main_v62)
    ∧ HashP (tabA m c) 11 8192 (U m c main_v65) ∧ HashP (tabA m c) 12 8192 (U m c main_v68) ∧ HashP (tabA m c) 13 8192 (U m c main_v71)
    ∧ HashP (tabA m c) 14 8192 (U m c main_v74) ∧ HashP (tabA m c) 15 8192 (U m c main_v77) := by
  refine ⟨?_, ?_, ?_, ?_, ?_, ?_, ?_, ?_, ?_, ?_⟩ <;> intro r k <;> after_reads_at <;> refine congrArg (tabA m c) ?_ <;>
    exact congrArg₂ (ix3 _) (Fin.ext (by show r.val * 64 + k.val / 2 = (r.val * 128 + k.val) / 2 % 524288; omega)) rfl

/-! ## The dense pieces -/

/-- The first entries of a level as a square of `R`. -/
def Square (T : S16x524288x2.Idx → EReal) (l : Fin 16) (R : ℕ) (x : (⟨3, ![R, R, 2]⟩ : Shape).Idx → EReal) : Prop :=
  ∀ (a b : Fin R) (q : Fin 2), x (ix3 a b q) = ent T l (a.val * R + b.val) q
/-- The square's entries but the first of each row. -/
def Shifted (T : S16x524288x2.Idx → EReal) (l : Fin 16) (R R' : ℕ) (x : (⟨3, ![R, R', 2]⟩ : Shape).Idx → EReal) : Prop :=
  ∀ (a : Fin R) (b : Fin R') (q : Fin 2), x (ix3 a b q) = ent T l (a.val * R + (b.val + 1)) q
/-- The last entry of each row. -/
def Last (T : S16x524288x2.Idx → EReal) (l : Fin 16) (R R' : ℕ) (x : (⟨3, ![R, 1, 2]⟩ : Shape).Idx → EReal) : Prop :=
  ∀ (a : Fin R) (q : Fin 2), x (ix3 a 0 q) = ent T l (a.val * R + R') q
/-- The right neighbours. -/
def Rights (T : S16x524288x2.Idx → EReal) (l : Fin 16) (R : ℕ) (x : (⟨3, ![R, R, 2]⟩ : Shape).Idx → EReal) : Prop :=
  ∀ (a b : Fin R) (q : Fin 2), x (ix3 a b q) = ent T l (right R (a.val * R + b.val)) q

variable {T : S16x524288x2.Idx → EReal} {l : Fin 16} {R R' n : ℕ}

theorem right_at (a b : ℕ) (hb : b < R) : right R (a * R + b) = if b + 1 < R then a * R + b + 1 else a * R + b := by
  unfold right
  rw [Nat.add_comm (a * R) b, Nat.add_mul_mod_self_right, Nat.mod_eq_of_lt hb]

/-- Shifted rows followed by their last entries are the right neighbours. -/
theorem rights_of {x : (⟨3, ![R, R', 2]⟩ : Shape).Idx → EReal} {y : (⟨3, ![R, 1, 2]⟩ : Shape).Idx → EReal}
    (hR : R' + 1 = R) (hx : Shifted T l R R' x) (hy : Last T l R R' y)
    (h : Shape.Concatenates [⟨3, ![R, R', 2]⟩, ⟨3, ![R, 1, 2]⟩] ⟨3, ![R, R, 2]⟩ 1) :
    Rights T l R (concatenate (⟨3, ![R, R, 2]⟩ : Shape) 1 [⟨⟨3, ![R, R', 2]⟩, x⟩, ⟨⟨3, ![R, 1, 2]⟩, y⟩] h) := by
  intro a b q
  have hb := b.isLt
  by_cases hlt : b.val < R'
  · rw [concatenate_pair_apply_left (1 : Fin 3) x y h (ix3 a b q) rfl (ix3 a ⟨b.val, hlt⟩ q)
      (fun i => by match i with | ⟨0, _⟩ => rfl | ⟨1, _⟩ => rfl | ⟨2, _⟩ => rfl), hx, right_at _ _ hb, if_pos (by omega)]
    rfl
  · have e : b.val = R' := by omega
    rw [concatenate_pair_apply_right (1 : Fin 3) x y h (ix3 a b q) rfl rfl (ix3 a 0 q)
      (fun i hi => by match i with | ⟨0, _⟩ => rfl | ⟨1, _⟩ => exact absurd rfl hi | ⟨2, _⟩ => rfl)
      (by show 0 + R' = b.val; omega), hy, right_at _ _ hb, if_neg (by omega), e]

/-- A square and its right neighbours side by side, laid out in rows of 128, are a dense level's piece. -/
theorem dense_of {x z : (⟨3, ![R, R, 2]⟩ : Shape).Idx → EReal} (hR : 0 < R) (hn : n * 128 = R * R * 4)
    (hx : Square T l R x) (hz : Rights T l R z)
    (h : Shape.Concatenates [⟨3, ![R, R, 2]⟩, ⟨3, ![R, R, 2]⟩] ⟨3, ![R, R, 4]⟩ 2) (hs) :
    DenseP T l R n (shapeCast (⟨2, ![n, 128]⟩ : Shape) (concatenate (⟨3, ![R, R, 4]⟩ : Shape) 2 [⟨⟨3, ![R, R, 2]⟩, x⟩, ⟨⟨3, ![R, R, 2]⟩, z⟩] h) hs) := by
  intro r k
  have hr := r.isLt
  have hk := k.isLt
  have he : (r.val * 128 + k.val) / 4 < R * R := by
    have : r.val * 128 + k.val < n * 128 := by omega
    omega
  have ha : (r.val * 128 + k.val) / 4 / R < R := Nat.div_lt_of_lt_mul he
  have hb : (r.val * 128 + k.val) / 4 % R < R := Nat.mod_lt _ hR
  have hc : (r.val * 128 + k.val) / 4 / R * R + (r.val * 128 + k.val) / 4 % R = (r.val * 128 + k.val) / 4 := by
    rw [Nat.mul_comm]; exact Nat.div_add_mod _ _
  generalize hA : (r.val * 128 + k.val) / 4 / R = A at ha hc
  generalize hB : (r.val * 128 + k.val) / 4 % R = B at hb hc
  rw [shapeCast_apply _ hs (ix2 r k) (ix3 ⟨A, ha⟩ ⟨B, hb⟩ ⟨k.val % 4, Nat.mod_lt _ (by decide)⟩) (by
    rw [rowMajor_val2 (ix2 r k) 128 rfl, rowMajor_val3 (ix3 _ _ _) (R * 4) 4 rfl rfl]
    show A * (R * 4) + B * 4 + k.val % 4 = r.val * 128 + k.val
    have : A * (R * 4) = A * R * 4 := by rw [Nat.mul_assoc]
    omega)]
  by_cases hlt : k.val % 4 < 2
  · rw [if_pos hlt, concatenate_pair_apply_left (t := ⟨3, ![R, R, 4]⟩) (2 : Fin 3) x z h
      (ix3 ⟨A, ha⟩ ⟨B, hb⟩ ⟨k.val % 4, Nat.mod_lt _ (by decide)⟩) rfl (ix3 ⟨A, ha⟩ ⟨B, hb⟩ ⟨k.val % 2, Nat.mod_lt _ (by decide)⟩)
      (fun i => by match i with | ⟨0, _⟩ => rfl | ⟨1, _⟩ => rfl | ⟨2, _⟩ => show k.val % 2 = k.val % 4; omega), hx]
    rw [← hc]
  · rw [if_neg hlt, concatenate_pair_apply_right (t := ⟨3, ![R, R, 4]⟩) (2 : Fin 3) x z h
      (ix3 ⟨A, ha⟩ ⟨B, hb⟩ ⟨k.val % 4, Nat.mod_lt _ (by decide)⟩) rfl rfl (ix3 ⟨A, ha⟩ ⟨B, hb⟩ ⟨k.val % 2, Nat.mod_lt _ (by decide)⟩)
      (fun i hi => by match i with | ⟨0, _⟩ => rfl | ⟨1, _⟩ => rfl | ⟨2, _⟩ => exact absurd rfl hi)
      (by show k.val % 2 + 2 = k.val % 4; omega), hz]
    rw [← hc]

/-- A buffer's contents after the first `k` operations. -/
abbrev At (c : Dev nD) (k : ℕ) (b : Ref sig .tc) :=
  StableHlo.upto (List.flatten [hostOps0, hostOps0_1, hostOps0_2, hostOps0_3, hostOps0_4]) (fun b => m (c, b)) k (Proc.devRef .tc b)

theorem squares (c : Dev nD) : Square (tabA m c) 0 16 (At m c 7 main_v2) ∧ Square (tabA m c) 1 32 (At m c 15 main_v10)
    ∧ Square (tabA m c) 2 64 (At m c 23 main_v18) ∧ Square (tabA m c) 3 128 (At m c 31 main_v26)
    ∧ Square (tabA m c) 4 256 (At m c 39 main_v34) ∧ Square (tabA m c) 5 512 (At m c 47 main_v42) := by
  refine ⟨?_, ?_, ?_, ?_, ?_, ?_⟩ <;> intro a b q <;> after_reads_at <;> refine congrArg (tabA m c) ?_ <;>
    exact congrFun (congrArg (ix3 _) (Fin.ext (Nat.mod_eq_of_lt (by omega)).symm)) q

theorem shifteds (c : Dev nD) : Shifted (tabA m c) 0 16 15 (At m c 6 main_v3)
    ∧ Shifted (tabA m c) 1 32 31 (At m c 14 main_v11)
    ∧ Shifted (tabA m c) 2 64 63 (At m c 22 main_v19)
    ∧ Shifted (tabA m c) 3 128 127 (At m c 30 main_v27)
    ∧ Shifted (tabA m c) 4 256 255 (At m c 38 main_v35)
    ∧ Shifted (tabA m c) 5 512 511 (At m c 46 main_v43) := by
  refine ⟨?_, ?_, ?_, ?_, ?_, ?_⟩ <;> intro a b q <;> after_reads_at <;> refine congrArg (tabA m c) ?_ <;>
    exact congrFun (congrArg (ix3 _) (Fin.ext (((Nat.mod_eq_of_lt (by omega)).trans (by dsimp only <;> omega)).symm))) q

theorem lasts (c : Dev nD) : Last (tabA m c) 0 16 15 (At m c 6 main_v4)
    ∧ Last (tabA m c) 1 32 31 (At m c 14 main_v12)
    ∧ Last (tabA m c) 2 64 63 (At m c 22 main_v20)
    ∧ Last (tabA m c) 3 128 127 (At m c 30 main_v28)
    ∧ Last (tabA m c) 4 256 255 (At m c 38 main_v36)
    ∧ Last (tabA m c) 5 512 511 (At m c 46 main_v44) := by
  refine ⟨?_, ?_, ?_, ?_, ?_, ?_⟩ <;> intro a q <;> after_reads_at <;> refine congrArg (tabA m c) ?_ <;>
    exact congrFun (congrArg (ix3 _) (Fin.ext (((Nat.mod_eq_of_lt (by omega)).trans (by dsimp only <;> omega)).symm))) q

theorem right_reads (c : Dev nD) : At m c 7 main_v5 = concatenate S16x16x2 1 [⟨S16x15x2, At m c 6 main_v3⟩, ⟨S16x1x2, At m c 6 main_v4⟩] concatenates_S16x15x2_S16x1x2_S16x16x2_d1
    ∧ At m c 15 main_v13 = concatenate S32x32x2 1 [⟨S32x31x2, At m c 14 main_v11⟩, ⟨S32x1x2, At m c 14 main_v12⟩] concatenates_S32x31x2_S32x1x2_S32x32x2_d1
    ∧ At m c 23 main_v21 = concatenate S64x64x2 1 [⟨S64x63x2, At m c 22 main_v19⟩, ⟨S64x1x2, At m c 22 main_v20⟩] concatenates_S64x63x2_S64x1x2_S64x64x2_d1
    ∧ At m c 31 main_v29 = concatenate S128x128x2 1 [⟨S128x127x2, At m c 30 main_v27⟩, ⟨S128x1x2, At m c 30 main_v28⟩] concatenates_S128x127x2_S128x1x2_S128x128x2_d1
    ∧ At m c 39 main_v37 = concatenate S256x256x2 1 [⟨S256x255x2, At m c 38 main_v35⟩, ⟨S256x1x2, At m c 38 main_v36⟩] concatenates_S256x255x2_S256x1x2_S256x256x2_d1
    ∧ At m c 47 main_v45 = concatenate S512x512x2 1 [⟨S512x511x2, At m c 46 main_v43⟩, ⟨S512x1x2, At m c 46 main_v44⟩] concatenates_S512x511x2_S512x1x2_S512x512x2_d1 := by
  refine ⟨?_, ?_, ?_, ?_, ?_, ?_⟩ <;> after_reads_simp <;> rfl

theorem piece_reads (c : Dev nD) : U m c main_v7 = shapeCast S8x128 (concatenate S16x16x4 2 [⟨S16x16x2, At m c 7 main_v2⟩, ⟨S16x16x2, At m c 7 main_v5⟩]
      concatenates_S16x16x2_S16x16x2_S16x16x4_d2) shapeCasts_S16x16x4_S8x128
    ∧ U m c main_v15 = shapeCast S32x128 (concatenate S32x32x4 2 [⟨S32x32x2, At m c 15 main_v10⟩, ⟨S32x32x2, At m c 15 main_v13⟩]
      concatenates_S32x32x2_S32x32x2_S32x32x4_d2) shapeCasts_S32x32x4_S32x128
    ∧ U m c main_v23 = shapeCast S128x128 (concatenate S64x64x4 2 [⟨S64x64x2, At m c 23 main_v18⟩, ⟨S64x64x2, At m c 23 main_v21⟩]
      concatenates_S64x64x2_S64x64x2_S64x64x4_d2) shapeCasts_S64x64x4_S128x128
    ∧ U m c main_v31 = shapeCast S512x128 (concatenate S128x128x4 2 [⟨S128x128x2, At m c 31 main_v26⟩, ⟨S128x128x2, At m c 31 main_v29⟩]
      concatenates_S128x128x2_S128x128x2_S128x128x4_d2) shapeCasts_S128x128x4_S512x128
    ∧ U m c main_v39 = shapeCast S2048x128 (concatenate S256x256x4 2 [⟨S256x256x2, At m c 39 main_v34⟩, ⟨S256x256x2, At m c 39 main_v37⟩]
      concatenates_S256x256x2_S256x256x2_S256x256x4_d2) shapeCasts_S256x256x4_S2048x128
    ∧ U m c main_v47 = shapeCast S8192x128 (concatenate S512x512x4 2 [⟨S512x512x2, At m c 47 main_v42⟩, ⟨S512x512x2, At m c 47 main_v45⟩]
      concatenates_S512x512x2_S512x512x2_S512x512x4_d2) shapeCasts_S512x512x4_S8192x128 := by
  refine ⟨?_, ?_, ?_, ?_, ?_, ?_⟩ <;> after_reads_simp <;> rfl

theorem rights (c : Dev nD) : Rights (tabA m c) 0 16 (At m c 7 main_v5)
    ∧ Rights (tabA m c) 1 32 (At m c 15 main_v13)
    ∧ Rights (tabA m c) 2 64 (At m c 23 main_v21)
    ∧ Rights (tabA m c) 3 128 (At m c 31 main_v29)
    ∧ Rights (tabA m c) 4 256 (At m c 39 main_v37)
    ∧ Rights (tabA m c) 5 512 (At m c 47 main_v45) := by
  obtain ⟨e0, e1, e2, e3, e4, e5⟩ := right_reads m c
  obtain ⟨x0, x1, x2, x3, x4, x5⟩ := shifteds m c
  obtain ⟨y0, y1, y2, y3, y4, y5⟩ := lasts m c
  rw [e0, e1, e2, e3, e4, e5]
  exact ⟨rights_of rfl x0 y0 _, rights_of rfl x1 y1 _, rights_of rfl x2 y2 _, rights_of rfl x3 y3 _, rights_of rfl x4 y4 _,
    rights_of rfl x5 y5 _⟩

theorem dense_pieces (c : Dev nD) : DenseP (tabA m c) 0 16 8 (U m c main_v7)
    ∧ DenseP (tabA m c) 1 32 32 (U m c main_v15)
    ∧ DenseP (tabA m c) 2 64 128 (U m c main_v23)
    ∧ DenseP (tabA m c) 3 128 512 (U m c main_v31)
    ∧ DenseP (tabA m c) 4 256 2048 (U m c main_v39)
    ∧ DenseP (tabA m c) 5 512 8192 (U m c main_v47) := by
  obtain ⟨e0, e1, e2, e3, e4, e5⟩ := piece_reads m c
  obtain ⟨x0, x1, x2, x3, x4, x5⟩ := squares m c
  obtain ⟨y0, y1, y2, y3, y4, y5⟩ := rights m c
  rw [e0, e1, e2, e3, e4, e5]
  exact ⟨dense_of (by decide) rfl x0 y0 _ _, dense_of (by decide) rfl x1 y1 _ _, dense_of (by decide) rfl x2 y2 _ _,
    dense_of (by decide) rfl x3 y3 _ _, dense_of (by decide) rfl x4 y4 _ _, dense_of (by decide) rfl x5 y5 _ _⟩

end Cert.KernelIdeal.Own

end
-- ==== Proof.Spec.lean ====
/- What one level adds to a point's encoding, at the extended reals. -/
module

public import proofs.«01_k».proof.Proof.Cell
public import proofs.«01_k».proof.Proof.KernelIdealArrays

@[expose] public section

noncomputable section

namespace Cert.Spec

open Idealize.ShloMosaic Cert.KernelIdeal.Own Cert.KernelIdeal Cert.Cell

/-- A coordinate's place inside its cell. -/
def fracAt (a : EReal) (sc : BitVec 32) : EReal := posAt a sc - (((cellAt (F := Ideal) a sc).toInt : ℝ) : EReal)

/-- Four corners' values, weighted by a place inside the cell. -/
def mix (fx fy e00 e01 e10 e11 : EReal) : EReal :=
  0 + (1 - fx) * (1 - fy) * e00 + (1 - fx) * fy * e01 + fx * (1 - fy) * e10 + fx * fy * e11

/-- A dense level's entry of a corner. -/
def dIdx (L : Lvl) (a b : EReal) (dx dy : BitVec 32) : BitVec 32 :=
  IntOp.addi (IntOp.minsi (IntOp.addi (cellAt (F := Ideal) a L.sc) dx) L.r1)
    (IntOp.muli (IntOp.minsi (IntOp.addi (cellAt (F := Ideal) b L.sc) dy) L.r1) L.r)
/-- A hashed level's. -/
def hIdx (L : Lvl) (a b : EReal) (dx dy : BitVec 32) : BitVec 32 :=
  IntOp.andi (IntOp.xori (IntOp.addi (cellAt (F := Ideal) a L.sc) dx) (IntOp.muli (IntOp.addi (cellAt (F := Ideal) b L.sc) dy) 2654435761#32))
    524287#32
/-- A corner's entry at level `l`: the first six levels are dense. -/
def idx (l : Fin 16) (a b : EReal) (dx dy : BitVec 32) : BitVec 32 := if l.val < 6 then dIdx (lvls l) a b dx dy else hIdx (lvls l) a b dx dy

/-- A level's feature of a point, the corners' entries given. -/
def featOf (T : S16x524288x2.Idx → EReal) (l : Fin 16) (a b : EReal) (p : Fin 2) (i : BitVec 32 → BitVec 32 → BitVec 32) : EReal :=
  mix (fracAt a (lvls l).sc) (fracAt b (lvls l).sc) (ent T l (i 0#32 0#32).toNat p) (ent T l (i 0#32 1#32).toNat p)
    (ent T l (i 1#32 0#32).toNat p) (ent T l (i 1#32 1#32).toNat p)
/-- A level's feature of a point. -/
def feature (T : S16x524288x2.Idx → EReal) (l : Fin 16) (a b : EReal) (p : Fin 2) : EReal := featOf T l a b p (idx l a b)

/-- A point's encoding. -/
def encoding (T : S16x524288x2.Idx → EReal) (a b : EReal) (f : Fin 32) : EReal := feature T ⟨f.val / 2, by omega⟩ a b ⟨f.val % 2, by omega⟩

/-- The first layer. -/
def layer0 (W : S32x128.Idx → EReal) (v : Fin 32 → EReal) (j : Fin 128) : EReal := max (∑ f, v f * W (ix2 f j)) 0
/-- A hidden layer. -/
def layer (W : S7x128x128.Idx → EReal) (s : Fin 7) (h : Fin 128 → EReal) (j : Fin 128) : EReal := max (∑ k, h k * W (ix3 s k j)) 0
/-- The seven hidden layers. -/
def hidden (W : S7x128x128.Idx → EReal) (h : Fin 128 → EReal) : Fin 128 → EReal :=
  layer W 6 (layer W 5 (layer W 4 (layer W 3 (layer W 2 (layer W 1 (layer W 0 h))))))
/-- The network's output from an encoding. -/
def network (W0 : S32x128.Idx → EReal) (W : S7x128x128.Idx → EReal) (W1 : S128x3.Idx → EReal) (v : Fin 32 → EReal) (o : Fin 3) : EReal :=
  ∑ k, hidden W (layer0 W0 v) k * W1 (ix2 k o)

end Cert.Spec

end
-- ==== Proof.KernelIdealFeat.lean ====
/- One corner's feature: moving each row's pair to its place, adding the rows up and reading a point's lane gives the
   entry of that point's own row. -/
module

public import proofs.«01_k».proof.Proof.KernelIdealRun
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe

/-! ## Words below 128 -/

/-- A word's low seven bits are no negative number: the wrap of negative lanes does nothing. -/
theorem wrapped (w : BitVec 32) :
    (Scalar.select (IntOp.cmpi .slt (IntOp.andi w 127#32) 0#32) (IntOp.addi (IntOp.andi w 127#32) 128#32) (IntOp.andi w 127#32)).toNat % 128
      = w.toNat % 128 := by
  have h : (w &&& 127#32).toNat = w.toNat % 128 := by
    rw [BitVec.toNat_and]; exact Nat.and_two_pow_sub_one_eq_mod w.toNat 7
  have h2 : IntOp.cmpi .slt (IntOp.andi w 127#32) 0#32 = 0#1 := by
    show BitVec.ofBool (BitVec.slt (w &&& 127#32) 0#32) = _
    have : BitVec.slt (w &&& 127#32) 0#32 = false := by
      rw [BitVec.slt, decide_eq_false_iff_not, BitVec.toInt_eq_toNat_of_lt (by omega)]
      simp
    rw [this]; rfl
  rw [h2]
  show (w &&& 127#32).toNat % 128 = _
  omega

/-- A number below 128 is no negative number. -/
theorem unwrapped : ∀ t : Fin 128, (Scalar.select (IntOp.cmpi .slt (BitVec.ofNat 32 t.val) 0#32)
    (IntOp.addi (BitVec.ofNat 32 t.val) 128#32) (BitVec.ofNat 32 t.val)).toNat % 128 = t.val := by decide +kernel

theorem half_eq : ∀ l : Fin 128, IntOp.shrsi ArithUnit.vector (BitVec.ofNat 32 l.val) 1#32 = BitVec.ofNat 32 (l.val / 2) := by decide +kernel
theorem low_eq : ∀ t : Fin 128, IntOp.andi (BitVec.ofNat 32 t.val) 63#32 = BitVec.ofNat 32 (t.val % 64) := by decide +kernel

/-- The mask keeps a row's pair at the row's place among 64. -/
theorem mask_eq (l t : Fin 128) : IntOp.cmpi .eq (IntOp.shrsi ArithUnit.vector (BitVec.ofNat 32 l.val) 1#32) (IntOp.andi (BitVec.ofNat 32 t.val) 63#32)
    = if l.val / 2 = t.val % 64 then 1#1 else 0#1 := by
  rw [half_eq, low_eq]
  show BitVec.ofBool (BitVec.ofNat 32 (l.val / 2) == BitVec.ofNat 32 (t.val % 64)) = _
  by_cases h : l.val / 2 = t.val % 64
  · rw [h]; simp
  · have : BitVec.ofNat 32 (l.val / 2) ≠ BitVec.ofNat 32 (t.val % 64) := fun e => h (by
      have := congrArg BitVec.toNat e
      rw [BitVec.toNat_ofNat, BitVec.toNat_ofNat, Nat.mod_eq_of_lt (by omega), Nat.mod_eq_of_lt (by omega)] at this
      exact this)
    rw [if_neg h, beq_eq_false_iff_ne.mpr this]; rfl

/-- The rotation by a row's lane, on numbers. -/
theorem rot_eq (w : BitVec 32) (l t : Fin 128) :
    (IntOp.addi w (IntOp.subi (BitVec.ofNat 32 l.val) (IntOp.muli 2#32 (BitVec.ofNat 32 t.val)))).toNat % 128
      = (w.toNat + l.val + 256 - 2 * t.val) % 128 := by
  show (w + (BitVec.ofNat 32 l.val - 2#32 * BitVec.ofNat 32 t.val)).toNat % 128 = _
  have ht : (2#32 * BitVec.ofNat 32 t.val).toNat = 2 * t.val := by
    rw [BitVec.toNat_mul, BitVec.toNat_ofNat, BitVec.toNat_ofNat]; omega
  rw [BitVec.toNat_add, BitVec.toNat_sub, ht, BitVec.toNat_ofNat]
  omega

/-! ## The rows moved and added up -/

theorem picked_apply (cv : IVec S8x128 32) (stg : FVec Ideal S128x8x128 .f32) (t : Fin 128) (s : Fin 8) (l : Fin 128) :
    picked cv stg (ix3 t s l) = if l.val / 2 = t.val % 64
      then stg (ix3 t s ⟨((cv (ix2 s t)).toNat + l.val + 256 - 2 * t.val) % 128, Nat.mod_lt _ (by decide)⟩) else 0 := by
  pointwise [picked, wrap3, shift3, mask3, t3, l3]
  simp only [unwrapped, wrapped, rot_eq, mask_eq]
  by_cases h : l.val / 2 = t.val % 64
  · simp only [h, if_true]; rfl
  · simp only [h, if_false]; rfl

theorem pairsA_apply (cv : IVec S8x128 32) (stg : FVec Ideal S128x8x128 .f32) (s : Fin 8) (l : Fin 128) :
    pairsA cv stg (ix2 s l) = stg (ix3 ⟨l.val / 2, by omega⟩ s ⟨((cv (ix2 s ⟨l.val / 2, by omega⟩)).toNat + l.val % 2) % 128, Nat.mod_lt _ (by decide)⟩) := by
  pointwise [pairsA, picked_apply]
  rw [Finset.sum_eq_single (⟨l.val / 2, by omega⟩ : Fin 64)]
  · rw [if_pos (by show l.val / 2 = l.val / 2 % 64; omega)]
    congr 2
    refine Fin.ext ?_
    have e : ∀ w : ℕ, (w + l.val + 256 - 2 * (l.val / 2)) % 128 = (w + l.val % 2) % 128 := fun w => by omega
    exact e _
  · intro k _ hk
    refine if_neg fun e => hk (Fin.ext ?_)
    show k.val = l.val / 2
    omega
  · exact fun h => absurd (Finset.mem_univ _) h

theorem pairsB_apply (cv : IVec S8x128 32) (stg : FVec Ideal S128x8x128 .f32) (s : Fin 8) (l : Fin 128) :
    pairsB cv stg (ix2 s l) = stg (ix3 ⟨64 + l.val / 2, by omega⟩ s ⟨((cv (ix2 s ⟨64 + l.val / 2, by omega⟩)).toNat + l.val % 2) % 128, Nat.mod_lt _ (by decide)⟩) := by
  pointwise [pairsB, picked_apply]
  rw [Finset.sum_eq_single (⟨l.val / 2, by omega⟩ : Fin 64)]
  · rw [if_pos (by show l.val / 2 = (64 + l.val / 2) % 64; omega)]
    congr 2
    refine Fin.ext ?_
    have e : ∀ w : ℕ, (w + l.val + 256 - 2 * (64 + l.val / 2)) % 128 = (w + l.val % 2) % 128 := fun w => by omega
    exact e _
  · intro k _ hk
    refine if_neg fun e => hk (Fin.ext ?_)
    show k.val = l.val / 2
    omega
  · exact fun h => absurd (Finset.mem_univ _) h

/-! ## A point's feature -/

theorem half_lt : ∀ l : Fin 128, IntOp.cmpi .slt (BitVec.ofNat 32 l.val) 64#32 = if l.val < 64 then 1#1 else 0#1 := by decide +kernel
theorem ev_eq : ∀ l : Fin 128, (IntOp.muli 2#32 (BitVec.ofNat 32 l.val)).toNat % 128 = 2 * (l.val % 64) := by decide +kernel
theorem od_eq : ∀ l : Fin 128, (IntOp.addi (IntOp.muli 2#32 (BitVec.ofNat 32 l.val)) 1#32).toNat % 128 = 2 * (l.val % 64) + 1 := by decide +kernel

/-- A point's pair, read from the half that holds it. -/
theorem pair_of (cv : IVec S8x128 32) (stg : FVec Ideal S128x8x128 .f32) (s : Fin 8) (l k : Fin 128) (p : Fin 2) (hk : k.val = 2 * (l.val % 64) + p.val) :
    Scalar.select (IntOp.cmpi .slt (BitVec.ofNat 32 l.val) 64#32) (pairsA cv stg (ix2 s k)) (pairsB cv stg (ix2 s k))
      = stg (ix3 l s ⟨((cv (ix2 s l)).toNat + p.val) % 128, Nat.mod_lt _ (by decide)⟩) := by
  have hp : k.val % 2 = p.val := by omega
  rw [half_lt, pairsA_apply, pairsB_apply]
  by_cases h : l.val < 64
  · have e : (⟨k.val / 2, by omega⟩ : Fin 128) = l := Fin.ext (by show k.val / 2 = l.val; omega)
    rw [if_pos h]
    simp only [e, hp]; rfl
  · have e : (⟨64 + k.val / 2, by omega⟩ : Fin 128) = l := Fin.ext (by show 64 + k.val / 2 = l.val; omega)
    rw [if_neg h]
    simp only [e, hp]; rfl

/-- The first feature of a corner. -/
theorem feat_ev (cv : IVec S8x128 32) (stg : FVec Ideal S128x8x128 .f32) (s : Fin 8) (l : Fin 128) :
    feat evl cv stg (ix2 s l) = stg (ix3 l s ⟨((cv (ix2 s l)).toNat + 0) % 128, Nat.mod_lt _ (by decide)⟩) := by
  pointwise [feat, wrap2, evl, lane]
  simp only [wrapped, ev_eq]
  exact pair_of cv stg s l ⟨2 * (l.val % 64), by omega⟩ 0 (by simp)
/-- The second. -/
theorem feat_od (cv : IVec S8x128 32) (stg : FVec Ideal S128x8x128 .f32) (s : Fin 8) (l : Fin 128) :
    feat odl cv stg (ix2 s l) = stg (ix3 l s ⟨((cv (ix2 s l)).toNat + 1) % 128, Nat.mod_lt _ (by decide)⟩) := by
  pointwise [feat, wrap2, odl, lane]
  simp only [wrapped, od_eq]
  exact pair_of cv stg s l ⟨2 * (l.val % 64) + 1, by omega⟩ 1 (by simp)

end Cert.KernelIdeal.Own

end
-- ==== Proof.KernelIdealLevel.lean ====
/- A level's features as the kernel computes them are the level's features of the specification. -/
module

public import proofs.«01_k».proof.Proof.Spec
public import proofs.«01_k».proof.Proof.KernelIdealFeat
public import proofs.«01_k».proof.Proof.KernelIdealRows

@[expose] public section

set_option maxRecDepth 16384

noncomputable section

namespace Cert.KernelIdeal.Own

open Cert.KernelIdeal Cert.KernelIdeal.Gen Cert.Spec Cert.Cell
open Idealize.ShloMosaic Idealize.ShloMosaic.TcCoe

/-! ## Packed levels -/

/-- An element of a packed table by numbers. -/
def tabN (tab : Vec Ideal S92840x1x128 .f32) (r k : ℕ) : EReal :=
  tab (ix3 ⟨r % 92840, Nat.mod_lt _ (by decide)⟩ ⟨0, by decide⟩ ⟨k % 128, Nat.mod_lt _ (by decide)⟩)

/-- A dense level's entries and their right neighbours in the packed table. -/
def DLvl (tab : Vec Ideal S92840x1x128 .f32) (T : S16x524288x2.Idx → EReal) (l : Fin 16) : Prop :=
  ∀ (e : ℕ), e < (lvls l).r.toNat * (lvls l).r.toNat → ∀ p : Fin 2,
    tabN tab (e / 32 + (lvls l).off.toNat) (4 * (e % 32) + p.val) = ent T l e p
    ∧ tabN tab (e / 32 + (lvls l).off.toNat) (4 * (e % 32) + 2 + p.val) = ent T l (right (lvls l).r.toNat e) p
/-- A hashed level's entries in the packed table. -/
def HLvl (tab : Vec Ideal S92840x1x128 .f32) (T : S16x524288x2.Idx → EReal) (l : Fin 16) : Prop :=
  ∀ (e : ℕ), e < 524288 → ∀ p : Fin 2, tabN tab (e / 64 + (lvls l).off.toNat) (2 * (e % 64) + p.val) = ent T l e p

/-- The lanes of the first and the second features. -/
def lanes (p : Fin 2) : IVec S8x128 32 := if p = 0 then evl else odl

theorem stageOf_apply (R : IVec S8x128 32) (tab : Vec Ideal S92840x1x128 .f32) (s : Fin 8) (t : Fin 128) (n : ℕ) (h : n % 128 < 128) :
    stageOf tab R (ix3 t s ⟨n % 128, h⟩) = tabN tab (R (ix2 s t)).toNat n := rfl

theorem feat_tab (p : Fin 2) (cv R : IVec S8x128 32) (tab : Vec Ideal S92840x1x128 .f32) (s : Fin 8) (t : Fin 128) :
    feat (lanes p) cv (stageOf tab R) (ix2 s t) = tabN tab (R (ix2 s t)).toNat ((cv (ix2 s t)).toNat + p.val) := by
  have h0 := feat_ev cv (stageOf tab R) s t
  have h1 := feat_od cv (stageOf tab R) s t
  rw [stageOf_apply] at h0 h1
  obtain rfl | rfl : p = 0 ∨ p = 1 := by omega
  · exact h0
  · exact h1

variable {tab : Vec Ideal S92840x1x128 .f32} {T : S16x524288x2.Idx → EReal} {x y : FVec Ideal S8x128 .f32}

/-- Four weighted corners at a point, from zero. -/
theorem sum4_apply (ln c1 c2 c3 c4 : IVec S8x128 32) (w1 w2 w3 w4 : FVec Ideal S8x128 .f32) (s1 s2 s3 s4 : FVec Ideal S128x8x128 .f32) (j) :
    sum4 ln c1 c2 c3 c4 w1 w2 w3 w4 s1 s2 s3 s4 j = ((((Ideal.ofBits .f32 0#32 : EReal) + w1 j * feat ln c1 s1 j) + w2 j * feat ln c2 s2 j)
      + w3 j * feat ln c3 s3 j) + w4 j * feat ln c4 s4 j := rfl

theorem wx_apply (L : Lvl) (j) : L.wx x j = fracAt (x j) L.sc := rfl
theorem om_apply (v : FVec Ideal S8x128 .f32) (j) : om v j = 1 - v j := by
  show (Ideal.ofBits .f32 0x3F800000#32 : EReal) - v j = _
  rw [one_val]
theorem mul_apply (v w : FVec Ideal S8x128 .f32) (j) : mulf v w j = (v j * w j : EReal) := rfl

/-! ## Hashed levels -/

theorem he_apply (L : Lvl) (dx dy : BitVec 32) (j) : L.he x y dx dy j = hIdx L (x j) (y j) dx dy := rfl

theorem h_corner (l : Fin 16) (h : HLvl tab T l) (ho : (lvls l).off.toNat < 2 ^ 20) (k : Fin 4) (p : Fin 2) (s : Fin 8) (t : Fin 128) :
    feat (lanes p) (hlane ((lvls l).he x y (BitVec.ofNat 32 (k.val / 2)) (BitVec.ofNat 32 (k.val % 2))))
      (stageOf tab (rowH ((lvls l).hrows x y) k)) (ix2 s t)
      = ent T l (hIdx (lvls l) (x (ix2 s t)) (y (ix2 s t)) (BitVec.ofNat 32 (k.val / 2)) (BitVec.ofNat 32 (k.val % 2))).toNat p := by
  have he := he_lt (F := Ideal) (lvls l) x y (BitVec.ofNat 32 (k.val / 2)) (BitVec.ofNat 32 (k.val % 2)) (ix2 s t)
  rw [feat_tab]
  have hr : (rowH ((lvls l).hrows x y) k (ix2 s t)).toNat
      = ((lvls l).he x y (BitVec.ofNat 32 (k.val / 2)) (BitVec.ofNat 32 (k.val % 2)) (ix2 s t)).toNat / 64 + (lvls l).off.toNat := by
    refine Eq.trans (congrArg BitVec.toNat ?_) (hrow_toNat (by omega) ho)
    exact hrows_apply (F := Ideal) (lvls l) x y k s t
  have hl : (hlane ((lvls l).he x y (BitVec.ofNat 32 (k.val / 2)) (BitVec.ofNat 32 (k.val % 2))) (ix2 s t)).toNat
      = 2 * (((lvls l).he x y (BitVec.ofNat 32 (k.val / 2)) (BitVec.ofNat 32 (k.val % 2)) (ix2 s t)).toNat % 64) := Words.lane2_toNat _
  rw [hr, hl]
  exact h _ he p

theorem hF_apply (l : Fin 16) (h : HLvl tab T l) (ho : (lvls l).off.toNat < 2 ^ 20) (hl : 6 ≤ l.val) (p : Fin 2) (s : Fin 8) (t : Fin 128) :
    hF (lvls l) tab x y (lanes p) (ix2 s t) = feature T l (x (ix2 s t)) (y (ix2 s t)) p := by
  have e0 := h_corner (x := x) (y := y) l h ho 0 p s t
  have e1 := h_corner (x := x) (y := y) l h ho 1 p s t
  have e2 := h_corner (x := x) (y := y) l h ho 2 p s t
  have e3 := h_corner (x := x) (y := y) l h ho 3 p s t
  refine (sum4_apply _ _ _ _ _ _ _ _ _ _ _ _ _ _).trans ?_
  simp only [mul_apply, om_apply, wx_apply]
  unfold feature featOf mix
  rw [show idx l (x (ix2 s t)) (y (ix2 s t)) = hIdx (lvls l) (x (ix2 s t)) (y (ix2 s t)) from by
    funext dx dy; exact if_neg (by omega), zero_val]
  exact congrArg₂ _ (congrArg₂ _ (congrArg₂ _ (congrArg₂ _ rfl (congrArg₂ _ rfl e0)) (congrArg₂ _ rfl e1)) (congrArg₂ _ rfl e2)) (congrArg₂ _ rfl e3)

/-! ## Dense levels -/

/-- What makes a level dense. -/
structure Dense (l : Fin 16) : Prop where
  h1 : (lvls l).r1.toNat ≤ 511
  h2 : (lvls l).r.toNat ≤ 512
  hr : (lvls l).r.toNat = (lvls l).r1.toNat + 1
  ho : (lvls l).off.toNat < 2 ^ 20

theorem dIdx_toNat {l : Fin 16} (D : Dense l) {a b : EReal} (ha : InLvl (F := Ideal) a (lvls l)) (hb : InLvl (F := Ideal) b (lvls l)) (dx dy : Fin 2) :
    (dIdx (lvls l) a b (BitVec.ofNat 32 dx.val) (BitVec.ofNat 32 dy.val)).toNat
      = min ((cellAt (F := Ideal) a (lvls l).sc).toNat + dx.val) (lvls l).r1.toNat
        + min ((cellAt (F := Ideal) b (lvls l).sc).toNat + dy.val) (lvls l).r1.toNat * (lvls l).r.toNat := by
  have ha : (cellAt (F := Ideal) a (lvls l).sc).toNat ≤ (lvls l).r1.toNat := ha
  have hb : (cellAt (F := Ideal) b (lvls l).sc).toNat ≤ (lvls l).r1.toNat := hb
  obtain ⟨h1, h2, hr, -⟩ := D
  have e : ∀ d : Fin 2, (BitVec.ofNat 32 d.val).toNat = d.val := fun d => by rw [BitVec.toNat_ofNat]; omega
  have ex : (IntOp.minsi (IntOp.addi (cellAt (F := Ideal) a (lvls l).sc) (BitVec.ofNat 32 dx.val)) (lvls l).r1).toNat
      = min ((cellAt (F := Ideal) a (lvls l).sc).toNat + dx.val) (lvls l).r1.toNat := by
    have ea : (IntOp.addi (cellAt (F := Ideal) a (lvls l).sc) (BitVec.ofNat 32 dx.val)).toNat = (cellAt (F := Ideal) a (lvls l).sc).toNat + dx.val := by
      unfold IntOp.addi
      rw [BitVec.toNat_add, e]; omega
    rw [Words.minsi_toNat (by omega) (by omega), ea]
  have hm : min ((cellAt (F := Ideal) a (lvls l).sc).toNat + dx.val) (lvls l).r1.toNat ≤ 511 := by omega
  refine (Words.dense_toNat (a := IntOp.minsi (IntOp.addi (cellAt (F := Ideal) a (lvls l).sc) (BitVec.ofNat 32 dx.val)) (lvls l).r1)
    (by rw [ex]; exact hm) (hb.trans h1) (by rw [e]; omega) h1 h2).trans ?_
  rw [ex, e]

theorem d_corner {l : Fin 16} (D : Dense l) (h : DLvl tab T l) (k dx : Fin 2) (p : Fin 2) (s : Fin 8) (t : Fin 128)
    (hx : InLvl (x (ix2 s t)) (lvls l)) (hy : InLvl (y (ix2 s t)) (lvls l)) :
    feat (lanes p) (if dx = 0 then dlane ((lvls l).de x y (BitVec.ofNat 32 k.val)) else dlane2 ((lvls l).de x y (BitVec.ofNat 32 k.val)))
      (stageOf tab (rowD ((lvls l).drows x y) k)) (ix2 s t)
      = ent T l (dIdx (lvls l) (x (ix2 s t)) (y (ix2 s t)) (BitVec.ofNat 32 dx.val) (BitVec.ofNat 32 k.val)).toNat p := by
  have hd : (BitVec.ofNat 32 k.val).toNat = k.val := by rw [BitVec.toNat_ofNat]; omega
  have he := de_lt (F := Ideal) (lvls l) hx hy (d := BitVec.ofNat 32 k.val) (by omega) D.h1 D.h2 D.hr
  have en := de_toNat (F := Ideal) (lvls l) hx hy (d := BitVec.ofNat 32 k.val) (by omega) D.h1 D.h2
  have hrr := Nat.mul_le_mul D.h2 D.h2
  rw [feat_tab]
  have hr : (rowD ((lvls l).drows x y) k (ix2 s t)).toNat
      = ((lvls l).de x y (BitVec.ofNat 32 k.val) (ix2 s t)).toNat / 32 + (lvls l).off.toNat := by
    refine Eq.trans (congrArg BitVec.toNat ?_) (drow_toNat (by omega) D.ho)
    exact drows_apply (F := Ideal) (lvls l) x y k s t
  have hl : (dlane ((lvls l).de x y (BitVec.ofNat 32 k.val)) (ix2 s t)).toNat
      = 4 * (((lvls l).de x y (BitVec.ofNat 32 k.val) (ix2 s t)).toNat % 32) := Words.lane4_toNat _
  have hx' : (cellAt (F := Ideal) (x (ix2 s t)) (lvls l).sc).toNat ≤ (lvls l).r1.toNat := hx
  have hR := D.hr
  rw [hr, dIdx_toNat D hx hy dx k]
  rw [hd] at en
  obtain rfl | rfl : dx = 0 ∨ dx = 1 := by omega
  · rw [if_pos rfl, hl, (h _ he p).1, en]
    congr 1
    show _ = min (_ + 0) _ + _
    omega
  · rw [if_neg (by decide)]
    have hl2 : (dlane2 ((lvls l).de x y (BitVec.ofNat 32 k.val)) (ix2 s t)).toNat
        = 4 * (((lvls l).de x y (BitVec.ofNat 32 k.val) (ix2 s t)).toNat % 32) + 2 := by
      show (IntOp.addi (dlane ((lvls l).de x y (BitVec.ofNat 32 k.val)) (ix2 s t)) 2#32).toNat = _
      unfold IntOp.addi
      rw [BitVec.toNat_add, hl, show (2#32).toNat = 2 from rfl]
      omega
    rw [hl2, (h _ he p).2, en, Nat.add_comm (cellAt (F := Ideal) (x (ix2 s t)) (lvls l).sc).toNat, right_at _ _ (by omega)]
    congr 1
    show _ = min (_ + 1) _ + _
    split <;> omega

theorem dF_apply {l : Fin 16} (D : Dense l) (h : DLvl tab T l) (hl : l.val < 6) (p : Fin 2) (s : Fin 8) (t : Fin 128)
    (hx : InLvl (x (ix2 s t)) (lvls l)) (hy : InLvl (y (ix2 s t)) (lvls l)) :
    dF (lvls l) tab x y (lanes p) (ix2 s t) = feature T l (x (ix2 s t)) (y (ix2 s t)) p := by
  have e0 := d_corner D h 0 0 p s t hx hy
  have e1 := d_corner D h 0 1 p s t hx hy
  have e2 := d_corner D h 1 0 p s t hx hy
  have e3 := d_corner D h 1 1 p s t hx hy
  refine (sum4_apply _ _ _ _ _ _ _ _ _ _ _ _ _ _).trans ?_
  simp only [mul_apply, om_apply, wx_apply]
  unfold feature featOf mix
  rw [show idx l (x (ix2 s t)) (y (ix2 s t)) = dIdx (lvls l) (x (ix2 s t)) (y (ix2 s t)) from by
    funext dx dy; exact if_pos hl, zero_val]
  refine congrArg₂ (fun a b : EReal => a + b) ?_ (congrArg₂ _ rfl e3)
  refine Eq.trans ?_ (add_right_comm (_ : EReal) _ _)
  exact congrArg₂ _ (congrArg₂ _ (congrArg₂ _ rfl (congrArg₂ _ rfl e0)) (congrArg₂ _ rfl e1)) (congrArg₂ _ rfl e2)

end Cert.KernelIdeal.Own

end
-- ==== Proof.KernelIdealTable.lean ====
/- What a block's windows hold of the packed table and the weights, and every level's entries in the packed table. -/
module

public import proofs.«01_k».proof.Proof.KernelIdealLevel
public import Idealize.ShloMosaic.Lib.Pipeline.ValueKit

@[expose] public section

set_option maxRecDepth 16384

noncomputable section

namespace Cert.KernelIdeal.Own

open Cert.KernelIdeal Cert.KernelIdeal.Gen Cert.Spec Cert.Cell
open Idealize.ShloMosaic Idealize.ShloMosaic.TcCoe

variable (m : (ℓ : Loc nD τ sig) → Buf (Elt Ideal) ℓ)

theorem index_tab : ∀ t : Fin cfg0.N, win0_2.index t = ![0, 0, 0] := by decide +kernel
theorem index_w8 : ∀ t : Fin cfg0.N, win0_3.index t = ![0, 0, 0] := by decide +kernel
theorem index_wh : ∀ t : Fin cfg0.N, win0_4.index t = ![0, 0, 0] := by decide +kernel
theorem index_wo : ∀ t : Fin cfg0.N, win0_5.index t = ![0, 0] := by decide +kernel

/-! ## A block's windows -/

theorem iblk_tab (c : Dev nD) (t : Fin 2048) (r : Fin 92840) (k : Fin 128) : iblk m c 2 t (ix3 r 0 k) = cat m c (ix2 r k) := by
  refine Eq.trans ?_ (V_tab m c r k)
  have e0 : win0_2.index t 0 = 0 := congrFun (index_tab t) 0
  have e1 : win0_2.index t 1 = 0 := congrFun (index_tab t) 1
  have e2 : win0_2.index t 2 = 0 := congrFun (index_tab t) 2
  blk_ext [iblk, V]
  all_goals omega
theorem iblk_w8 (c : Dev nD) (t : Fin 2048) (s : Fin 8) (k : Fin 256) (j : Fin 128) :
    iblk m c 3 t (ix3 s k j) = wIn m c (ix2 ⟨k.val / 8, by omega⟩ j) * eye s ⟨k.val % 8, by omega⟩ := by
  refine Eq.trans ?_ (V_w8 m c s k j)
  have e0 : win0_3.index t 0 = 0 := congrFun (index_w8 t) 0
  have e1 : win0_3.index t 1 = 0 := congrFun (index_w8 t) 1
  have e2 : win0_3.index t 2 = 0 := congrFun (index_w8 t) 2
  blk_ext [iblk, V]
  all_goals omega
theorem iblk_wh (c : Dev nD) (t : Fin 2048) (s : Fin 7) (k j : Fin 128) : iblk m c 4 t (ix3 s k j) = wHid m c (ix3 s k j) := by
  refine Eq.trans ?_ (V_wh m c s k j)
  have e0 : win0_4.index t 0 = 0 := congrFun (index_wh t) 0
  have e1 : win0_4.index t 1 = 0 := congrFun (index_wh t) 1
  have e2 : win0_4.index t 2 = 0 := congrFun (index_wh t) 2
  blk_ext [iblk, V]
  all_goals omega
theorem iblk_wo (c : Dev nD) (t : Fin 2048) (k : Fin 128) (j : Fin 3) : iblk m c 5 t (ix2 k ⟨j.val, by omega⟩) = wOut m c (ix2 k j) := by
  refine Eq.trans ?_ (V_wo m c k j)
  have e0 : win0_5.index t 0 = 0 := congrFun (index_wo t) 0
  have e1 : win0_5.index t 1 = 0 := congrFun (index_wo t) 1
  blk_ext [iblk, V]
  all_goals omega

/-! ## Every level in the packed table -/

/-- An element of a block's table is the packed table's. -/
theorem tabN_iblk (c : Dev nD) (t : Fin 2048) {r k : ℕ} (hr : r < 92840) (hk : k < 128) :
    tabN (iblk m c 2 t) r k = cat m c (ix2 ⟨r, hr⟩ ⟨k, hk⟩) := by
  refine (iblk_tab m c t _ _).trans ?_
  congr 2 <;> exact Fin.ext (Nat.mod_eq_of_lt (by assumption))

/-- The packed table's rows from `pre` on are a piece's. -/
def Rows (c : Dev nD) (n pre : ℕ) (x : (⟨2, ![n, 128]⟩ : Shape).Idx → EReal) : Prop :=
  ∀ (r : Fin n) (k : Fin 128) (h : pre + r.val < 92840), cat m c (ix2 ⟨pre + r.val, h⟩ k) = x (ix2 r k)

theorem dlvl_of {l : Fin 16} {n : ℕ} {x : (⟨2, ![n, 128]⟩ : Shape).Idx → EReal} (c : Dev nD) (t : Fin 2048)
    (hn : n * 32 = (lvls l).r.toNat * (lvls l).r.toNat) (hb : (lvls l).off.toNat + n ≤ 92840)
    (hc : Rows m c n (lvls l).off.toNat x) (hx : DenseP (tabA m c) l (lvls l).r.toNat n x) : DLvl (iblk m c 2 t) (tabA m c) l := by
  intro e he p
  have hr : e / 32 < n := by omega
  have key : ∀ q : ℕ, (hq : q < 4) → tabN (iblk m c 2 t) (e / 32 + (lvls l).off.toNat) (4 * (e % 32) + q)
      = if q < 2 then ent (tabA m c) l e ⟨q % 2, Nat.mod_lt _ (by decide)⟩ else ent (tabA m c) l (right (lvls l).r.toNat e) ⟨q % 2, Nat.mod_lt _ (by decide)⟩ := by
    intro q hq
    rw [tabN_iblk m c t (by omega) (by omega)]
    have e1 := hc ⟨e / 32, hr⟩ ⟨4 * (e % 32) + q, by omega⟩ (by show _ + e / 32 < _; omega)
    have e2 := hx ⟨e / 32, hr⟩ ⟨4 * (e % 32) + q, by omega⟩
    have ea : (e / 32 * 128 + (4 * (e % 32) + q)) / 4 = e := by omega
    have eb : (4 * (e % 32) + q) % 4 = q := by omega
    have ec : (4 * (e % 32) + q) % 2 = q % 2 := by omega
    simp only [ea, eb, ec] at e2
    refine Eq.trans ?_ (e1.trans e2)
    congr 2
    exact Fin.ext (Nat.add_comm _ _)
  constructor
  · rw [key p.val (by omega), if_pos p.isLt]
    congr 1
    exact Fin.ext (by show p.val % 2 = p.val; omega)
  · rw [Nat.add_assoc, key (2 + p.val) (by omega), if_neg (by omega)]
    congr 1
    exact Fin.ext (by show (2 + p.val) % 2 = p.val; omega)

theorem hlvl_of {l : Fin 16} {x : (⟨2, ![8192, 128]⟩ : Shape).Idx → EReal} (c : Dev nD) (t : Fin 2048) (hb : (lvls l).off.toNat + 8192 ≤ 92840)
    (hc : Rows m c 8192 (lvls l).off.toNat x) (hx : HashP (tabA m c) l 8192 x) : HLvl (iblk m c 2 t) (tabA m c) l := by
  intro e he p
  have hr : e / 64 < 8192 := by omega
  rw [tabN_iblk m c t (by omega) (by omega)]
  have e1 := hc ⟨e / 64, hr⟩ ⟨2 * (e % 64) + p.val, by omega⟩ (by show _ + e / 64 < _; omega)
  have e2 := hx ⟨e / 64, hr⟩ ⟨2 * (e % 64) + p.val, by omega⟩
  have ea : (e / 64 * 128 + (2 * (e % 64) + p.val)) / 2 = e := by omega
  have ec : (2 * (e % 64) + p.val) % 2 = p.val := by omega
  simp only [ea, ec] at e2
  refine Eq.trans ?_ (e1.trans e2)
  congr 2
  exact Fin.ext (Nat.add_comm _ _)

theorem denses : ∀ l : Fin 16, l.val < 6 → (lvls l).r1.toNat ≤ 511 ∧ (lvls l).r.toNat ≤ 512 ∧ (lvls l).r.toNat = (lvls l).r1.toNat + 1 := by decide
theorem offs : ∀ l : Fin 16, (lvls l).off.toNat < 2 ^ 20 := by decide
theorem dense_lvl (l : Fin 16) (h : l.val < 6) : Dense l := ⟨(denses l h).1, (denses l h).2.1, (denses l h).2.2, offs l⟩

theorem dlvls (c : Dev nD) (t : Fin 2048) (l : Fin 16) (hl : l.val < 6) : DLvl (iblk m c 2 t) (tabA m c) l := by
  obtain ⟨h0, h1, h2, h3, h4, h5⟩ := dense_pieces m c
  match l, hl with
  | 0, _ => exact dlvl_of m c t rfl (by decide) (cat_piece m c 0 8 0 (show 0 < 16 by decide) _ rfl (by decide +kernel)) h0
  | 1, _ => exact dlvl_of m c t rfl (by decide) (cat_piece m c 1 32 8 (show 1 < 16 by decide) _ rfl (by decide +kernel)) h1
  | 2, _ => exact dlvl_of m c t rfl (by decide) (cat_piece m c 2 128 40 (show 2 < 16 by decide) _ rfl (by decide +kernel)) h2
  | 3, _ => exact dlvl_of m c t rfl (by decide) (cat_piece m c 3 512 168 (show 3 < 16 by decide) _ rfl (by decide +kernel)) h3
  | 4, _ => exact dlvl_of m c t rfl (by decide) (cat_piece m c 4 2048 680 (show 4 < 16 by decide) _ rfl (by decide +kernel)) h4
  | 5, _ => exact dlvl_of m c t rfl (by decide) (cat_piece m c 5 8192 2728 (show 5 < 16 by decide) _ rfl (by decide +kernel)) h5

theorem hlvls (c : Dev nD) (t : Fin 2048) (l : Fin 16) (hl : 6 ≤ l.val) : HLvl (iblk m c 2 t) (tabA m c) l := by
  obtain ⟨h6, h7, h8, h9, h10, h11, h12, h13, h14, h15⟩ := hash_pieces m c
  match l, hl with
  | 6, _ => exact hlvl_of m c t (by decide) (cat_piece m c 6 8192 10920 (show 6 < 16 by decide) _ rfl (by decide +kernel)) h6
  | 7, _ => exact hlvl_of m c t (by decide) (cat_piece m c 7 8192 19112 (show 7 < 16 by decide) _ rfl (by decide +kernel)) h7
  | 8, _ => exact hlvl_of m c t (by decide) (cat_piece m c 8 8192 27304 (show 8 < 16 by decide) _ rfl (by decide +kernel)) h8
  | 9, _ => exact hlvl_of m c t (by decide) (cat_piece m c 9 8192 35496 (show 9 < 16 by decide) _ rfl (by decide +kernel)) h9
  | 10, _ => exact hlvl_of m c t (by decide) (cat_piece m c 10 8192 43688 (show 10 < 16 by decide) _ rfl (by decide +kernel)) h10
  | 11, _ => exact hlvl_of m c t (by decide) (cat_piece m c 11 8192 51880 (show 11 < 16 by decide) _ rfl (by decide +kernel)) h11
  | 12, _ => exact hlvl_of m c t (by decide) (cat_piece m c 12 8192 60072 (show 12 < 16 by decide) _ rfl (by decide +kernel)) h12
  | 13, _ => exact hlvl_of m c t (by decide) (cat_piece m c 13 8192 68264 (show 13 < 16 by decide) _ rfl (by decide +kernel)) h13
  | 14, _ => exact hlvl_of m c t (by decide) (cat_piece m c 14 8192 76456 (show 14 < 16 by decide) _ rfl (by decide +kernel)) h14
  | 15, _ => exact hlvl_of m c t (by decide) (cat_piece m c 15 8192 84648 (show 15 < 16 by decide) _ rfl (by decide +kernel)) h15
  | ⟨n + 16, h⟩, _ => exact absurd h (by omega)

end Cert.KernelIdeal.Own

end
-- ==== Proof.KernelIdealNet.lean ====
/- The network on a block: the encoding's rows, the spread first layer, the hidden layers and the output. -/
module

public import proofs.«01_k».proof.Proof.KernelIdealTable
public import Idealize.ShloMosaic.Lib.Pipeline.Value

@[expose] public section

set_option maxRecDepth 16384

noncomputable section

namespace Cert.KernelIdeal.Own

open Cert.KernelIdeal Cert.KernelIdeal.Gen Cert.Spec Cert.Cell
open Idealize.ShloMosaic Idealize.ShloMosaic.TcCoe

theorem enc_apply (f : Fin 32 → FVec Ideal S8x128 .f32) (k : Fin 256) (t : Fin 128) :
    enc f (ix2 k t) = f ⟨k.val / 8, by omega⟩ (ix2 ⟨k.val % 8, by omega⟩ t) :=
  concatenate_ofFn_apply (t := S256x128) (s₁ := S8x128) (0 : Fin 2) f
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0
    rfl 8 rfl (ix2 k t) ⟨k.val / 8, by omega⟩ rfl (ix2 ⟨k.val % 8, by omega⟩ t) rfl
    (fun b hb => by match b with
      | ⟨0, _⟩ => exact absurd rfl hb
      | ⟨1, _⟩ => rfl)

theorem rl_apply (h : FVec Ideal S128x128 .f32) (j) : rl h j = max (h j : EReal) 0 := by
  show max (h j : EReal) (Ideal.ofBits .f32 0#32) = _
  rw [zero_val]

theorem hid_apply (h : FVec Ideal S128x128 .bf16) (w : FVec Ideal S1x128x128 .bf16) (t j : Fin 128) :
    hid h w (ix2 t j) = max (∑ k : Fin 128, (h (ix2 t k) * w (ix3 0 k j) : EReal)) 0 := by
  unfold hid
  rw [rl_apply]
  congr 1
  pointwise

theorem first_apply (pv : FVec Ideal S256x128 .bf16) (w : FVec Ideal S1x256x128 .bf16) (t j : Fin 128) :
    rl (matmul (φ₂ := .bf16) dot_S256x128_S256x128_S128x128_0_0_1_1_n_n none pv
      (shapeCast S256x128 w shapeCasts_S1x256x128_S256x128) (constant S128x128 .f32 0x00000000#32)) (ix2 t j)
      = max (∑ k : Fin 256, (pv (ix2 k t) * w (ix3 0 k j) : EReal)) 0 := by
  rw [rl_apply]
  congr 1
  pointwise

theorem last_apply (h : FVec Ideal S128x128 .bf16) (wo : FVec Ideal S128x8 .bf16) (t : Fin 128) (o : Fin 8) :
    (shapeCast S1x128x8 (matmul dot_S128x128_S128x8_S128x8_1_0_0_1_n_n none h (shapeCast S128x8 wo shapeCasts_S128x8_S128x8)
      (constant S128x8 .f32 0x00000000#32)) shapeCasts_S128x8_S1x128x8 : FVec Ideal S1x128x8 .f32) (ix3 0 t o)
      = ∑ k : Fin 128, (h (ix2 t k) * wo (ix2 k o) : EReal) := by
  pointwise

/-- A sum over features and sublanes that the identity keeps to one sublane. -/
theorem spread_sum (s : Fin 8) (v : Fin 256 → EReal) (w : Fin 32 → EReal) :
    (∑ k : Fin 256, v k * (w ⟨k.val / 8, by omega⟩ * eye s ⟨k.val % 8, by omega⟩))
      = ∑ f : Fin 32, v ⟨f.val * 8 + s.val, by omega⟩ * w f := by
  rw [← (finProdFinEquiv (m := 32) (n := 8)).sum_comp, Fintype.sum_prod_type]
  refine Finset.sum_congr rfl fun f _ => ?_
  rw [Finset.sum_eq_single s]
  · have e1 : (⟨(finProdFinEquiv (f, s)).val / 8, by omega⟩ : Fin 32) = f := Fin.ext (by
      show (s.val + 8 * f.val) / 8 = f.val; omega)
    have e2 : (⟨(finProdFinEquiv (f, s)).val % 8, by omega⟩ : Fin 8) = s := Fin.ext (by
      show (s.val + 8 * f.val) % 8 = s.val; omega)
    have e3 : (finProdFinEquiv (f, s) : Fin 256) = ⟨f.val * 8 + s.val, by omega⟩ := Fin.ext (by
      show s.val + 8 * f.val = f.val * 8 + s.val; omega)
    rw [e1, e2, eye_apply, if_pos rfl, mul_one, e3]
  · intro s' _ hs
    have e2 : (⟨(finProdFinEquiv (f, s')).val % 8, by omega⟩ : Fin 8) = s' := Fin.ext (by
      show (s'.val + 8 * f.val) % 8 = s'.val; omega)
    rw [e2, eye_apply, if_neg (fun e => hs e.symm), mul_zero, mul_zero]
  · intro h; exact absurd (Finset.mem_univ _) h

/-! ## A point's features -/

theorem feats_apply {tab : Vec Ideal S92840x1x128 .f32} {T : S16x524288x2.Idx → EReal} {x y : FVec Ideal S8x128 .f32}
    (hd : ∀ l : Fin 16, l.val < 6 → DLvl tab T l) (hh : ∀ l : Fin 16, 6 ≤ l.val → HLvl tab T l) (s : Fin 8) (t : Fin 128)
    (hx : ∀ l : Fin 16, l.val < 6 → InLvl (x (ix2 s t)) (lvls l)) (hy : ∀ l : Fin 16, l.val < 6 → InLvl (y (ix2 s t)) (lvls l)) (f : Fin 32) :
    feats tab x y f (ix2 s t) = encoding T (x (ix2 s t)) (y (ix2 s t)) f := by
  have e : feats tab x y f = if f.val / 2 < 6 then dF (lvls ⟨f.val / 2, by omega⟩) tab x y (lanes ⟨f.val % 2, by omega⟩)
      else hF (lvls ⟨f.val / 2, by omega⟩) tab x y (lanes ⟨f.val % 2, by omega⟩) := by
    revert f
    simp only [Fin.forall_fin_succ]
    exact ⟨rfl, rfl, rfl, rfl, rfl, rfl, rfl, rfl, rfl, rfl, rfl, rfl, rfl, rfl, rfl, rfl, rfl, rfl, rfl, rfl, rfl, rfl, rfl, rfl,
      rfl, rfl, rfl, rfl, rfl, rfl, rfl, rfl, fun i => i.elim0⟩
  rw [e]
  split
  · rename_i hl
    exact dF_apply (dense_lvl _ hl) (hd _ hl) hl _ s t (hx _ hl) (hy _ hl)
  · rename_i hl
    exact hF_apply _ (hh _ (by show 6 ≤ f.val / 2; omega)) (offs _) (by show 6 ≤ f.val / 2; omega) _ s t

/-! ## A block's values -/

/-- The network at a sublane, its encoding and weights given. -/
theorem outAt_apply {pv : FVec Ideal S256x128 .bf16} {A4 : Vec Ideal S8x256x128 .bf16} {A5 : Vec Ideal S7x128x128 .bf16} {A6 : Vec Ideal S128x8 .bf16}
    {v : Fin 32 → EReal} {W0 : S32x128.Idx → EReal} {W : S7x128x128.Idx → EReal} {W1 : S128x3.Idx → EReal} (s : Fin 8) (t : Fin 128)
    (hv : ∀ f : Fin 32, pv (ix2 ⟨f.val * 8 + s.val, by omega⟩ t) = v f)
    (h4 : ∀ (k : Fin 256) (j : Fin 128), A4 (ix3 s k j) = (W0 (ix2 ⟨k.val / 8, by omega⟩ j) * eye s ⟨k.val % 8, by omega⟩ : EReal))
    (h5 : ∀ (r : Fin 7) (k j : Fin 128), A5 (ix3 r k j) = W (ix3 r k j))
    (h6 : ∀ (k : Fin 128) (o : Fin 3), A6 (ix2 k ⟨o.val, by omega⟩) = W1 (ix2 k o)) (o : Fin 3) :
    outAt pv A4 A5 A6 s (ix3 0 t ⟨o.val, by omega⟩) = network W0 W W1 v o := by
  have H : ∀ (r : Fin 7) (h : FVec Ideal S128x128 .bf16) (g : Fin 128 → EReal) (hg : ∀ j, h (ix2 t j) = g j) (j : Fin 128),
      hid h (hidAt A5 r) (ix2 t j) = layer W r g j := by
    intro r h g hg j
    rw [hid_apply]
    unfold layer
    congr 1
    refine Finset.sum_congr rfl fun k _ => ?_
    exact congrArg₂ (fun a b : EReal => a * b) (hg k) (h5 r k j)
  have H0 : ∀ j : Fin 128, rl (matmul (φ₂ := .bf16) dot_S256x128_S256x128_S128x128_0_0_1_1_n_n none pv
      (shapeCast S256x128 (w8At A4 s) shapeCasts_S1x256x128_S256x128) (constant S128x128 .f32 0x00000000#32)) (ix2 t j) = layer0 W0 v j := by
    intro j
    rw [first_apply]
    unfold layer0
    congr 1
    refine Eq.trans (Finset.sum_congr rfl fun k _ => congrArg (fun b : EReal => pv (ix2 k t) * b) (h4 k j)) ?_
    refine (spread_sum s (fun k => pv (ix2 k t)) fun f => W0 (ix2 f j)).trans ?_
    exact Finset.sum_congr rfl fun f _ => congrArg (fun a : EReal => a * W0 (ix2 f j)) (hv f)
  unfold outAt net
  rw [last_apply]
  unfold network Spec.hidden
  refine Finset.sum_congr rfl fun k _ => ?_
  refine congrArg₂ (fun a b : EReal => a * b) ?_ (h6 k o)
  exact H 6 _ _ (H 5 _ _ (H 4 _ _ (H 3 _ _ (H 2 _ _ (H 1 _ _ (H 0 _ _ H0)))))) k

variable (m : (ℓ : Loc nD τ sig) → Buf (Elt Ideal) ℓ)

/-- The coordinates' argument. -/
abbrev pts (c : Dev nD) : S2097152x2.Idx → EReal := m ((c : Thread nD τ).loc main_arg0)

/-- The whole program's value at a point. -/
def value (c : Dev nD) (p : Fin 2097152) (o : Fin 3) : EReal :=
  network (wIn m c) (wHid m c) (wOut m c) (encoding (tabA m c) (pts m c (ix2 p 0)) (pts m c (ix2 p 1))) o

theorem grid_lvl {a : EReal} (h : InGrid (F := Ideal) a) (l : Fin 16) (hl : l.val < 6) : InLvl (F := Ideal) a (lvls l) := by
  match l, hl with
  | 0, _ => exact h.l0
  | 1, _ => exact h.l1
  | 2, _ => exact h.l2
  | 3, _ => exact h.l3
  | 4, _ => exact h.l4
  | 5, _ => exact h.l5

theorem block_apply (h : ∀ (c : Dev nD) (j : S2097152x2.Idx), InGrid (F := Ideal) (m ((c : Thread nD τ).loc main_arg0) j)) (c : Dev nD) (t : Fin 2048)
    (s : Fin 8) (l : Fin 128) (o : Fin 3) : blockAt m c t (ix3 0 l ⟨s.val * 8 + o.val, by omega⟩) = value m c (pt t s l) o := by
  have e1 : (⟨(s.val * 8 + o.val) / 8, by omega⟩ : Fin 8) = s := Fin.ext (by show (s.val * 8 + o.val) / 8 = s.val; omega)
  have e2 : (⟨(s.val * 8 + o.val) % 8, by omega⟩ : Fin 8) = ⟨o.val, by omega⟩ := Fin.ext (by show (s.val * 8 + o.val) % 8 = o.val; omega)
  have key : outAt (enc (feats (iblk m c 2 t) (xs m c t) (ys m c t))) (iblk m c 3 t) (iblk m c 4 t) (iblk m c 5 t) s (ix3 0 l ⟨o.val, by omega⟩)
      = value m c (pt t s l) o := by
    refine outAt_apply s l (fun f => ?_) (fun k j => iblk_w8 m c t s k j) (fun r k j => iblk_wh m c t r k j) (fun k o => iblk_wo m c t k o) o
    rw [enc_apply]
    have e3 : (⟨(f.val * 8 + s.val) / 8, by omega⟩ : Fin 32) = f := Fin.ext (by show (f.val * 8 + s.val) / 8 = f.val; omega)
    have e4 : (⟨(f.val * 8 + s.val) % 8, by omega⟩ : Fin 8) = s := Fin.ext (by show (f.val * 8 + s.val) % 8 = s.val; omega)
    refine (congrArg₂ (fun a b => feats (iblk m c 2 t) (xs m c t) (ys m c t) a (ix2 b l)) e3 e4).trans ?_
    refine (feats_apply (dlvls m c t) (hlvls m c t) s l (fun l' hl => grid_lvl (xs_in m h c t _) l' hl)
      (fun l' hl => grid_lvl (ys_in m h c t _) l' hl) f).trans ?_
    rw [xs_apply, ys_apply]
  refine Eq.trans ?_ key
  show outAt _ _ _ _ ⟨(s.val * 8 + o.val) / 8, _⟩ (ix3 0 l ⟨(s.val * 8 + o.val) % 8, _⟩) = _
  rw [e1, e2]
  rfl

end Cert.KernelIdeal.Own

end
-- ==== Proof.KernelIdealOutput.lean ====
/- What the ideal program's result holds: at every point the network's value. -/
module

public import proofs.«01_k».proof.Proof.KernelIdealNet
public import Idealize.ShloMosaic.Lib.Pipeline.Covers
public import Idealize.ShloMosaic.Lib.Pipeline.ValueKit

@[expose] public section

noncomputable section

namespace Cert.KernelIdeal.Own

open Idealize.ShloMosaic Idealize.ShloMosaic.TcCoe Idealize.ShloMosaic.Pipeline Idealize.SL.Sem Cert.KernelIdeal Cert.KernelIdeal.Gen Cert.Spec Cert.Cell

variable (m : (ℓ : Loc nD τ sig) → Buf (Elt Ideal) ℓ)

/-- The array the blocks fill. -/
def filled (c : Dev nD) : S2048x128x64.Idx → EReal := fun j => blockAt m c ⟨(j 0).val, (j 0).isLt⟩ (ix3 0 ⟨(j 1).val, (j 1).isLt⟩ ⟨(j 2).val, (j 2).isLt⟩)

theorem index_6 : ∀ t : Fin cfg0.N, win0_6.index t = ![t.val, 0, 0] := by decide +kernel

theorem arr_6 (c : Dev nD) : (dats m 0 c).arrAt 6 cfg0.N = filled m c := by
  refine (dats m 0 c).arrAt_eq_of_covers 6 _ (by decide +kernel) fun t hf y => ?_
  blk_simp
  rw [after_6]
  have e0 : win0_6.index t 0 = t.val := congrFun (index_6 t) 0
  have e1 : win0_6.index t 1 = 0 := congrFun (index_6 t) 1
  have e2 : win0_6.index t 2 = 0 := congrFun (index_6 t) 2
  have h0 : ((win0_6.blk t).view.emb y 0).val = t.val := by
    blk_simp
    exact e0
  have h1 : ((win0_6.blk t).view.emb y 1).val = (y 1).val := by
    blk_simp
    rw [e1, Nat.zero_mul, Nat.zero_add]
  have h2 : ((win0_6.blk t).view.emb y 2).val = (y 2).val := by
    blk_simp
    rw [e2, Nat.zero_mul, Nat.zero_add]
  unfold filled
  have key : ∀ (a : Fin 2048) (i j : S1x128x64.Idx), a = t → i = j → blockAt m c t j = blockAt m c a i := by
    rintro a i j rfl rfl; rfl
  refine key _ _ _ (Fin.ext h0) ?_
  refine funext fun b => ?_
  match b with
  | 0 => exact Fin.ext (by show 0 = (y 0).val; have : (y 0).val < 1 := (y 0).isLt; omega)
  | 1 => exact Fin.ext h1
  | 2 => exact Fin.ext h2

/-- The result at a point. -/
theorem tail_apply (h : ∀ (c : Dev nD) (j : S2097152x2.Idx), InGrid (F := Ideal) (m ((c : Thread nD τ).loc main_arg0) j)) (c : Dev nD) :
    Pipeline.afterTail₀ cfgs (dats m) 0 (V0 m) [hostOps1] c main_v101 = fun j => value m c ⟨(j 0).val, (j 0).isLt⟩ ⟨(j 1).val, (j 1).isLt⟩ := by
  funext j
  obtain ⟨p, o, rfl⟩ : ∃ (p : Fin 2097152) (o : Fin 3), j = ix2 p o := ⟨j 0, j 1, (ix2_eta j).symm⟩
  have e : Pipeline.afterTail₀ cfgs (dats m) 0 (V0 m) [hostOps1] c main_v101 (ix2 p o)
      = filled m c (ix3 ⟨p.val / 1024, by omega⟩ ⟨p.val % 1024 / 8, by omega⟩ ⟨p.val % 8 * 8 + o.val, by omega⟩) := by
    unfold Pipeline.afterTail₀
    show StableHlo.after _ _ _ _ = _
    simp only [hostOps1, List.flatten_cons, List.flatten_nil, List.append_nil]
    after_reads_at
    rw [← arr_6]
    refine (congrFun (withArrays_arr (cfgs 0).spec launch0.win.arr_inj c (V0 m c) (fun w => (dats m 0 c).arrAt w (cfgs 0).N) 6) _).trans ?_
    refine congrArg _ ?_
    have e1 : (⟨p.val / 8 % 128, by omega⟩ : Fin 128) = ⟨p.val % 1024 / 8, by omega⟩ := Fin.ext (by show p.val / 8 % 128 = p.val % 1024 / 8; omega)
    exact congrArg (fun l => ix3 (⟨p.val / 1024, by omega⟩ : Fin 2048) l (⟨p.val % 8 * 8 + o.val, by omega⟩ : Fin 64)) e1
  rw [e]
  refine (block_apply m h c _ ⟨p.val % 8, by omega⟩ _ o).trans ?_
  refine congrArg (fun q => value m c q o) (Fin.ext ?_)
  show p.val / 1024 * 1024 + p.val % 1024 / 8 * 8 + p.val % 8 = p.val
  omega

/-- The whole program: it ends with the network's value at every point and leaves its arguments. -/
theorem value_run (ρ : Dev nD → PrngReg) (hsk : cc0_tiny_inr_fused_skel (F := Ideal) = body)
    (h : ∀ (c : Dev nD) (j : S2097152x2.Idx), InGrid (F := Ideal) (m ((c : Thread nD τ).loc main_arg0) j)) :
    θ_run defs (onTc (τ := τ) (main (F := Ideal))) ⟨m, fun _ => 0, ρ⟩ (fun r => ∀ c : Dev nD,
      r.2.mem ((c.tc : Thread nD τ).loc main_v101) = (fun j => value m c ⟨(j 0).val, (j 0).isLt⟩ ⟨(j 1).val, (j 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    ⟨((hr.1 c).2 main_v101 (Pipeline.mem_restRefs_of main_v101 (by decide) (by decide))).trans (tail_apply m h c),
     ((hr.1 c).2 main_arg0 (Pipeline.mem_restRefs_of main_arg0 (by decide) (by decide))).trans (W_arg0 m c),
     ((hr.1 c).2 main_arg1 (Pipeline.mem_restRefs_of main_arg1 (by decide) (by decide))).trans (W_arg1 m c),
     ((hr.1 c).2 main_arg2 (Pipeline.mem_restRefs_of main_arg2 (by decide) (by decide))).trans (W_arg2 m c),
     ((hr.1 c).2 main_arg3 (Pipeline.mem_restRefs_of main_arg3 (by decide) (by decide))).trans (W_arg3 m c),
     ((hr.1 c).2 main_arg4 (Pipeline.mem_restRefs_of main_arg4 (by decide) (by decide))).trans (W_arg4 m c)⟩) (run_main m ρ hsk (good m h))

end Cert.KernelIdeal.Own

end
-- ==== Proof.ReferenceLookup.lean ====
/- What the reference's lookup holds: each level's feature of each point. -/
module

public import proofs.«01_k».proof.Proof.KernelIdealNet
public import proofs.«01_k».proof.Proof.Words
public import proofs.«01_k».proof.Proof.Gen.ReferenceIdeal.Run
public import Idealize.ShloMosaic.Lib.Pointwise

@[expose] public section

noncomputable section

namespace Cert.Ref

open Idealize.ShloMosaic Cert.ReferenceIdeal Cert.ReferenceIdeal.Gen Cert.ReferenceIdeal.Value Cert.KernelIdeal.Own Cert.Spec Cert.Cell

instance : Cert.ReferenceIdeal.Facts := Cert.ReferenceIdeal.Gen.facts

variable (V0 : Valuation τ sig (Elt Ideal))

/-! The reference's constants: each level's scale, last cell, cells a row, kind and first row. -/

theorem lit0_eq : ∀ l : Fin 16, lit0 l = (lvls l).sc := by decide
theorem lit1_eq : ∀ l : Fin 16, lit1 l = (lvls l).r1 := by decide
theorem lit2_eq : ∀ l : Fin 16, l.val < 6 → lit2 l = (lvls l).r := by decide
theorem lit3_eq : ∀ l : Fin 16, lit3 l = if l.val < 6 then 1#1 else 0#1 := by decide
theorem lit4_eq : ∀ l : Fin 16, (lit4 l).toNat = l.val * 524288 := by decide

theorem row_val : ∀ l : Fin 16, (S16.rowMajor (ix1 l)).val = l.val := by decide +kernel
theorem row_eq (l : Fin 16) : S16.rowMajor (ix1 l) = l := Fin.ext (row_val l)

/-- One entry of a lookup, when its row is in the table. -/
theorem gather_apply (T : S8388608x2.Idx → EReal) (I : IVec S16x2097152x1 32) (l : Fin 16) (p : Fin 2097152) (q : Fin 2)
    (n : Fin 8388608) (h : (I (ix3 l p 0)).toInt.toNat = n.val) :
    Host.gather gather_S8388608x2_S16x2097152x1_S16x2097152x2_2_0_n_n_0_2_12 T I (ix3 l p q) = T (ix2 n q) := by
  refine congrArg T (funext fun a => ?_)
  match a with
  | 0 =>
    refine Fin.ext ?_
    have e0 : gather_S8388608x2_S16x2097152x1_S16x2097152x2_2_0_n_n_0_2_12.offCoord (ix3 l p q) 0 = 0 :=
      GatherDims.offCoord_eq_zero _ _ _ (by decide)
    have e1 : gather_S8388608x2_S16x2097152x1_S16x2097152x2_2_0_n_n_0_2_12.batchCoord (ix3 l p q) 0 = 0 :=
      GatherDims.batchCoord_eq_zero _ _ _ (by decide)
    have e2 : gather_S8388608x2_S16x2097152x1_S16x2097152x2_2_0_n_n_0_2_12.siIdx (ix3 l p q) ⟨0, by decide⟩ = ix3 l p 0 := by
      funext b
      match b with
      | 0 => rfl
      | 1 => rfl
      | 2 => rfl
    have e3 : gather_S8388608x2_S16x2097152x1_S16x2097152x2_2_0_n_n_0_2_12.start (ix3 l p q) I 0 = n.val := by
      refine (show _ = min (I (gather_S8388608x2_S16x2097152x1_S16x2097152x2_2_0_n_n_0_2_12.siIdx (ix3 l p q) ⟨0, by decide⟩)).toInt.toNat 8388607 from rfl).trans ?_
      rw [e2, h]
      omega
    show _ + _ + _ = _
    rw [e0, e1, e3]
    rfl
  | 1 =>
    refine Fin.ext ?_
    have e0 : gather_S8388608x2_S16x2097152x1_S16x2097152x2_2_0_n_n_0_2_12.offCoord (ix3 l p q) 1 = q.val := by
      unfold GatherDims.offCoord
      rw [dif_pos (by decide)]
      rfl
    have e1 : gather_S8388608x2_S16x2097152x1_S16x2097152x2_2_0_n_n_0_2_12.batchCoord (ix3 l p q) 1 = 0 :=
      GatherDims.batchCoord_eq_zero _ _ _ (by decide)
    have e3 : gather_S8388608x2_S16x2097152x1_S16x2097152x2_2_0_n_n_0_2_12.start (ix3 l p q) I 1 = 0 := by
      unfold GatherDims.start
      rw [dif_neg (by decide)]
    show _ + _ + _ = _
    rw [e0, e1, e3]
    exact Nat.zero_add _

/-- A constant's entry at a level. -/
theorem at_lit {α : Type} (f : Fin 16 → α) (l : Fin 16) : f (S16.rowMajor (ix1 l)) = f l := congrArg f (row_eq l)

theorem v13_apply (l : Fin 16) (p : Fin 2097152) :
    res_main_v13 V0 (ix2 l p) = posAt (V0 (Proc.devRef .tc main_arg0) (ix2 p 0)) (lvls l).sc := by
  rw [← lit0_eq, ← at_lit lit0 l]
  unfold res_main_v13 res_main_v0
  pointwise
  rfl
theorem v24_apply (l : Fin 16) (p : Fin 2097152) :
    res_main_v24 V0 (ix2 l p) = posAt (V0 (Proc.devRef .tc main_arg0) (ix2 p 1)) (lvls l).sc := by
  rw [← lit0_eq, ← at_lit lit0 l]
  unfold res_main_v24 res_main_v0
  pointwise
  rfl

/-- A coordinate from zero up to one. -/
structure Unit01 (a : EReal) : Prop where
  ge : 0 ≤ a
  lt : a < 1

theorem unit01 {a : EReal} (h : InGrid (F := Ideal) a) : Unit01 a := by
  constructor
  · have := h.ge
    simp [FloatOps.cmpf, FloatOps.ofBits, Ideal.cmp, zero_val] at this
    by_contra hn
    rw [decide_eq_false hn] at this
    exact absurd this (by decide)
  · have := h.lt
    simp [FloatOps.cmpf, FloatOps.ofBits, Ideal.cmp, one_val] at this
    by_contra hn
    rw [decide_eq_false hn] at this
    exact absurd this (by decide)

theorem v15_apply (l : Fin 16) (p : Fin 2097152) (h : Unit01 (V0 (Proc.devRef .tc main_arg0) (ix2 p 0))) :
    res_main_v15 V0 (ix2 l p) = cellAt (F := Ideal) (V0 (Proc.devRef .tc main_arg0) (ix2 p 0)) (lvls l).sc := by
  show Ideal.fptosi 32 (Ideal.liftRound Int.floor (res_main_v13 V0 (ix2 l p))) = _
  rw [v13_apply, floor_word (pos_real (scales l) h.ge h.lt)]
  rfl
theorem v26_apply (l : Fin 16) (p : Fin 2097152) (h : Unit01 (V0 (Proc.devRef .tc main_arg0) (ix2 p 1))) :
    res_main_v26 V0 (ix2 l p) = cellAt (F := Ideal) (V0 (Proc.devRef .tc main_arg0) (ix2 p 1)) (lvls l).sc := by
  show Ideal.fptosi 32 (Ideal.liftRound Int.floor (res_main_v24 V0 (ix2 l p))) = _
  rw [v24_apply, floor_word (pos_real (scales l) h.ge h.lt)]
  rfl
theorem v16_apply (l : Fin 16) (p : Fin 2097152) (h : Unit01 (V0 (Proc.devRef .tc main_arg0) (ix2 p 0))) :
    res_main_v16 V0 (ix2 l p) = fracAt (V0 (Proc.devRef .tc main_arg0) (ix2 p 0)) (lvls l).sc := by
  have e : ∀ z r : EReal, res_main_v13 V0 (ix2 l p) = z → (z - Ideal.liftRound Int.floor z : EReal) = r → res_main_v16 V0 (ix2 l p) = r := by
    rintro z r rfl hz
    exact hz
  refine e _ _ (v13_apply V0 l p) ?_
  rw [floor_val (pos_real (scales l) h.ge h.lt)]
  rfl
theorem v27_apply (l : Fin 16) (p : Fin 2097152) (h : Unit01 (V0 (Proc.devRef .tc main_arg0) (ix2 p 1))) :
    res_main_v27 V0 (ix2 l p) = fracAt (V0 (Proc.devRef .tc main_arg0) (ix2 p 1)) (lvls l).sc := by
  have e : ∀ z r : EReal, res_main_v24 V0 (ix2 l p) = z → (z - Ideal.liftRound Int.floor z : EReal) = r → res_main_v27 V0 (ix2 l p) = r := by
    rintro z r rfl hz
    exact hz
  refine e _ _ (v24_apply V0 l p) ?_
  rw [floor_val (pos_real (scales l) h.ge h.lt)]
  rfl

/-- The rows a corner's cells name. -/
def rowIx (X Y : IVec S16x2097152 32) : IVec S16x2097152x1 32 :=
  broadcastInDim S16x2097152x1 ![0, 1] bcast_S16x2097152_S16x2097152x1_0_1 (addi (broadcastInDim S16x2097152 ![0, 1] bcast_S16x1_S16x2097152_0_1 (res_main_v4 V0)) (select (broadcastInDim S16x2097152 ![0, 1] bcast_S16x1_S16x2097152_0_1 (res_main_v3 V0)) (addi (minsi X (broadcastInDim S16x2097152 ![0, 1] bcast_S16x1_S16x2097152_0_1 (res_main_v1 V0))) (muli (minsi Y (broadcastInDim S16x2097152 ![0, 1] bcast_S16x1_S16x2097152_0_1 (res_main_v1 V0))) (broadcastInDim S16x2097152 ![0, 1] bcast_S16x1_S16x2097152_0_1 (res_main_v2 V0)))) (andi (xori X (muli Y (broadcastInDim S16x2097152 ![] bcast_S_S16x2097152 (constantI S_ 32 2654435761#32)))) (broadcastInDim S16x2097152 ![] bcast_S_S16x2097152 (constantI S_ 32 524287#32)))))

theorem rowIx_apply (X Y : IVec S16x2097152 32) (l : Fin 16) (p : Fin 2097152) (a b : EReal) (dx dy : BitVec 32)
    (hX : X (ix2 l p) = IntOp.addi (cellAt (F := Ideal) a (lvls l).sc) dx) (hY : Y (ix2 l p) = IntOp.addi (cellAt (F := Ideal) b (lvls l).sc) dy) :
    rowIx V0 X Y (ix3 l p 0) = IntOp.addi (lit4 l) (idx l a b dx dy) := by
  unfold rowIx
  rw [← at_lit lit4]
  unfold res_main_v1 res_main_v2 res_main_v3 res_main_v4
  pointwise
  rw [hX, hY, at_lit lit1, at_lit lit2, at_lit lit3, lit3_eq, lit1_eq]
  unfold idx Scalar.select
  by_cases hl : l.val < 6
  · rw [if_pos hl, if_pos hl, lit2_eq l hl]
    rfl
  · rw [if_neg hl, if_neg hl]
    rfl

/-- The table's rows, one level after another. -/
theorem v5_apply (l : Fin 16) (e : ℕ) (he : e < 524288) (q : Fin 2) :
    res_main_v5 V0 (ix2 ⟨l.val * 524288 + e, by omega⟩ q) = ent (V0 (Proc.devRef .tc main_arg1)) l e q := by
  unfold res_main_v5 ent
  pointwise
  have e1 : (⟨(l.val * 524288 + e) / 524288, by omega⟩ : Fin 16) = l := Fin.ext (by show (l.val * 524288 + e) / 524288 = l.val; omega)
  have e2 : (⟨(l.val * 524288 + e) % 524288, by omega⟩ : Fin 524288) = ⟨e % 524288, by omega⟩ := Fin.ext (by show (l.val * 524288 + e) % 524288 = e % 524288; omega)
  rw [e1, e2]

theorem idx_lt {a b : EReal} (ha : InGrid (F := Ideal) a) (hb : InGrid (F := Ideal) b) (l : Fin 16) (dx dy : Fin 2) :
    (idx l a b (BitVec.ofNat 32 dx.val) (BitVec.ofNat 32 dy.val)).toNat < 524288 := by
  unfold idx
  split
  · rename_i hl
    have D := dense_lvl l hl
    rw [dIdx_toNat D (grid_lvl ha l hl) (grid_lvl hb l hl) dx dy]
    have h1 := D.h1
    have h2 := D.h2
    have e : ∀ x y : ℕ, min x (lvls l).r1.toNat + min y (lvls l).r1.toNat * (lvls l).r.toNat ≤ 511 + 511 * 512 := fun x y =>
      Nat.add_le_add ((Nat.min_le_right _ _).trans h1) (Nat.mul_le_mul ((Nat.min_le_right _ _).trans h1) h2)
    exact (e _ _).trans_lt (by decide)
  · unfold hIdx
    rw [Words.hash_toNat]
    exact Nat.mod_lt _ (by decide)

/-- What a lookup finds at a corner. -/
theorem corner_apply (X Y : IVec S16x2097152 32) (l : Fin 16) (p : Fin 2097152) (q : Fin 2) {a b : EReal}
    (ha : InGrid (F := Ideal) a) (hb : InGrid (F := Ideal) b) (dx dy : Fin 2)
    (hX : X (ix2 l p) = IntOp.addi (cellAt (F := Ideal) a (lvls l).sc) (BitVec.ofNat 32 dx.val))
    (hY : Y (ix2 l p) = IntOp.addi (cellAt (F := Ideal) b (lvls l).sc) (BitVec.ofNat 32 dy.val)) :
    Host.gather gather_S8388608x2_S16x2097152x1_S16x2097152x2_2_0_n_n_0_2_12 (res_main_v5 V0) (rowIx V0 X Y) (ix3 l p q)
      = ent (V0 (Proc.devRef .tc main_arg1)) l (idx l a b (BitVec.ofNat 32 dx.val) (BitVec.ofNat 32 dy.val)).toNat q := by
  have hi := idx_lt ha hb l dx dy
  refine (gather_apply _ _ l p q ⟨l.val * 524288 + (idx l a b (BitVec.ofNat 32 dx.val) (BitVec.ofNat 32 dy.val)).toNat, by omega⟩ ?_).trans
    (v5_apply V0 l _ hi q)
  rw [rowIx_apply V0 X Y l p a b _ _ hX hY]
  have e : (IntOp.addi (lit4 l) (idx l a b (BitVec.ofNat 32 dx.val) (BitVec.ofNat 32 dy.val))).toNat
      = l.val * 524288 + (idx l a b (BitVec.ofNat 32 dx.val) (BitVec.ofNat 32 dy.val)).toNat := by
    show (_ + _ : BitVec 32).toNat = _
    rw [BitVec.toNat_add, lit4_eq]
    omega
  rw [BitVec.toInt_eq_toNat_of_lt (by rw [e]; omega), e]
  rfl

variable (hV : ∀ j : S2097152x2.Idx, InGrid (F := Ideal) (V0 (Proc.devRef .tc main_arg0) j))
include hV

/-- What the reference's lookup leaves: each level's feature of each point. -/
theorem v140_apply (l : Fin 16) (p : Fin 2097152) (q : Fin 2) : res_main_v140 V0 (ix3 l p q)
    = feature (V0 (Proc.devRef .tc main_arg1)) l (V0 (Proc.devRef .tc main_arg0) (ix2 p 0)) (V0 (Proc.devRef .tc main_arg0) (ix2 p 1)) q := by
  have h0 := unit01 (hV (ix2 p 0))
  have h1 := unit01 (hV (ix2 p 1))
  have ex : ∀ d : BitVec 32, IntOp.addi (res_main_v15 V0 (ix2 l p)) d = IntOp.addi (cellAt (F := Ideal) (V0 (Proc.devRef .tc main_arg0) (ix2 p 0)) (lvls l).sc) d :=
    fun d => congrArg (fun x => IntOp.addi x d) (v15_apply V0 l p h0)
  have ey : ∀ d : BitVec 32, IntOp.addi (res_main_v26 V0 (ix2 l p)) d = IntOp.addi (cellAt (F := Ideal) (V0 (Proc.devRef .tc main_arg0) (ix2 p 1)) (lvls l).sc) d :=
    fun d => congrArg (fun x => IntOp.addi x d) (v26_apply V0 l p h1)
  have g00 := corner_apply V0 (res_main_v30 V0) (res_main_v32 V0) l p q (hV (ix2 p 0)) (hV (ix2 p 1)) 0 0 (ex 0#32) (ey 0#32)
  have g01 := corner_apply V0 (res_main_v60 V0) (res_main_v62 V0) l p q (hV (ix2 p 0)) (hV (ix2 p 1)) 0 1 (ex 0#32) (ey 1#32)
  have g10 := corner_apply V0 (res_main_v88 V0) (res_main_v90 V0) l p q (hV (ix2 p 0)) (hV (ix2 p 1)) 1 0 (ex 1#32) (ey 0#32)
  have g11 := corner_apply V0 (res_main_v116 V0) (res_main_v118 V0) l p q (hV (ix2 p 0)) (hV (ix2 p 1)) 1 1 (ex 1#32) (ey 1#32)
  unfold rowIx at g00 g01 g10 g11
  unfold res_main_v140
  pointwise
  rw [g00, g01, g10, g11, v16_apply V0 l p h0, v27_apply V0 l p h1]
  unfold feature featOf mix
  rw [zero_add]
  rfl

end Cert.Ref

end
-- ==== Proof.ReferenceNet.lean ====
/- What the reference's network computes of its encoding. -/
module

public import proofs.«01_k».proof.Proof.ReferenceLookup

@[expose] public section

noncomputable section

namespace Cert.Ref

open Idealize.ShloMosaic Idealize.ShloMosaic.TcCoe Idealize.ShloMosaic.StableHlo Idealize.SL.Sem Cert.ReferenceIdeal Cert.ReferenceIdeal.Gen Cert.ReferenceIdeal.Value Cert.KernelIdeal.Own Cert.Spec Cert.Cell

variable (V0 : Valuation τ sig (Elt Ideal))

/-- A layer's zeros. -/
abbrev zeros : S2097152x128.Idx → EReal := broadcastInDim S2097152x128 ![] bcast_S_S2097152x128 (constant (F := Ideal) S_ .f32 0x00000000#32)

theorem first_ref (A : FVec Ideal S2097152x32 .f32) (B : FVec Ideal S32x128 .f32) (p : Fin 2097152) (v : Fin 32 → EReal) (hv : ∀ f, A (ix2 p f) = v f) (j : Fin 128) :
    maximumf (Host.dotGeneral (F := Ideal) dot_S2097152x32_S32x128_S2097152x128_1_0_0_1_n_n none A B) zeros (ix2 p j) = layer0 B v j := by
  pointwise
  unfold layer0
  congr 1
  exact Finset.sum_congr rfl fun k _ => congrArg (fun a : EReal => a * B (ix2 k j)) (hv k)

/-- A hidden layer's weights. -/
theorem weights_ref (W : FVec Ideal S7x128x128 .f32) (s : Fin 7) (h) (k j : Fin 128) :
    shapeCast S128x128 (extractStridedSlice S1x128x128 ![s.val, 0, 0] W h) shapeCasts_S1x128x128_S128x128 (ix2 k j) = W (ix3 s k j) := by
  pointwise

theorem layer_ref (A : FVec Ideal S2097152x128 .f32) (W : FVec Ideal S7x128x128 .f32) (s : Fin 7) (h) (p : Fin 2097152) (g : Fin 128 → EReal) (hg : ∀ k, A (ix2 p k) = g k) (j : Fin 128) :
    maximumf (Host.dotGeneral (F := Ideal) dot_S2097152x128_S128x128_S2097152x128_1_0_0_1_n_n none A
      (shapeCast S128x128 (extractStridedSlice S1x128x128 ![s.val, 0, 0] W h) shapeCasts_S1x128x128_S128x128)) zeros (ix2 p j) = layer W s g j := by
  have hB := weights_ref W s h
  generalize shapeCast S128x128 (extractStridedSlice S1x128x128 ![s.val, 0, 0] W h) shapeCasts_S1x128x128_S128x128 = B at hB ⊢
  pointwise
  unfold layer
  congr 1
  exact Finset.sum_congr rfl fun k _ => congrArg₂ (fun a b : EReal => a * b) (hg k) (hB k j)

theorem last_ref (A : FVec Ideal S2097152x128 .f32) (B : FVec Ideal S128x3 .f32) (p : Fin 2097152) (g : Fin 128 → EReal) (hg : ∀ k, A (ix2 p k) = g k) (o : Fin 3) :
    Host.dotGeneral (F := Ideal) dot_S2097152x128_S128x3_S2097152x3_1_0_0_1_n_n none A B (ix2 p o) = (∑ k, g k * B (ix2 k o) : EReal) := by
  pointwise
  exact Finset.sum_congr rfl fun k _ => congrArg (fun a : EReal => a * B (ix2 k o)) (hg k)

variable (hV : ∀ j : S2097152x2.Idx, InGrid (F := Ideal) (V0 (Proc.devRef .tc main_arg0) j))
include hV

/-- The reference's encoding of a point. -/
theorem encoding_ref (p : Fin 2097152) (f : Fin 32) :
    shapeCast S2097152x32 (transpose S2097152x16x2 [1, 0, 2] (res_main_v140 V0) transposes_S16x2097152x2_S2097152x16x2_1_0_2) shapeCasts_S2097152x16x2_S2097152x32 (ix2 p f)
      = encoding (V0 (Proc.devRef .tc main_arg1)) (V0 (Proc.devRef .tc main_arg0) (ix2 p 0)) (V0 (Proc.devRef .tc main_arg0) (ix2 p 1)) f := by
  unfold encoding
  rw [← v140_apply V0 hV]
  generalize res_main_v140 V0 = G
  pointwise

omit hV in
/-- The whole reference: it ends with the network's value at every point and leaves its arguments. -/
theorem value_run (m : (ℓ : Loc nD τ sig) → Buf (Elt Ideal) ℓ) (ρ : Dev nD → PrngReg)
    (h : ∀ (c : Dev nD) (j : S2097152x2.Idx), InGrid (F := Ideal) (m ((c.tc : Thread nD τ).loc main_arg0) j)) :
    θ_run defs (onTc (τ := τ) (main (F := Ideal))) ⟨m, fun _ => 0, ρ⟩ (fun r => ∀ c : Dev nD,
      r.2.mem ((c.tc : Thread nD τ).loc main_v181) = (fun j => network (m ((c.tc : Thread nD τ).loc main_arg2)) (m ((c.tc : Thread nD τ).loc main_arg3))
        (m ((c.tc : Thread nD τ).loc main_arg4)) (encoding (m ((c.tc : Thread nD τ).loc main_arg1))
          (m ((c.tc : Thread nD τ).loc main_arg0) (ix2 ⟨(j 0).val, (j 0).isLt⟩ 0)) (m ((c.tc : Thread nD τ).loc main_arg0) (ix2 ⟨(j 0).val, (j 0).isLt⟩ 1)))
        ⟨(j 1).val, (j 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ⟨(hr c).1.trans (funext fun j => ?_), (hr c).2⟩) (run m ρ)
  obtain ⟨p, o, rfl⟩ : ∃ (p : Fin 2097152) (o : Fin 3), j = ix2 p o := ⟨j 0, j 1, (ix2_eta j).symm⟩
  unfold network Spec.hidden
  refine last_ref _ _ p _ (fun k => ?_) o
  refine layer_ref _ _ 6 _ p _ (fun k => ?_) k
  refine layer_ref _ _ 5 _ p _ (fun k => ?_) k
  refine layer_ref _ _ 4 _ p _ (fun k => ?_) k
  refine layer_ref _ _ 3 _ p _ (fun k => ?_) k
  refine layer_ref _ _ 2 _ p _ (fun k => ?_) k
  refine layer_ref _ _ 1 _ p _ (fun k => ?_) k
  refine layer_ref _ _ 0 _ p _ (fun k => ?_) k
  exact first_ref _ _ p _ (encoding_ref (launchContents m c) (h c) p) k

end Cert.Ref

end
-- ==== Proof.Equation.lean ====
/- The equation: from the same arguments the ideal program and the reference leave the same result. -/
module

public import proofs.«01_k».proof.Proof.Frames
public import proofs.«01_k».proof.Proof.KernelIdealOutput
public import proofs.«01_k».proof.Proof.ReferenceNet

@[expose] public section

noncomputable section

namespace Cert.Equation

open Idealize.ShloMosaic Idealize.ShloMosaic.TcCoe Idealize.SL.Sem

instance : Cert.KernelIdeal.Facts := Cert.KernelIdeal.Gen.facts
instance : Cert.ReferenceIdeal.Facts := Cert.ReferenceIdeal.Gen.facts
instance : Cert.Pre_in_grid.Facts := Cert.Pre_in_grid.Gen.facts

theorem algebraic : algebraic_KernelIdeal_ReferenceIdeal := fun m g m' g' hp ha => by
  have hk := Cert.Frames.inGrid_kernelIdeal hp
  have hi : ∀ (c : Dev Cert.ReferenceIdeal.nD) (j : Cert.ReferenceIdeal.S2097152x2.Idx), Cert.KernelIdeal.Own.InGrid (F := Ideal)
      (m' ((c.tc : Thread Cert.ReferenceIdeal.nD Cert.ReferenceIdeal.τ).loc Cert.ReferenceIdeal.main_arg0) j) := by
    intro c j
    rw [(ha c).1]
    exact hk c j
  refine ⟨fun c j => Cert.KernelIdeal.Own.value m c ⟨(j 0).val, (j 0).isLt⟩ ⟨(j 1).val, (j 1).isLt⟩,
    Cert.KernelIdeal.Own.value_run m g Cert.Frames.kernelIdeal_body hk, ?_⟩
  refine (θ_run Cert.ReferenceIdeal.defs _ _).mono (fun r hr c => ⟨(hr c).1.trans ?_, (hr c).2⟩) (Cert.Ref.value_run m' g' hi)
  obtain ⟨e0, e1, e2, e3, e4⟩ := ha c
  funext j
  rw [e0, e1, e2, e3, e4]
  rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_grid
public import proofs.«01_k».proof.Proof.Gen.ReferenceIdeal.Run
public import proofs.«01_k».proof.Proof.Frames
public import proofs.«01_k».proof.Proof.Equation

@[expose] public section

noncomputable section

theorem Cert.Proof.claim : Cert.Claim :=
  ⟨Cert.Kernel.Gen.facts, Cert.KernelIdeal.Gen.facts, Cert.ReferenceIdeal.Gen.facts, Cert.Pre_in_grid.Gen.facts,
    Cert.Frames.kernel, Cert.Frames.kernelIdeal, Cert.Frames.reference, Cert.Frames.reference_in_grid, trivial,
    Cert.Equation.algebraic⟩

end
